-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v38)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v66)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v66) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v117) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32x2048x1024 : Shape := ⟨3, ![32, 2048, 1024]⟩
abbrev S1024 : Shape := ⟨1, ![1024]⟩
abbrev S1024x2048 : Shape := ⟨2, ![1024, 2048]⟩
abbrev S512 : Shape := ⟨1, ![512]⟩
abbrev S1x1024 : Shape := ⟨2, ![1, 1024]⟩
abbrev S1x512 : Shape := ⟨2, ![1, 512]⟩
abbrev S32x2048x512 : Shape := ⟨3, ![32, 2048, 512]⟩
abbrev S1x512x1024 : Shape := ⟨3, ![1, 512, 1024]⟩
abbrev S1x512x512 : Shape := ⟨3, ![1, 512, 512]⟩
abbrev S4x128x128 : Shape := ⟨3, ![4, 128, 128]⟩
abbrev S512x1024 : Shape := ⟨2, ![512, 1024]⟩
abbrev S512x1 : Shape := ⟨2, ![512, 1]⟩
abbrev S512x2048 : Shape := ⟨2, ![512, 2048]⟩
abbrev S512x512 : Shape := ⟨2, ![512, 512]⟩
abbrev S8x64x512 : Shape := ⟨3, ![8, 64, 512]⟩
abbrev S8x1x512 : Shape := ⟨3, ![8, 1, 512]⟩
abbrev S8x512 : Shape := ⟨2, ![8, 512]⟩
abbrev S256x256 : Shape := ⟨2, ![256, 256]⟩
abbrev S256x128 : Shape := ⟨2, ![256, 128]⟩
abbrev S64x128 : Shape := ⟨2, ![64, 128]⟩
abbrev S64x512 : Shape := ⟨2, ![64, 512]⟩
abbrev S256x512 : Shape := ⟨2, ![256, 512]⟩
abbrev S128x512 : Shape := ⟨2, ![128, 512]⟩
abbrev S128x1024 : Shape := ⟨2, ![128, 1024]⟩
abbrev S1x128x128 : Shape := ⟨3, ![1, 128, 128]⟩
abbrev S128x128 : Shape := ⟨2, ![128, 128]⟩
abbrev S1x128 : Shape := ⟨2, ![1, 128]⟩
abbrev S512x128 : Shape := ⟨2, ![512, 128]⟩
abbrev S1x512x128 : Shape := ⟨3, ![1, 512, 128]⟩

abbrev nBuf : Space → Nat
  | .hbm => 10
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2048, .f32⟩
  | .hbm, ⟨3, _⟩ => ⟨S512, .f32⟩
  | .hbm, ⟨4, _⟩ => ⟨S512, .f32⟩
  | .hbm, ⟨5, _⟩ => ⟨S1x1024, .f32⟩
  | .hbm, ⟨6, _⟩ => ⟨S1024x2048, .bf16⟩
  | .hbm, ⟨7, _⟩ => ⟨S1x512, .f32⟩
  | .hbm, ⟨8, _⟩ => ⟨S1x512, .f32⟩
  | .hbm, ⟨9, _⟩ => ⟨S32x2048x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1x512, .f32⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | .local _ .vmem, ⟨8, _⟩ => ⟨S4x128x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x2048x1024 : Shape := ⟨3, ![32, 2048, 1024]⟩
abbrev S1024 : Shape := ⟨1, ![1024]⟩
abbrev S1024x2048 : Shape := ⟨2, ![1024, 2048]⟩
abbrev S512 : Shape := ⟨1, ![512]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2048 : Shape := ⟨3, ![32, 2048, 2048]⟩
abbrev S32x2048x512 : Shape := ⟨3, ![32, 2048, 512]⟩
abbrev S1x1x512 : Shape := ⟨3, ![1, 1, 512]⟩
abbrev S32x32x64x4x128 : Shape := ⟨5, ![32, 32, 64, 4, 128]⟩
abbrev S32x4x32x64x128 : Shape := ⟨5, ![32, 4, 32, 64, 128]⟩
abbrev S32x4x32x1x128 : Shape := ⟨5, ![32, 4, 32, 1, 128]⟩
abbrev S64x64 : Shape := ⟨2, ![64, 64]⟩
abbrev S32x4x32x64x64 : Shape := ⟨5, ![32, 4, 32, 64, 64]⟩
abbrev S32x4x32x128x128 : Shape := ⟨5, ![32, 4, 32, 128, 128]⟩
abbrev S32x4x32x128 : Shape := ⟨4, ![32, 4, 32, 128]⟩
abbrev S32x4x128x128 : Shape := ⟨4, ![32, 4, 128, 128]⟩
abbrev S32x32x4x128 : Shape := ⟨4, ![32, 32, 4, 128]⟩
abbrev S32x32x4x128x128 : Shape := ⟨5, ![32, 32, 4, 128, 128]⟩
abbrev S1x32x4x128 : Shape := ⟨4, ![1, 32, 4, 128]⟩
abbrev S32x4x128 : Shape := ⟨3, ![32, 4, 128]⟩
abbrev S1x32x4x128x128 : Shape := ⟨5, ![1, 32, 4, 128, 128]⟩
abbrev S32x4x128x1 : Shape := ⟨4, ![32, 4, 128, 1]⟩
abbrev S32x2048x4x128 : Shape := ⟨4, ![32, 2048, 4, 128]⟩
abbrev S4x128 : Shape := ⟨2, ![4, 128]⟩
abbrev S32x2048x4 : Shape := ⟨3, ![32, 2048, 4]⟩
abbrev S32x2048x4x1 : Shape := ⟨4, ![32, 2048, 4, 1]⟩
abbrev S1x1x4x128 : Shape := ⟨4, ![1, 1, 4, 128]⟩

abbrev nBuf : Space → Nat
  | .hbm => 178
  | .vmem => 0
  | .smem => 0
  | _ => 0

abbrev hbmTy0_0 (i : Nat) : BufTy := match i % 128 with
  | 0 => ⟨S32x2048x1024, .f32⟩
  | 1 => ⟨S1024, .f32⟩
  | 2 => ⟨S1024x2048, .f32⟩
  | 3 => ⟨S512, .f32⟩
  | 4 => ⟨S512, .f32⟩
  | 5 => ⟨S32x2048x1024, .f32⟩
  | 6 => ⟨S_, .f32⟩
  | 7 => ⟨S32x2048, .f32⟩
  | 8 => ⟨S32x2048x1, .f32⟩
  | 9 => ⟨S_, .f32⟩
  | 10 => ⟨S32x2048x1, .f32⟩
  | 11 => ⟨S32x2048x1, .f32⟩
  | 12 => ⟨S_, .f32⟩
  | 13 => ⟨S32x2048x1, .f32⟩
  | 14 => ⟨S32x2048x1, .f32⟩
  | 15 => ⟨S32x2048x1, .f32⟩
  | 16 => ⟨S32x2048x1024, .f32⟩
  | 17 => ⟨S32x2048x1024, .f32⟩
  | 18 => ⟨S1x1x1024, .f32⟩
  | 19 => ⟨S32x2048x1024, .f32⟩
  | 20 => ⟨S32x2048x1024, .f32⟩
  | 21 => ⟨S32x2048x2048, .f32⟩
  | 22 => ⟨S32x2048x512, .f32⟩
  | 23 => ⟨S32x2048x512, .f32⟩
  | 24 => ⟨S32x2048x512, .f32⟩
  | 25 => ⟨S32x2048x512, .f32⟩
  | 26 => ⟨S_, .f32⟩
  | 27 => ⟨S512, .f32⟩
  | 28 => ⟨S512, .f32⟩
  | 29 => ⟨S32x2048x512, .f32⟩
  | 30 => ⟨S32x2048x512, .f32⟩
  | 31 => ⟨S_, .f32⟩
  | 32 => ⟨S32x2048x512, .f32⟩
  | 33 => ⟨S32x2048x512, .f32⟩
  | 34 => ⟨S_, .f32⟩
  | 35 => ⟨S32x2048x512, .f32⟩
  | 36 => ⟨S32x2048x512, .f32⟩
  | 37 => ⟨S1x1x512, .f32⟩
  | 38 => ⟨S32x2048x512, .f32⟩
  | 39 => ⟨S32x2048x512, .f32⟩
  | 40 => ⟨S1x1x512, .f32⟩
  | 41 => ⟨S32x2048x512, .f32⟩
  | 42 => ⟨S32x2048x512, .f32⟩
  | 43 => ⟨S_, .f32⟩
  | 44 => ⟨S512, .f32⟩
  | 45 => ⟨S512, .f32⟩
  | 46 => ⟨S32x2048x512, .f32⟩
  | 47 => ⟨S32x2048x512, .f32⟩
  | 48 => ⟨S32x2048x512, .f32⟩
  | 49 => ⟨S_, .f32⟩
  | 50 => ⟨S32x2048x512, .f32⟩
  | 51 => ⟨S32x2048x512, .f32⟩
  | 52 => ⟨S_, .f32⟩
  | 53 => ⟨S32x2048x512, .f32⟩
  | 54 => ⟨S32x2048x512, .f32⟩
  | 55 => ⟨S1x1x512, .f32⟩
  | 56 => ⟨S32x2048x512, .f32⟩
  | 57 => ⟨S32x2048x512, .f32⟩
  | 58 => ⟨S32x2048x512, .f32⟩
  | 59 => ⟨S32x32x64x4x128, .f32⟩
  | 60 => ⟨S32x4x32x64x128, .f32⟩
  | 61 => ⟨S32x32x64x4x128, .f32⟩
  | 62 => ⟨S32x4x32x64x128, .f32⟩
  | 63 => ⟨S32x32x64x4x128, .f32⟩
  | 64 => ⟨S32x4x32x64x128, .f32⟩
  | 65 => ⟨S32x32x64x4x128, .f32⟩
  | 66 => ⟨S32x4x32x64x128, .f32⟩
  | 67 => ⟨S_, .f32⟩
  | 68 => ⟨S_, .f32⟩
  | 69 => ⟨S32x4x32x64x128, .f32⟩
  | 70 => ⟨S32x4x32x1x128, .f32⟩
  | 71 => ⟨S32x4x32x1x128, .f32⟩
  | 72 => ⟨S_, .i1⟩
  | 73 => ⟨S64x64, .i1⟩
  | 74 => ⟨S64x64, .i32⟩
  | 75 => ⟨S_, .i32⟩
  | 76 => ⟨S64x64, .i32⟩
  | 77 => ⟨S64x64, .i32⟩
  | 78 => ⟨S64x64, .i32⟩
  | 79 => ⟨S64x64, .i1⟩
  | 80 => ⟨S_, .i1⟩
  | 81 => ⟨S64x64, .i1⟩
  | 82 => ⟨S64x64, .i1⟩
  | 83 => ⟨S32x4x32x64x128, .f32⟩
  | 84 => ⟨S32x4x32x64x128, .f32⟩
  | 85 => ⟨S32x4x32x64x128, .f32⟩
  | 86 => ⟨S32x4x32x64x128, .f32⟩
  | 87 => ⟨S32x4x32x64x128, .f32⟩
  | 88 => ⟨S32x4x32x64x128, .f32⟩
  | 89 => ⟨S32x4x32x64x128, .f32⟩
  | 90 => ⟨S32x4x32x64x128, .f32⟩
  | 91 => ⟨S32x4x32x64x64, .f32⟩
  | 92 => ⟨S_, .f32⟩
  | 93 => ⟨S_, .f32⟩
  | 94 => ⟨S32x4x32x64x64, .i1⟩
  | 95 => ⟨S32x4x32x64x64, .f32⟩
  | 96 => ⟨S32x4x32x64x64, .f32⟩
  | 97 => ⟨S32x4x32x64x128, .f32⟩
  | 98 => ⟨S32x4x32x64x128, .f32⟩
  | 99 => ⟨S32x4x32x64x128, .f32⟩
  | 100 => ⟨S32x4x32x64x128, .f32⟩
  | 101 => ⟨S32x4x32x64x128, .f32⟩
  | 102 => ⟨S32x4x32x128x128, .f32⟩
  | 103 => ⟨S32x4x32x128, .f32⟩
  | 104 => ⟨S32x4x32x128, .f32⟩
  | 105 => ⟨S_, .f32⟩
  | 106 => ⟨S32x4x128x128, .f32⟩
  | 107 => ⟨S32x32x4x128, .f32⟩
  | 108 => ⟨S32x32x4x128x128, .f32⟩
  | 109 => ⟨S_, .f32⟩
  | 110 => ⟨S32x32x4x128x128, .f32⟩
  | 111 => ⟨S_, .i32⟩
  | 112 => ⟨S32x32x4x128, .f32⟩
  | 113 => ⟨S32x32x4x128x128, .f32⟩
  | 114 => ⟨S_, .i32⟩
  | 115 => ⟨S32x4x128x128, .f32⟩
  | 116 => ⟨S32x32x4x128x128, .f32⟩
  | 117 => ⟨S_, .i32⟩
  | 118 => ⟨S_, .i1⟩
  | 119 => ⟨S_, .i32⟩
  | 120 => ⟨S_, .i32⟩
  | 121 => ⟨S_, .i32⟩
  | 122 => ⟨S1x32x4x128, .f32⟩
  | 123 => ⟨S32x4x128, .f32⟩
  | 124 => ⟨S_, .i32⟩
  | 125 => ⟨S_, .i32⟩
  | 126 => ⟨S_, .i32⟩
  | 127 => ⟨S_, .i32⟩
  | _ => ⟨S32x2048x1024, .f32⟩

abbrev hbmTy0_1 (i : Nat) : BufTy := match i % 128 with
  | 0 => ⟨S1x32x4x128x128, .f32⟩
  | 1 => ⟨S32x4x128x128, .f32⟩
  | 2 => ⟨S32x4x128x1, .f32⟩
  | 3 => ⟨S32x4x128x128, .f32⟩
  | 4 => ⟨S32x4x128x128, .f32⟩
  | 5 => ⟨S32x4x128x128, .f32⟩
  | 6 => ⟨S1x32x4x128x128, .f32⟩
  | 7 => ⟨S_, .i32⟩
  | 8 => ⟨S_, .i32⟩
  | 9 => ⟨S_, .i32⟩
  | 10 => ⟨S_, .i32⟩
  | 11 => ⟨S32x32x4x128x128, .f32⟩
  | 12 => ⟨S_, .i32⟩
  | 13 => ⟨S_, .i32⟩
  | 14 => ⟨S32x4x32x128x128, .f32⟩
  | 15 => ⟨S32x4x32x64x128, .f32⟩
  | 16 => ⟨S32x4x32x64x128, .f32⟩
  | 17 => ⟨S32x4x32x64x128, .f32⟩
  | 18 => ⟨S32x4x32x64x128, .f32⟩
  | 19 => ⟨S32x32x64x4x128, .f32⟩
  | 20 => ⟨S32x2048x4x128, .f32⟩
  | 21 => ⟨S4x128, .f32⟩
  | 22 => ⟨S32x2048x4x128, .f32⟩
  | 23 => ⟨S_, .f32⟩
  | 24 => ⟨S32x2048x4, .f32⟩
  | 25 => ⟨S32x2048x4x1, .f32⟩
  | 26 => ⟨S_, .f32⟩
  | 27 => ⟨S32x2048x4x1, .f32⟩
  | 28 => ⟨S32x2048x4x1, .f32⟩
  | 29 => ⟨S_, .f32⟩
  | 30 => ⟨S32x2048x4x1, .f32⟩
  | 31 => ⟨S32x2048x4x1, .f32⟩
  | 32 => ⟨S32x2048x4x1, .f32⟩
  | 33 => ⟨S32x2048x4x128, .f32⟩
  | 34 => ⟨S32x2048x4x128, .f32⟩
  | 35 => ⟨S1x1x4x128, .f32⟩
  | 36 => ⟨S32x2048x4x128, .f32⟩
  | 37 => ⟨S32x2048x4x128, .f32⟩
  | 38 => ⟨S32x2048x512, .f32⟩
  | 39 => ⟨S32x2048x512, .f32⟩
  | 40 => ⟨S32x2048x512, .f32⟩
  | 41 => ⟨S_, .f32⟩
  | 42 => ⟨S32x2048x512, .f32⟩
  | 43 => ⟨S32x2048x512, .f32⟩
  | 44 => ⟨S_, .f32⟩
  | 45 => ⟨S32x2048x512, .f32⟩
  | 46 => ⟨S32x2048x512, .f32⟩
  | 47 => ⟨S32x2048x512, .f32⟩
  | 48 => ⟨S32x2048x512, .f32⟩
  | 49 => ⟨S32x2048x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_call0_call0_cst : Ref sig .tc := ⟨.hbm, 67, rfl⟩
abbrev main_call0_call0_v0 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c : Ref sig .tc := ⟨.hbm, 72, rfl⟩
abbrev main_v56 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_c_0 : Ref sig .tc := ⟨.hbm, 80, rfl⟩
abbrev main_call1_v5 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_8 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_9 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_10 : Ref sig .tc := ⟨.hbm, 109, rfl⟩
abbrev main_v79 : Ref sig .tc := ⟨.hbm, 110, rfl⟩
abbrev main_c_11 : Ref sig .tc := ⟨.hbm, 111, rfl⟩
abbrev main_v80_0 : Ref sig .tc := ⟨.hbm, 112, rfl⟩
abbrev main_v80_1 : Ref sig .tc := ⟨.hbm, 113, rfl⟩
abbrev main_v80_2 : Ref sig .tc := ⟨.hbm, 114, rfl⟩
abbrev main_v80_3 : Ref sig .tc := ⟨.hbm, 115, rfl⟩
abbrev main_v80_4 : Ref sig .tc := ⟨.hbm, 116, rfl⟩
abbrev main_while0c_c_19 : Ref sig .tc := ⟨.hbm, 117, rfl⟩
abbrev main_while0c_v106 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_c_1 : Ref sig .tc := ⟨.hbm, 121, rfl⟩
abbrev main_while0b_call3_v0 : Ref sig .tc := ⟨.hbm, 122, rfl⟩
abbrev main_while0b_v106 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_call4_v0 : Ref sig .tc := ⟨.hbm, 128, rfl⟩
abbrev main_while0b_v107 : Ref sig .tc := ⟨.hbm, 129, rfl⟩
abbrev main_while0b_v108 : Ref sig .tc := ⟨.hbm, 130, rfl⟩
abbrev main_while0b_v109 : Ref sig .tc := ⟨.hbm, 131, rfl⟩
abbrev main_while0b_v110 : Ref sig .tc := ⟨.hbm, 132, rfl⟩
abbrev main_while0b_v111 : Ref sig .tc := ⟨.hbm, 133, rfl⟩
abbrev main_while0b_call5_v0 : Ref sig .tc := ⟨.hbm, 134, rfl⟩
abbrev main_while0b_call5_c : Ref sig .tc := ⟨.hbm, 135, rfl⟩
abbrev main_while0b_call5_c_0 : Ref sig .tc := ⟨.hbm, 136, rfl⟩
abbrev main_while0b_call5_c_1 : Ref sig .tc := ⟨.hbm, 137, rfl⟩
abbrev main_while0b_call5_c_2 : Ref sig .tc := ⟨.hbm, 138, rfl⟩
abbrev main_while0b_v112 : Ref sig .tc := ⟨.hbm, 139, rfl⟩
abbrev main_while0b_c_19 : Ref sig .tc := ⟨.hbm, 140, rfl⟩
abbrev main_while0b_v113 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_cst_12 : Ref sig .tc := ⟨.hbm, 151, rfl⟩
abbrev main_v90 : Ref sig .tc := ⟨.hbm, 152, rfl⟩
abbrev main_v91 : Ref sig .tc := ⟨.hbm, 153, rfl⟩
abbrev main_cst_13 : Ref sig .tc := ⟨.hbm, 154, rfl⟩
abbrev main_v92 : Ref sig .tc := ⟨.hbm, 155, rfl⟩
abbrev main_v93 : Ref sig .tc := ⟨.hbm, 156, rfl⟩
abbrev main_cst_14 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_call6_v0 : Ref sig .tc := ⟨.hbm, 167, rfl⟩
abbrev main_call6_v1 : Ref sig .tc := ⟨.hbm, 168, rfl⟩
abbrev main_call6_cst : Ref sig .tc := ⟨.hbm, 169, rfl⟩
abbrev main_call6_v2 : Ref sig .tc := ⟨.hbm, 170, rfl⟩
abbrev main_call6_v3 : Ref sig .tc := ⟨.hbm, 171, rfl⟩
abbrev main_call6_cst_0 : Ref sig .tc := ⟨.hbm, 172, rfl⟩
abbrev main_call6_v4 : Ref sig .tc := ⟨.hbm, 173, rfl⟩
abbrev main_call6_v5 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S32x2048x1024 : Shape := ⟨3, ![32, 2048, 1024]⟩
abbrev S32x2048x512 : Shape := ⟨3, ![32, 2048, 512]⟩
abbrev S1024 : Shape := ⟨1, ![1024]⟩
abbrev S1024x4096 : Shape := ⟨2, ![1024, 4096]⟩
abbrev S4x1024 : Shape := ⟨2, ![4, 1024]⟩
abbrev S4x512x1024 : Shape := ⟨3, ![4, 512, 1024]⟩
abbrev S1024x1024 : Shape := ⟨2, ![1024, 1024]⟩
abbrev S8 : Shape := ⟨1, ![8]⟩
abbrev S1x1024 : Shape := ⟨2, ![1, 1024]⟩
abbrev S32x2048x8x64 : Shape := ⟨4, ![32, 2048, 8, 64]⟩
abbrev S_ : Shape := ⟨0, ![]⟩
abbrev S8x1 : Shape := ⟨2, ![8, 1]⟩
abbrev S1x512x1024 : Shape := ⟨3, ![1, 512, 1024]⟩
abbrev S512x1024 : Shape := ⟨2, ![512, 1024]⟩
abbrev S1024x512 : Shape := ⟨2, ![1024, 512]⟩
abbrev S1024x8x64 : Shape := ⟨3, ![1024, 8, 64]⟩
abbrev S1x4096 : Shape := ⟨2, ![1, 4096]⟩
abbrev S1x512x512 : Shape := ⟨3, ![1, 512, 512]⟩
abbrev S512 : Shape := ⟨1, ![512]⟩
abbrev S512x1 : Shape := ⟨2, ![512, 1]⟩
abbrev S512x512 : Shape := ⟨2, ![512, 512]⟩

abbrev nBuf : Space → Nat
  | .hbm => 55
  | .vmem => 17
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x2048x512, .bf16⟩
  | .hbm, ⟨4, _⟩ => ⟨S32x2048x512, .bf16⟩
  | .hbm, ⟨5, _⟩ => ⟨S1024, .f32⟩
  | .hbm, ⟨6, _⟩ => ⟨S1024x4096, .f32⟩
  | .hbm, ⟨7, _⟩ => ⟨S4x1024, .f32⟩
  | .hbm, ⟨8, _⟩ => ⟨S4x512x1024, .f32⟩
  | .hbm, ⟨9, _⟩ => ⟨S1024x1024, .f32⟩
  | .hbm, ⟨10, _⟩ => ⟨S8, .i32⟩
  | .hbm, ⟨11, _⟩ => ⟨S8, .i32⟩
  | .hbm, ⟨12, _⟩ => ⟨S1x1024, .f32⟩
  | .hbm, ⟨13, _⟩ => ⟨S32x2048x8x64, .bf16⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S8, .i32⟩
  | .hbm, ⟨21, _⟩ => ⟨S8x1, .i32⟩
  | .hbm, ⟨22, _⟩ => ⟨S32x2048x8x64, .bf16⟩
  | .hbm, ⟨23, _⟩ => ⟨S32x2048x512, .bf16⟩
  | .hbm, ⟨24, _⟩ => ⟨S1x512x1024, .f32⟩
  | .hbm, ⟨25, _⟩ => ⟨S512x1024, .f32⟩
  | .hbm, ⟨26, _⟩ => ⟨S1x512x1024, .f32⟩
  | .hbm, ⟨27, _⟩ => ⟨S512x1024, .f32⟩
  | .hbm, ⟨28, _⟩ => ⟨S1024x512, .f32⟩
  | .hbm, ⟨29, _⟩ => ⟨S1024x8x64, .f32⟩
  | .hbm, ⟨30, _⟩ => ⟨S_, .i32⟩
  | .hbm, ⟨31, _⟩ => ⟨S8, .i32⟩
  | .hbm, ⟨32, _⟩ => ⟨S8, .i1⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S8, .i32⟩
  | .hbm, ⟨37, _⟩ => ⟨S8x1, .i32⟩
  | .hbm, ⟨38, _⟩ => ⟨S1024x8x64, .f32⟩
  | .hbm, ⟨39, _⟩ => ⟨S1024x512, .f32⟩
  | .hbm, ⟨40, _⟩ => ⟨S512x1024, .f32⟩
  | .hbm, ⟨41, _⟩ => ⟨S1x512x1024, .f32⟩
  | .hbm, ⟨42, _⟩ => ⟨S512x1024, .f32⟩
  | .hbm, ⟨43, _⟩ => ⟨S1x512x1024, .f32⟩
  | .hbm, ⟨44, _⟩ => ⟨S512x1024, .f32⟩
  | .hbm, ⟨45, _⟩ => ⟨S1x512x1024, .f32⟩
  | .hbm, ⟨46, _⟩ => ⟨S1x512x1024, .f32⟩
  | .hbm, ⟨47, _⟩ => ⟨S1x512x1024, .f32⟩
  | .hbm, ⟨48, _⟩ => ⟨S1x512x1024, .f32⟩
  | .hbm, ⟨49, _⟩ => ⟨S4x512x1024, .f32⟩
  | .hbm, ⟨50, _⟩ => ⟨S4x512x1024, .bf16⟩
  | .hbm, ⟨51, _⟩ => ⟨S1024x4096, .bf16⟩
  | .hbm, ⟨52, _⟩ => ⟨S1x4096, .f32⟩
  | .hbm, ⟨53, _⟩ => ⟨S1024x1024, .bf16⟩
  | .hbm, ⟨54, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x1024, .f32⟩
  | .local _ .vmem, ⟨11, _⟩ => ⟨S1024x4096, .bf16⟩
  | .local _ .vmem, ⟨12, _⟩ => ⟨S1x4096, .f32⟩
  | .local _ .vmem, ⟨13, _⟩ => ⟨S4x512x1024, .bf16⟩
  | .local _ .vmem, ⟨14, _⟩ => ⟨S1024x1024, .bf16⟩
  | .local _ .vmem, ⟨15, _⟩ => ⟨S1x512x1024, .f32⟩
  | .local _ .vmem, ⟨16, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S32x2048x1024 : Shape := ⟨3, ![32, 2048, 1024]⟩
abbrev S32x2048x512 : Shape := ⟨3, ![32, 2048, 512]⟩
abbrev S1024 : Shape := ⟨1, ![1024]⟩
abbrev S1024x4096 : Shape := ⟨2, ![1024, 4096]⟩
abbrev S4x1024 : Shape := ⟨2, ![4, 1024]⟩
abbrev S4x512x1024 : Shape := ⟨3, ![4, 512, 1024]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩
abbrev S1x1024 : Shape := ⟨2, ![1, 1024]⟩
abbrev S1x512x1024 : Shape := ⟨3, ![1, 512, 1024]⟩
abbrev S512x1024 : Shape := ⟨2, ![512, 1024]⟩

abbrev nBuf : Space → Nat
  | .hbm => 111
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x2048x512, .bf16⟩
  | .hbm, ⟨4, _⟩ => ⟨S32x2048x512, .bf16⟩
  | .hbm, ⟨5, _⟩ => ⟨S1024, .f32⟩
  | .hbm, ⟨6, _⟩ => ⟨S1024x4096, .f32⟩
  | .hbm, ⟨7, _⟩ => ⟨S4x1024, .f32⟩
  | .hbm, ⟨8, _⟩ => ⟨S4x512x1024, .f32⟩
  | .hbm, ⟨9, _⟩ => ⟨S1024x1024, .f32⟩
  | .hbm, ⟨10, _⟩ => ⟨S32x2048x1024, .f32⟩
  | .hbm, ⟨11, _⟩ => ⟨S_, .f32⟩
  | .hbm, ⟨12, _⟩ => ⟨S32x2048, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S32x2048x1, .f32⟩
  | .hbm, ⟨21, _⟩ => ⟨S32x2048x1024, .f32⟩
  | .hbm, ⟨22, _⟩ => ⟨S32x2048x1024, .f32⟩
  | .hbm, ⟨23, _⟩ => ⟨S1x1x1024, .f32⟩
  | .hbm, ⟨24, _⟩ => ⟨S32x2048x1024, .f32⟩
  | .hbm, ⟨25, _⟩ => ⟨S32x2048x1024, .f32⟩
  | .hbm, ⟨26, _⟩ => ⟨S32x2048x4096, .f32⟩
  | .hbm, ⟨27, _⟩ => ⟨S32x2048x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S_, .f32⟩
  | .hbm, ⟨36, _⟩ => ⟨S32x2048x1024, .f32⟩
  | .hbm, ⟨37, _⟩ => ⟨S32x2048x1024, .f32⟩
  | .hbm, ⟨38, _⟩ => ⟨S_, .f32⟩
  | .hbm, ⟨39, _⟩ => ⟨S32x2048x1024, .f32⟩
  | .hbm, ⟨40, _⟩ => ⟨S32x2048x1024, .f32⟩
  | .hbm, ⟨41, _⟩ => ⟨S32x2048x512, .f32⟩
  | .hbm, ⟨42, _⟩ => ⟨S1x512x1024, .f32⟩
  | .hbm, ⟨43, _⟩ => ⟨S512x1024, .f32⟩
  | .hbm, ⟨44, _⟩ => ⟨S32x2048x1024, .f32⟩
  | .hbm, ⟨45, _⟩ => ⟨S32x2048x1024, .f32⟩
  | .hbm, ⟨46, _⟩ => ⟨S_, .f32⟩
  | .hbm, ⟨47, _⟩ => ⟨S32x2048x1024, .f32⟩
  | .hbm, ⟨48, _⟩ => ⟨S32x2048x1024, .f32⟩
  | .hbm, ⟨49, _⟩ => ⟨S32x2048x1024, .f32⟩
  | .hbm, ⟨50, _⟩ => ⟨S1x1024, .f32⟩
  | .hbm, ⟨51, _⟩ => ⟨S1024, .f32⟩
  | .hbm, ⟨52, _⟩ => ⟨S1x1x1024, .f32⟩
  | .hbm, ⟨53, _⟩ => ⟨S32x2048x1024, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | .hbm, ⟨57, _⟩ => ⟨S_, .f32⟩
  | .hbm, ⟨58, _⟩ => ⟨S32x2048x1024, .f32⟩
  | .hbm, ⟨59, _⟩ => ⟨S32x2048x1024, .f32⟩
  | .hbm, ⟨60, _⟩ => ⟨S_, .f32⟩
  | .hbm, ⟨61, _⟩ => ⟨S32x2048x1024, .f32⟩
  | .hbm, ⟨62, _⟩ => ⟨S32x2048x1024, .f32⟩
  | .hbm, ⟨63, _⟩ => ⟨S32x2048x512, .f32⟩
  | .hbm, ⟨64, _⟩ => ⟨S1x512x1024, .f32⟩
  | .hbm, ⟨65, _⟩ => ⟨S512x1024, .f32⟩
  | .hbm, ⟨66, _⟩ => ⟨S32x2048x1024, .f32⟩
  | .hbm, ⟨67, _⟩ => ⟨S32x2048x1024, .f32⟩
  | .hbm, ⟨68, _⟩ => ⟨S32x2048x1024, .f32⟩
  | .hbm, ⟨69, _⟩ => ⟨S32x2048x1024, .f32⟩
  | .hbm, ⟨70, _⟩ => ⟨S1x1024, .f32⟩
  | .hbm, ⟨71, _⟩ => ⟨S1024, .f32⟩
  | .hbm, ⟨72, _⟩ => ⟨S1x1x1024, .f32⟩
  | .hbm, ⟨73, _⟩ => ⟨S32x2048x1024, .f32⟩
  | .hbm, ⟨74, _⟩ => ⟨S32x2048x1024, .f32⟩
  | .hbm, ⟨75, _⟩ => ⟨S32x2048x1024, .f32⟩
  | .hbm, ⟨76, _⟩ => ⟨S32x2048x1024, .f32⟩
  | .hbm, ⟨77, _⟩ => ⟨S_, .f32⟩
  | .hbm, ⟨78, _⟩ => ⟨S32x2048x1024, .f32⟩
  | .hbm, ⟨79, _⟩ => ⟨S32x2048x1024, .f32⟩
  | .hbm, ⟨80, _⟩ => ⟨S_, .f32⟩
  | .hbm, ⟨81, _⟩ => ⟨S32x2048x1024, .f32⟩
  | .hbm, ⟨82, _⟩ => ⟨S32x2048x1024, .f32⟩
  | .hbm, ⟨83, _⟩ => ⟨S32x2048x512, .f32⟩
  | .hbm, ⟨84, _⟩ => ⟨S1x512x1024, .f32⟩
  | .hbm, ⟨85, _⟩ => ⟨S512x1024, .f32⟩
  | .hbm, ⟨86, _⟩ => ⟨S32x2048x1024, .f32⟩
  | .hbm, ⟨87, _⟩ => ⟨S32x2048x1024, .f32⟩
  | .hbm, ⟨88, _⟩ => ⟨S32x2048x1024, .f32⟩
  | .hbm, ⟨89, _⟩ => ⟨S32x2048x1024, .f32⟩
  | .hbm, ⟨90, _⟩ => ⟨S1x1024, .f32⟩
  | .hbm, ⟨91, _⟩ => ⟨S1024, .f32⟩
  | .hbm, ⟨92, _⟩ => ⟨S1x1x1024, .f32⟩
  | .hbm, ⟨93, _⟩ => ⟨S32x2048x1024, .f32⟩
  | .hbm, ⟨94, _⟩ => ⟨S32x2048x1024, .f32⟩
  | .hbm, ⟨95, _⟩ => ⟨S32x2048x1024, .f32⟩
  | .hbm, ⟨96, _⟩ => ⟨S32x2048x1024, .f32⟩
  | .hbm, ⟨97, _⟩ => ⟨S_, .f32⟩
  | .hbm, ⟨98, _⟩ => ⟨S32x2048x1024, .f32⟩
  | .hbm, ⟨99, _⟩ => ⟨S32x2048x1024, .f32⟩
  | .hbm, ⟨100, _⟩ => ⟨S_, .f32⟩
  | .hbm, ⟨101, _⟩ => ⟨S32x2048x1024, .f32⟩
  | .hbm, ⟨102, _⟩ => ⟨S32x2048x1024, .f32⟩
  | .hbm, ⟨103, _⟩ => ⟨S32x2048x512, .f32⟩
  | .hbm, ⟨104, _⟩ => ⟨S1x512x1024, .f32⟩
  | .hbm, ⟨105, _⟩ => ⟨S512x1024, .f32⟩
  | .hbm, ⟨106, _⟩ => ⟨S32x2048x1024, .f32⟩
  | .hbm, ⟨107, _⟩ => ⟨S32x2048x1024, .f32⟩
  | .hbm, ⟨108, _⟩ => ⟨S32x2048x1024, .f32⟩
  | .hbm, ⟨109, _⟩ => ⟨S32x2048x1024, .f32⟩
  | .hbm, ⟨110, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_9 : Ref sig .tc := ⟨.hbm, 97, rfl⟩
abbrev main_v77 : Ref sig .tc := ⟨.hbm, 98, rfl⟩
abbrev main_v78 : Ref sig .tc := ⟨.hbm, 99, rfl⟩
abbrev main_cst_10 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024 : Shape := ⟨1, ![1024]⟩
abbrev S1024x1536 : Shape := ⟨2, ![1024, 1536]⟩
abbrev S512 : Shape := ⟨1, ![512]⟩
abbrev S1x1024 : Shape := ⟨2, ![1, 1024]⟩
abbrev S4 : Shape := ⟨1, ![4]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S4x1x1 : Shape := ⟨3, ![4, 1, 1]⟩
abbrev S1x512x512 : Shape := ⟨3, ![1, 512, 512]⟩
abbrev S4x512x512 : Shape := ⟨3, ![4, 512, 512]⟩
abbrev S4x256x256 : Shape := ⟨3, ![4, 256, 256]⟩
abbrev S1x4 : Shape := ⟨2, ![1, 4]⟩
abbrev S512x4 : Shape := ⟨2, ![512, 4]⟩
abbrev S512x4x64 : Shape := ⟨3, ![512, 4, 64]⟩
abbrev S512x256 : Shape := ⟨2, ![512, 256]⟩
abbrev S512x4x128 : Shape := ⟨3, ![512, 4, 128]⟩
abbrev S1x4x128 : Shape := ⟨3, ![1, 4, 128]⟩
abbrev S32x2048x512 : Shape := ⟨3, ![32, 2048, 512]⟩
abbrev S1x512x1024 : Shape := ⟨3, ![1, 512, 1024]⟩
abbrev S4x128x128 : Shape := ⟨3, ![4, 128, 128]⟩
abbrev S512x1024 : Shape := ⟨2, ![512, 1024]⟩
abbrev S512x1536 : Shape := ⟨2, ![512, 1536]⟩
abbrev S512x128 : Shape := ⟨2, ![512, 128]⟩
abbrev S256x128 : Shape := ⟨2, ![256, 128]⟩
abbrev S256x256 : Shape := ⟨2, ![256, 256]⟩
abbrev S1x256x256 : Shape := ⟨3, ![1, 256, 256]⟩
abbrev S64x128 : Shape := ⟨2, ![64, 128]⟩
abbrev S64x512 : Shape := ⟨2, ![64, 512]⟩
abbrev S256x512 : Shape := ⟨2, ![256, 512]⟩
abbrev S128x512 : Shape := ⟨2, ![128, 512]⟩
abbrev S128x1024 : Shape := ⟨2, ![128, 1024]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩

abbrev nBuf : Space → Nat
  | .hbm => 137
  | .vmem => 12
  | .smem => 0
  | _ => 0

abbrev hbmTy0_0 (i : Nat) : BufTy := match i % 128 with
  | 0 => ⟨S32x2048x1024, .f32⟩
  | 1 => ⟨S1024, .f32⟩
  | 2 => ⟨S1024x1536, .f32⟩
  | 3 => ⟨S512, .f32⟩
  | 4 => ⟨S1x1024, .f32⟩
  | 5 => ⟨S512, .f32⟩
  | 6 => ⟨S512, .i32⟩
  | 7 => ⟨S4, .f32⟩
  | 8 => ⟨S_, .f32⟩
  | 9 => ⟨S4, .f32⟩
  | 10 => ⟨S4, .f32⟩
  | 11 => ⟨S_, .f32⟩
  | 12 => ⟨S4, .f32⟩
  | 13 => ⟨S4, .f32⟩
  | 14 => ⟨S4, .f32⟩
  | 15 => ⟨S4, .f32⟩
  | 16 => ⟨S4, .f32⟩
  | 17 => ⟨S512x1, .f32⟩
  | 18 => ⟨S1x512, .f32⟩
  | 19 => ⟨S512x512, .f32⟩
  | 20 => ⟨S512x512, .f32⟩
  | 21 => ⟨S512x512, .f32⟩
  | 22 => ⟨S512x1, .i32⟩
  | 23 => ⟨S_, .i32⟩
  | 24 => ⟨S_, .i32⟩
  | 25 => ⟨S512x1, .i32⟩
  | 26 => ⟨S512x1, .i32⟩
  | 27 => ⟨S512x1, .i32⟩
  | 28 => ⟨S_, .i32⟩
  | 29 => ⟨S512x1, .i32⟩
  | 30 => ⟨S512x1, .i1⟩
  | 31 => ⟨S512x1, .i32⟩
  | 32 => ⟨S512x1, .i32⟩
  | 33 => ⟨S_, .i32⟩
  | 34 => ⟨S512x1, .i32⟩
  | 35 => ⟨S512x1, .i1⟩
  | 36 => ⟨S512x1, .i1⟩
  | 37 => ⟨S_, .i32⟩
  | 38 => ⟨S512x1, .i32⟩
  | 39 => ⟨S512x1, .i32⟩
  | 40 => ⟨S512x1, .i32⟩
  | 41 => ⟨S1x512, .i32⟩
  | 42 => ⟨S_, .i32⟩
  | 43 => ⟨S_, .i32⟩
  | 44 => ⟨S1x512, .i32⟩
  | 45 => ⟨S1x512, .i32⟩
  | 46 => ⟨S1x512, .i32⟩
  | 47 => ⟨S_, .i32⟩
  | 48 => ⟨S1x512, .i32⟩
  | 49 => ⟨S1x512, .i1⟩
  | 50 => ⟨S1x512, .i32⟩
  | 51 => ⟨S1x512, .i32⟩
  | 52 => ⟨S_, .i32⟩
  | 53 => ⟨S1x512, .i32⟩
  | 54 => ⟨S1x512, .i1⟩
  | 55 => ⟨S1x512, .i1⟩
  | 56 => ⟨S_, .i32⟩
  | 57 => ⟨S1x512, .i32⟩
  | 58 => ⟨S1x512, .i32⟩
  | 59 => ⟨S1x512, .i32⟩
  | 60 => ⟨S512x512, .i32⟩
  | 61 => ⟨S512x512, .i32⟩
  | 62 => ⟨S512x512, .i1⟩
  | 63 => ⟨S_, .f32⟩
  | 64 => ⟨S512x512, .f32⟩
  | 65 => ⟨S512x512, .i1⟩
  | 66 => ⟨S512x512, .i1⟩
  | 67 => ⟨S4x1x1, .f32⟩
  | 68 => ⟨S_, .f32⟩
  | 69 => ⟨S512x512, .f32⟩
  | 70 => ⟨S512x512, .f32⟩
  | 71 => ⟨S1x512x512, .f32⟩
  | 72 => ⟨S4x512x512, .f32⟩
  | 73 => ⟨S4x512x512, .f32⟩
  | 74 => ⟨S4x512x512, .f32⟩
  | 75 => ⟨S4x512x512, .f32⟩
  | 76 => ⟨S_, .f32⟩
  | 77 => ⟨S_, .f32⟩
  | 78 => ⟨S4x512x512, .i1⟩
  | 79 => ⟨S4x512x512, .f32⟩
  | 80 => ⟨S4x512x512, .f32⟩
  | 81 => ⟨S4x256x256, .f32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S512, .i32⟩
  | 89 => ⟨S512, .i32⟩
  | 90 => ⟨S_, .i32⟩
  | 91 => ⟨S512, .i32⟩
  | 92 => ⟨S512, .i1⟩
  | 93 => ⟨S_, .i32⟩
  | 94 => ⟨S512, .i32⟩
  | 95 => ⟨S512, .i1⟩
  | 96 => ⟨S_, .i32⟩
  | 97 => ⟨S_, .i1⟩
  | 98 => ⟨S512, .i1⟩
  | 99 => ⟨S512, .i1⟩
  | 100 => ⟨S512, .i1⟩
  | 101 => ⟨S512, .i32⟩
  | 102 => ⟨S512, .i32⟩
  | 103 => ⟨S512, .i32⟩
  | 104 => ⟨S512, .f32⟩
  | 105 => ⟨S1x4, .f32⟩
  | 106 => ⟨S_, .f32⟩
  | 107 => ⟨S512, .f32⟩
  | 108 => ⟨S512, .f32⟩
  | 109 => ⟨S512x1, .f32⟩
  | 110 => ⟨S512x4, .f32⟩
  | 111 => ⟨S512x4, .f32⟩
  | 112 => ⟨S512x4, .f32⟩
  | 113 => ⟨S512x4, .f32⟩
  | 114 => ⟨S512x4x64, .f32⟩
  | 115 => ⟨S512x256, .f32⟩
  | 116 => ⟨S1x4, .f32⟩
  | 117 => ⟨S_, .f32⟩
  | 118 => ⟨S512, .f32⟩
  | 119 => ⟨S512, .f32⟩
  | 120 => ⟨S512x1, .f32⟩
  | 121 => ⟨S512x4, .f32⟩
  | 122 => ⟨S512x4, .f32⟩
  | 123 => ⟨S512x4, .f32⟩
  | 124 => ⟨S512x4, .f32⟩
  | 125 => ⟨S512x4x128, .f32⟩
  | 126 => ⟨S512x512, .f32⟩
  | 127 => ⟨S_, .f32⟩
  | _ => ⟨S32x2048x1024, .f32⟩

abbrev hbmTy0_1 (i : Nat) : BufTy := match i % 128 with
  | 0 => ⟨S4, .f32⟩
  | 1 => ⟨S4, .f32⟩
  | 2 => ⟨S4, .f32⟩
  | 3 => ⟨S1x4, .f32⟩
  | 4 => ⟨S1x4x128, .f32⟩
  | 5 => ⟨S1x512, .f32⟩
  | 6 => ⟨S1024x1536, .bf16⟩
  | 7 => ⟨S1x512, .f32⟩
  | 8 => ⟨S32x2048x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S4x256x256, .f32⟩
  | .local _ .vmem, ⟨5, _⟩ => ⟨S512x256, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x512x512, .bf16⟩
  | .local _ .vmem, ⟨10, _⟩ => ⟨S1x512x512, .bf16⟩
  | .local _ .vmem, ⟨11, _⟩ => ⟨S4x128x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v17 : Ref sig .tc := ⟨.hbm, 40, rfl⟩
abbrev main_v18 : Ref sig .tc := ⟨.hbm, 41, rfl⟩
abbrev main_c_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_2 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_3 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_4 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v34 : Ref sig .tc := ⟨.hbm, 80, rfl⟩
abbrev main_v35 : Ref sig .tc := ⟨.hbm, 81, rfl⟩
abbrev main_c_5 : Ref sig .tc := ⟨.hbm, 82, rfl⟩
abbrev main_call3_v0 : Ref sig .tc := ⟨.hbm, 83, rfl⟩
abbrev main_call3_c : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_c_1 : Ref sig .tc := ⟨.hbm, 90, rfl⟩
abbrev main_call3_v5 : Ref sig .tc := ⟨.hbm, 91, rfl⟩
abbrev main_call3_v6 : Ref sig .tc := ⟨.hbm, 92, rfl⟩
abbrev main_call3_c_2 : Ref sig .tc := ⟨.hbm, 93, rfl⟩
abbrev main_call3_v7 : Ref sig .tc := ⟨.hbm, 94, rfl⟩
abbrev main_call3_v8 : Ref sig .tc := ⟨.hbm, 95, rfl⟩
abbrev main_call3_c_3 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_cst_6 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_cst_7 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_cst_8 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S32x2048x1024 : Shape := ⟨3, ![32, 2048, 1024]⟩
abbrev S1024 : Shape := ⟨1, ![1024]⟩
abbrev S1024x1536 : Shape := ⟨2, ![1024, 1536]⟩
abbrev S512 : Shape := ⟨1, ![512]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x1536 : Shape := ⟨3, ![32, 2048, 1536]⟩
abbrev S32x2048x256 : Shape := ⟨3, ![32, 2048, 256]⟩
abbrev S32x2048x512 : Shape := ⟨3, ![32, 2048, 512]⟩
abbrev S64 : Shape := ⟨1, ![64]⟩
abbrev S4 : Shape := ⟨1, ![4]⟩
abbrev S32x32x64x4x64 : Shape := ⟨5, ![32, 32, 64, 4, 64]⟩
abbrev S32x4x32x64x64 : Shape := ⟨5, ![32, 4, 32, 64, 64]⟩
abbrev S32x32x64x4x128 : Shape := ⟨5, ![32, 32, 64, 4, 128]⟩
abbrev S32x4x32x64x128 : Shape := ⟨5, ![32, 4, 32, 64, 128]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S1x4x1x64x64 : Shape := ⟨5, ![1, 4, 1, 64, 64]⟩
abbrev S4x1 : Shape := ⟨2, ![4, 1]⟩
abbrev S4x64 : Shape := ⟨2, ![4, 64]⟩
abbrev S1x4x1x64x1 : Shape := ⟨5, ![1, 4, 1, 64, 1]⟩
abbrev S1x4x1x1 : Shape := ⟨4, ![1, 4, 1, 1]⟩
abbrev S32x4x32x64 : Shape := ⟨4, ![32, 4, 32, 64]⟩
abbrev S32x4x64x128 : Shape := ⟨4, ![32, 4, 64, 128]⟩
abbrev S32x32x4x64 : Shape := ⟨4, ![32, 32, 4, 64]⟩
abbrev S32x32x4x64x128 : Shape := ⟨5, ![32, 32, 4, 64, 128]⟩
abbrev S1x32x4x64 : Shape := ⟨4, ![1, 32, 4, 64]⟩
abbrev S32x4x64 : Shape := ⟨3, ![32, 4, 64]⟩
abbrev S1x32x4x64x128 : Shape := ⟨5, ![1, 32, 4, 64, 128]⟩
abbrev S32x4x64x1 : Shape := ⟨4, ![32, 4, 64, 1]⟩
abbrev S32x2048x4x128 : Shape := ⟨4, ![32, 2048, 4, 128]⟩
abbrev S4x128 : Shape := ⟨2, ![4, 128]⟩
abbrev S32x2048x4 : Shape := ⟨3, ![32, 2048, 4]⟩
abbrev S32x2048x4x1 : Shape := ⟨4, ![32, 2048, 4, 1]⟩
abbrev S1x1x4x128 : Shape := ⟨4, ![1, 1, 4, 128]⟩

abbrev nBuf : Space → Nat
  | .hbm => 182
  | .vmem => 0
  | .smem => 0
  | _ => 0

abbrev hbmTy0_0 (i : Nat) : BufTy := match i % 128 with
  | 0 => ⟨S32x2048x1024, .f32⟩
  | 1 => ⟨S1024, .f32⟩
  | 2 => ⟨S1024x1536, .f32⟩
  | 3 => ⟨S512, .f32⟩
  | 4 => ⟨S32x2048x1024, .f32⟩
  | 5 => ⟨S_, .f32⟩
  | 6 => ⟨S32x2048, .f32⟩
  | 7 => ⟨S32x2048x1, .f32⟩
  | 8 => ⟨S_, .f32⟩
  | 9 => ⟨S32x2048x1, .f32⟩
  | 10 => ⟨S32x2048x1, .f32⟩
  | 11 => ⟨S_, .f32⟩
  | 12 => ⟨S32x2048x1, .f32⟩
  | 13 => ⟨S32x2048x1, .f32⟩
  | 14 => ⟨S32x2048x1, .f32⟩
  | 15 => ⟨S32x2048x1024, .f32⟩
  | 16 => ⟨S32x2048x1024, .f32⟩
  | 17 => ⟨S1x1x1024, .f32⟩
  | 18 => ⟨S32x2048x1024, .f32⟩
  | 19 => ⟨S32x2048x1024, .f32⟩
  | 20 => ⟨S32x2048x1536, .f32⟩
  | 21 => ⟨S32x2048x256, .f32⟩
  | 22 => ⟨S32x2048x256, .f32⟩
  | 23 => ⟨S32x2048x512, .f32⟩
  | 24 => ⟨S32x2048x512, .f32⟩
  | 25 => ⟨S64, .f32⟩
  | 26 => ⟨S4, .f32⟩
  | 27 => ⟨S_, .f32⟩
  | 28 => ⟨S4, .f32⟩
  | 29 => ⟨S4, .f32⟩
  | 30 => ⟨S_, .f32⟩
  | 31 => ⟨S4, .f32⟩
  | 32 => ⟨S4, .f32⟩
  | 33 => ⟨S4, .f32⟩
  | 34 => ⟨S4, .f32⟩
  | 35 => ⟨S4, .f32⟩
  | 36 => ⟨S32x32x64x4x64, .f32⟩
  | 37 => ⟨S32x4x32x64x64, .f32⟩
  | 38 => ⟨S_, .f32⟩
  | 39 => ⟨S32x4x32x64x64, .f32⟩
  | 40 => ⟨S32x4x32x64x64, .f32⟩
  | 41 => ⟨S32x32x64x4x64, .f32⟩
  | 42 => ⟨S32x4x32x64x64, .f32⟩
  | 43 => ⟨S32x32x64x4x128, .f32⟩
  | 44 => ⟨S32x4x32x64x128, .f32⟩
  | 45 => ⟨S64x1, .f32⟩
  | 46 => ⟨S1x64, .f32⟩
  | 47 => ⟨S64x64, .f32⟩
  | 48 => ⟨S64x64, .f32⟩
  | 49 => ⟨S64x64, .f32⟩
  | 50 => ⟨S_, .f32⟩
  | 51 => ⟨S64x64, .f32⟩
  | 52 => ⟨S64x64, .i1⟩
  | 53 => ⟨S4x1x1, .f32⟩
  | 54 => ⟨S_, .f32⟩
  | 55 => ⟨S64x64, .f32⟩
  | 56 => ⟨S64x64, .f32⟩
  | 57 => ⟨S1x64x64, .f32⟩
  | 58 => ⟨S4x64x64, .f32⟩
  | 59 => ⟨S4x64x64, .f32⟩
  | 60 => ⟨S4x64x64, .f32⟩
  | 61 => ⟨S4x64x64, .f32⟩
  | 62 => ⟨S_, .f32⟩
  | 63 => ⟨S_, .f32⟩
  | 64 => ⟨S4x64x64, .i1⟩
  | 65 => ⟨S4x64x64, .f32⟩
  | 66 => ⟨S4x64x64, .f32⟩
  | 67 => ⟨S32x4x32x64x64, .f32⟩
  | 68 => ⟨S1x4x1x64x64, .f32⟩
  | 69 => ⟨S32x4x32x64x64, .f32⟩
  | 70 => ⟨S32x4x32x64x64, .f32⟩
  | 71 => ⟨S32x4x32x64x128, .f32⟩
  | 72 => ⟨S4x1, .f32⟩
  | 73 => ⟨S_, .f32⟩
  | 74 => ⟨S64, .f32⟩
  | 75 => ⟨S64, .f32⟩
  | 76 => ⟨S1x64, .f32⟩
  | 77 => ⟨S4x64, .f32⟩
  | 78 => ⟨S4x64, .f32⟩
  | 79 => ⟨S4x64, .f32⟩
  | 80 => ⟨S4x64, .f32⟩
  | 81 => ⟨S1x4x1x64x1, .f32⟩
  | 82 => ⟨S32x4x32x64x64, .f32⟩
  | 83 => ⟨S32x4x32x64x64, .f32⟩
  | 84 => ⟨S32x4x32x64x128, .f32⟩
  | 85 => ⟨S_, .f32⟩
  | 86 => ⟨S4, .f32⟩
  | 87 => ⟨S4, .f32⟩
  | 88 => ⟨S4, .f32⟩
  | 89 => ⟨S1x4x1x1, .f32⟩
  | 90 => ⟨S32x4x32x64, .f32⟩
  | 91 => ⟨S_, .f32⟩
  | 92 => ⟨S32x4x64x128, .f32⟩
  | 93 => ⟨S32x32x4x64, .f32⟩
  | 94 => ⟨S32x32x4x64x128, .f32⟩
  | 95 => ⟨S_, .f32⟩
  | 96 => ⟨S32x32x4x64x128, .f32⟩
  | 97 => ⟨S_, .i32⟩
  | 98 => ⟨S32x32x4x64, .f32⟩
  | 99 => ⟨S32x32x4x64x128, .f32⟩
  | 100 => ⟨S_, .i32⟩
  | 101 => ⟨S32x4x64x128, .f32⟩
  | 102 => ⟨S32x32x4x64x128, .f32⟩
  | 103 => ⟨S_, .i32⟩
  | 104 => ⟨S_, .i1⟩
  | 105 => ⟨S_, .i32⟩
  | 106 => ⟨S_, .i32⟩
  | 107 => ⟨S_, .i32⟩
  | 108 => ⟨S1x32x4x64, .f32⟩
  | 109 => ⟨S32x4x64, .f32⟩
  | 110 => ⟨S_, .i32⟩
  | 111 => ⟨S_, .i32⟩
  | 112 => ⟨S_, .i32⟩
  | 113 => ⟨S_, .i32⟩
  | 114 => ⟨S1x32x4x64x128, .f32⟩
  | 115 => ⟨S32x4x64x128, .f32⟩
  | 116 => ⟨S32x4x64x1, .f32⟩
  | 117 => ⟨S32x4x64x128, .f32⟩
  | 118 => ⟨S32x4x64x128, .f32⟩
  | 119 => ⟨S32x4x64x128, .f32⟩
  | 120 => ⟨S1x32x4x64x128, .f32⟩
  | 121 => ⟨S_, .i32⟩
  | 122 => ⟨S_, .i32⟩
  | 123 => ⟨S_, .i32⟩
  | 124 => ⟨S_, .i32⟩
  | 125 => ⟨S32x32x4x64x128, .f32⟩
  | 126 => ⟨S_, .i32⟩
  | 127 => ⟨S_, .i32⟩
  | _ => ⟨S32x2048x1024, .f32⟩

abbrev hbmTy0_1 (i : Nat) : BufTy := match i % 128 with
  | 0 => ⟨S32x4x32x64x128, .f32⟩
  | 1 => ⟨S32x4x32x64x128, .f32⟩
  | 2 => ⟨S4x1, .f32⟩
  | 3 => ⟨S_, .f32⟩
  | 4 => ⟨S64, .f32⟩
  | 5 => ⟨S64, .f32⟩
  | 6 => ⟨S1x64, .f32⟩
  | 7 => ⟨S4x64, .f32⟩
  | 8 => ⟨S4x64, .f32⟩
  | 9 => ⟨S4x64, .f32⟩
  | 10 => ⟨S4x64, .f32⟩
  | 11 => ⟨S1x4x1x64x1, .f32⟩
  | 12 => ⟨S32x4x32x64x128, .f32⟩
  | 13 => ⟨S32x4x32x64x128, .f32⟩
  | 14 => ⟨S32x4x32x64x128, .f32⟩
  | 15 => ⟨S32x32x64x4x128, .f32⟩
  | 16 => ⟨S32x2048x4x128, .f32⟩
  | 17 => ⟨S4x128, .f32⟩
  | 18 => ⟨S_, .f32⟩
  | 19 => ⟨S32x2048x4, .f32⟩
  | 20 => ⟨S32x2048x4x1, .f32⟩
  | 21 => ⟨S_, .f32⟩
  | 22 => ⟨S32x2048x4x1, .f32⟩
  | 23 => ⟨S32x2048x4x1, .f32⟩
  | 24 => ⟨S32x2048x4x128, .f32⟩
  | 25 => ⟨S32x2048x4x128, .f32⟩
  | 26 => ⟨S32x2048x4x128, .f32⟩
  | 27 => ⟨S_, .f32⟩
  | 28 => ⟨S32x2048x4, .f32⟩
  | 29 => ⟨S32x2048x4x1, .f32⟩
  | 30 => ⟨S_, .f32⟩
  | 31 => ⟨S32x2048x4x1, .f32⟩
  | 32 => ⟨S32x2048x4x1, .f32⟩
  | 33 => ⟨S_, .f32⟩
  | 34 => ⟨S32x2048x4x1, .f32⟩
  | 35 => ⟨S32x2048x4x1, .f32⟩
  | 36 => ⟨S32x2048x4x1, .f32⟩
  | 37 => ⟨S32x2048x4x128, .f32⟩
  | 38 => ⟨S32x2048x4x128, .f32⟩
  | 39 => ⟨S1x1x4x128, .f32⟩
  | 40 => ⟨S32x2048x4x128, .f32⟩
  | 41 => ⟨S32x2048x4x128, .f32⟩
  | 42 => ⟨S32x2048x512, .f32⟩
  | 43 => ⟨S32x2048x512, .f32⟩
  | 44 => ⟨S32x2048x512, .f32⟩
  | 45 => ⟨S_, .f32⟩
  | 46 => ⟨S32x2048x512, .f32⟩
  | 47 => ⟨S32x2048x512, .f32⟩
  | 48 => ⟨S_, .f32⟩
  | 49 => ⟨S32x2048x512, .f32⟩
  | 50 => ⟨S32x2048x512, .f32⟩
  | 51 => ⟨S32x2048x512, .f32⟩
  | 52 => ⟨S32x2048x512, .f32⟩
  | 53 => ⟨S32x2048x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_11 : Ref sig .tc := ⟨.hbm, 95, rfl⟩
abbrev main_v76 : Ref sig .tc := ⟨.hbm, 96, rfl⟩
abbrev main_c : Ref sig .tc := ⟨.hbm, 97, rfl⟩
abbrev main_v77_0 : Ref sig .tc := ⟨.hbm, 98, rfl⟩
abbrev main_v77_1 : Ref sig .tc := ⟨.hbm, 99, rfl⟩
abbrev main_v77_2 : Ref sig .tc := ⟨.hbm, 100, rfl⟩
abbrev main_v77_3 : Ref sig .tc := ⟨.hbm, 101, rfl⟩
abbrev main_v77_4 : Ref sig .tc := ⟨.hbm, 102, rfl⟩
abbrev main_while0c_c_22 : Ref sig .tc := ⟨.hbm, 103, rfl⟩
abbrev main_while0c_v118 : Ref sig .tc := ⟨.hbm, 104, rfl⟩
abbrev main_while0b_call1_c : Ref sig .tc := ⟨.hbm, 105, rfl⟩
abbrev main_while0b_call1_c_0 : Ref sig .tc := ⟨.hbm, 106, rfl⟩
abbrev main_while0b_call1_c_1 : Ref sig .tc := ⟨.hbm, 107, rfl⟩
abbrev main_while0b_call1_v0 : Ref sig .tc := ⟨.hbm, 108, rfl⟩
abbrev main_while0b_v118 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_call2_c_1 : Ref sig .tc := ⟨.hbm, 112, rfl⟩
abbrev main_while0b_call2_c_2 : Ref sig .tc := ⟨.hbm, 113, rfl⟩
abbrev main_while0b_call2_v0 : Ref sig .tc := ⟨.hbm, 114, rfl⟩
abbrev main_while0b_v119 : Ref sig .tc := ⟨.hbm, 115, rfl⟩
abbrev main_while0b_v120 : Ref sig .tc := ⟨.hbm, 116, rfl⟩
abbrev main_while0b_v121 : Ref sig .tc := ⟨.hbm, 117, rfl⟩
abbrev main_while0b_v122 : Ref sig .tc := ⟨.hbm, 118, rfl⟩
abbrev main_while0b_v123 : Ref sig .tc := ⟨.hbm, 119, rfl⟩
abbrev main_while0b_call3_v0 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_call3_c_1 : Ref sig .tc := ⟨.hbm, 123, rfl⟩
abbrev main_while0b_call3_c_2 : Ref sig .tc := ⟨.hbm, 124, rfl⟩
abbrev main_while0b_v124 : Ref sig .tc := ⟨.hbm, 125, rfl⟩
abbrev main_while0b_c_22 : Ref sig .tc := ⟨.hbm, 126, rfl⟩
abbrev main_while0b_v125 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_12 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_13 : Ref sig .tc := ⟨.hbm, 146, rfl⟩
abbrev main_v95 : Ref sig .tc := ⟨.hbm, 147, rfl⟩
abbrev main_v96 : Ref sig .tc := ⟨.hbm, 148, rfl⟩
abbrev main_cst_14 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_15 : Ref sig .tc := ⟨.hbm, 155, rfl⟩
abbrev main_v102 : Ref sig .tc := ⟨.hbm, 156, rfl⟩
abbrev main_v103 : Ref sig .tc := ⟨.hbm, 157, rfl⟩
abbrev main_cst_16 : Ref sig .tc := ⟨.hbm, 158, rfl⟩
abbrev main_v104 : Ref sig .tc := ⟨.hbm, 159, rfl⟩
abbrev main_v105 : Ref sig .tc := ⟨.hbm, 160, rfl⟩
abbrev main_cst_17 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_call4_v0 : Ref sig .tc := ⟨.hbm, 171, rfl⟩
abbrev main_call4_v1 : Ref sig .tc := ⟨.hbm, 172, rfl⟩
abbrev main_call4_cst : Ref sig .tc := ⟨.hbm, 173, rfl⟩
abbrev main_call4_v2 : Ref sig .tc := ⟨.hbm, 174, rfl⟩
abbrev main_call4_v3 : Ref sig .tc := ⟨.hbm, 175, rfl⟩
abbrev main_call4_cst_0 : Ref sig .tc := ⟨.hbm, 176, rfl⟩
abbrev main_call4_v4 : Ref sig .tc := ⟨.hbm, 177, rfl⟩
abbrev main_call4_v5 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩

abbrev nD : Nat := 1
abbrev τ : Topo := Topo.v7x

variable {F : FTy → Type} [FloatOps F]

abbrev main_while0_count : Scf.Loop 32 := ⟨0#32, 32#32, 1#32⟩
-- ==== Proof.Head.lean ====
module

public import proofs.«01_k».proof.Proof.Gen.KernelIdeal.Skeleton

/-! # One head of the kernel's body, for any head

The kernel's body repeats the same operations for each of its four heads, with the columns of that
head.  Here they are written once, with the head `h`, the half `i` of the tile's rows (256 rows
each) and the chunk `n` (64 rows each) as variables, and the printed payloads of each head are
shown to be these. -/

@[expose] public section

set_option maxRecDepth 16384

noncomputable section

namespace Cert.KernelIdeal.Hgrn

open Cert.KernelIdeal Cert.KernelIdeal.Gen Idealize.ShloMosaic Idealize.SL.Sem

variable {F : FTy → Type} [FloatOps F]

theorem slices_part (i : Fin 2) (h : Fin 4) :
    S512x512.Slices ![256 * i.val, 128 * h.val] S256x128 := by
  revert i h; decide

theorem slices_chunk (k : Fin 4) : S256x128.Slices ![64 * k.val, 0] S64x128 := by
  revert k; decide

theorem slices_dec (n : Fin 8) (h : Fin 4) : S8x512.Slices ![n.val, 128 * h.val] S1x128 := by
  revert n h; decide

theorem slices_kv (n : Fin 8) : S128x1024.Slices ![0, 128 * n.val] S128x128 := by
  revert n; decide

theorem slices_diag (k : Fin 4) : S256x512.Slices ![64 * k.val, 128 * k.val] S64x128 := by
  revert k; decide

theorem slices_gate (h : Fin 4) : S512x2048.Slices ![0, 1536 + 128 * h.val] S512x128 := by
  revert h; decide

theorem slices_row (h : Fin 4) : S1x512.Slices ![0, 128 * h.val] S1x128 := by
  revert h; decide

/-- Half `i` of the rows and head `h` of the columns of a tile. -/
def part {α : Type} (y : S512x512.Idx → α) (i : Fin 2) (h : Fin 4) : S256x128.Idx → α :=
  extractStridedSlice S256x128 ![256 * i.val, 128 * h.val] y (slices_part i h)

/-- What half `i` of the rows takes from its own chunks: the masked scores times the values. -/
def intra (qe ke v : FVec F S512x512 .bf16) (mask : IVec S256x256 1) (i : Fin 2) (h : Fin 4) :
    FVec F S256x128 .f32 :=
  matmul dot_S256x256_S256x128_S256x128_1_0_0_1_n_n none
    (truncf .bf16
      (select mask
        (matmul dot_S256x128_S256x128_S256x256_1_1_0_0_n_n none (part qe i h) (part ke i h)
          (constant S256x256 .f32 0x00000000#32))
        (broadcast S256x256 (Scalar.ofBits .f32 0x00000000#32))) bitsLt_bf16_f32)
    (part v i h) (constant S256x128 .f32 0x00000000#32)

/-- Rows of chunk `k` of a half. -/
def chunk (y : FVec F S256x128 .bf16) (k : Fin 4) : FVec F S64x128 .bf16 :=
  extractStridedSlice S64x128 ![64 * k.val, 0] y (slices_chunk k)

/-- A block of zeros. -/
def zeros : FVec F S64x128 .bf16 := broadcast S64x128 (Scalar.ofBits .bf16 0x0000#16)

/-- The four chunks of a half put on the diagonal of a matrix of zeros. -/
def blockDiag (y : FVec F S256x128 .bf16) : FVec F S256x512 .bf16 :=
  concatenate S256x512 0
    [⟨S64x512, concatenate S64x512 1 [⟨S64x128, chunk y 0⟩, ⟨S64x128, zeros⟩, ⟨S64x128, zeros⟩,
        ⟨S64x128, zeros⟩] concatenates_S64x128_S64x128_S64x128_S64x128_S64x512_d1⟩,
     ⟨S64x512, concatenate S64x512 1 [⟨S64x128, zeros⟩, ⟨S64x128, chunk y 1⟩, ⟨S64x128, zeros⟩,
        ⟨S64x128, zeros⟩] concatenates_S64x128_S64x128_S64x128_S64x128_S64x512_d1⟩,
     ⟨S64x512, concatenate S64x512 1 [⟨S64x128, zeros⟩, ⟨S64x128, zeros⟩, ⟨S64x128, chunk y 2⟩,
        ⟨S64x128, zeros⟩] concatenates_S64x128_S64x128_S64x128_S64x128_S64x512_d1⟩,
     ⟨S64x512, concatenate S64x512 1 [⟨S64x128, zeros⟩, ⟨S64x128, zeros⟩, ⟨S64x128, zeros⟩,
        ⟨S64x128, chunk y 3⟩] concatenates_S64x128_S64x128_S64x128_S64x128_S64x512_d1⟩]
    concatenates_S64x512_S64x512_S64x512_S64x512_S256x512_d0

/-- The updates of the four chunks of half `i`, side by side. -/
def kvHalf (v kend : FVec F S512x512 .bf16) (i : Fin 2) (h : Fin 4) : FVec F S128x512 .f32 :=
  matmul dot_S256x128_S256x512_S128x512_0_0_1_1_n_n none (part v i h)
    (blockDiag (part kend i h)) (constant S128x512 .f32 0x00000000#32)

/-- The updates of the eight chunks of the tile, side by side. -/
def kvAll (v kend : FVec F S512x512 .bf16) (h : Fin 4) : FVec F S128x1024 .f32 :=
  concatenate S128x1024 1 [⟨S128x512, kvHalf v kend 0 h⟩, ⟨S128x512, kvHalf v kend 1 h⟩]
    concatenates_S128x512_S128x512_S128x1024_d1

/-- One chunk's step of the state of head `h`: the decayed state plus the chunk's update. -/
def stepState (dec : FVec F S8x512 .f32) (kv : FVec F S128x1024 .f32) (h : Fin 4) (n : Fin 8)
    (st : FVec F S128x128 .f32) : FVec F S128x128 .f32 :=
  addf (mulf st (broadcastTo S128x128
      (extractStridedSlice S1x128 ![n.val, 128 * h.val] dec (slices_dec n h))
      broadcasts_S1x128_S128x128))
    (extractStridedSlice S128x128 ![0, 128 * n.val] kv (slices_kv n))

/-- The state of head `h` after the first `n` chunks of the tile. -/
def stateAt (dec : FVec F S8x512 .f32) (kv : FVec F S128x1024 .f32) (h : Fin 4)
    (st : FVec F S128x128 .f32) : ℕ → FVec F S128x128 .f32
  | 0 => st
  | n + 1 => stepState dec kv h ⟨n % 8, Nat.mod_lt n (by decide)⟩ (stateAt dec kv h st n)

/-- What half `i` of the rows takes from the states its chunks start from. -/
def interHalf (qb : FVec F S512x512 .bf16) (i : Fin 2) (h : Fin 4)
    (s0 s1 s2 s3 : FVec F S128x128 .f32) : FVec F S256x128 .f32 :=
  let y := matmul dot_S256x128_S512x128_S256x512_1_1_0_0_n_n none (part qb i h)
    (concatenate S512x128 0 [⟨S128x128, truncf .bf16 s0 bitsLt_bf16_f32⟩,
      ⟨S128x128, truncf .bf16 s1 bitsLt_bf16_f32⟩, ⟨S128x128, truncf .bf16 s2 bitsLt_bf16_f32⟩,
      ⟨S128x128, truncf .bf16 s3 bitsLt_bf16_f32⟩]
      concatenates_S128x128_S128x128_S128x128_S128x128_S512x128_d0)
    (constant S256x512 .f32 0x00000000#32)
  concatenate S256x128 0
    [⟨S64x128, extractStridedSlice S64x128 ![64 * (0 : Fin 4).val, 128 * (0 : Fin 4).val] y (slices_diag 0)⟩,
     ⟨S64x128, extractStridedSlice S64x128 ![64 * (1 : Fin 4).val, 128 * (1 : Fin 4).val] y (slices_diag 1)⟩,
     ⟨S64x128, extractStridedSlice S64x128 ![64 * (2 : Fin 4).val, 128 * (2 : Fin 4).val] y (slices_diag 2)⟩,
     ⟨S64x128, extractStridedSlice S64x128 ![64 * (3 : Fin 4).val, 128 * (3 : Fin 4).val] y (slices_diag 3)⟩]
    concatenates_S64x128_S64x128_S64x128_S64x128_S256x128_d0

/-- The rows of head `h` before its norm: from the own chunk and from the states. -/
def mixed (qe ke v qb : FVec F S512x512 .bf16) (mask : IVec S256x256 1) (dec : FVec F S8x512 .f32)
    (kv : FVec F S128x1024 .f32) (h : Fin 4) (st : FVec F S128x128 .f32) : FVec F S512x128 .f32 :=
  addf
    (concatenate S512x128 0 [⟨S256x128, intra qe ke v mask 0 h⟩, ⟨S256x128, intra qe ke v mask 1 h⟩]
      concatenates_S256x128_S256x128_S512x128_d0)
    (concatenate S512x128 0
      [⟨S256x128, interHalf qb 0 h (stateAt dec kv h st 0) (stateAt dec kv h st 1)
          (stateAt dec kv h st 2) (stateAt dec kv h st 3)⟩,
       ⟨S256x128, interHalf qb 1 h (stateAt dec kv h st 4) (stateAt dec kv h st 5)
          (stateAt dec kv h st 6) (stateAt dec kv h st 7)⟩]
      concatenates_S256x128_S256x128_S512x128_d0)

/-- The head's norm, its weight and the gate. -/
def gated (u : FVec F S512x2048 .f32) (ng : FVec F S1x512 .f32) (h : Fin 4)
    (o : FVec F S512x128 .f32) : FVec F S1x512x128 .bf16 :=
  let z := extractStridedSlice S512x128 ![0, 1536 + 128 * h.val] u (slices_gate h)
  let half : FVec F S512x128 .f32 := broadcast S512x128 (Scalar.ofBits .f32 0x3F000000#32)
  shapeCast S1x512x128
    (truncf .bf16
      (mulf
        (mulf
          (mulf o (broadcastTo S512x128
            (rsqrt (addf
              (divf
                (shapeCast S512x1
                  (multiReduction .add [1] S512 (mulf o o) 0x00000000#32 reduces_S512x128_S512
                    (.inl rfl) rfl) shapeCasts_S512_S512x1)
                (broadcast S512x1 (Scalar.ofBits .f32 0x43000000#32)))
              (broadcast S512x1 (Scalar.ofBits .f32 0x358637BD#32))))
            broadcasts_S512x1_S512x128))
          (broadcastTo S512x128 (extractStridedSlice S1x128 ![0, 128 * h.val] ng (slices_row h))
            broadcasts_S1x128_S512x128))
        (mulf z (addf (mulf half (tanh (mulf half z))) half))) bitsLt_bf16_f32)
    shapeCasts_S512x128_S1x512x128

/-- The loaded state as a matrix. -/
def unpack (s : Vec F S1x128x128 .f32) : FVec F S128x128 .f32 :=
  shapeCast S128x128 s shapeCasts_S1x128x128_S128x128

/-- The state stored for head `h`. -/
def headState (v kend : FVec F S512x512 .bf16) (dec : FVec F S8x512 .f32) (h : Fin 4)
    (s : Vec F S1x128x128 .f32) : FVec F S1x128x128 .f32 :=
  shapeCast S1x128x128 (stateAt dec (kvAll v kend h) h (unpack s) 8) shapeCasts_S128x128_S1x128x128

/-- The block stored for head `h`. -/
def headOut (u : FVec F S512x2048 .f32) (qe ke v qb kend : FVec F S512x512 .bf16)
    (mask : IVec S256x256 1) (dec : FVec F S8x512 .f32) (ng : FVec F S1x512 .f32) (h : Fin 4)
    (s : Vec F S1x128x128 .f32) : FVec F S1x512x128 .bf16 :=
  gated u ng h (mixed qe ke v qb mask dec (kvAll v kend h) h (unpack s))

variable (u : FVec F S512x2048 .f32) (q k : FVec F S512x512 .f32)
  (qe ke v qb kend : FVec F S512x512 .bf16)
  (mask : IVec S256x256 1) (dec : FVec F S8x512 .f32) (ng : FVec F S1x512 .f32)
  (s : Vec F S1x128x128 .f32) (b76 b79 : FVec F S512x512 .f32) (b78 : IVec S512x512 1) (z : F .f32)

/-- Head 0's stored state. -/
theorem headState_zero :
    k0_pay42 dec (k0_pay29 v kend) (k0_pay34 v kend dec s) (k0_pay36 dec)
      = headState v kend dec 0 s := rfl

/-- Head 1's stored state. -/
theorem headState_one :
    k0_pay61 dec (k0_pay48 v kend) (k0_pay57 v kend dec s) = headState v kend dec 1 s := rfl

/-- Head 2's stored state. -/
theorem headState_two :
    k0_pay92 dec
      (k0_pay76 v kend (k0_pay70 v) (k0_pay71 kend) k0_pay72 (k0_pay73 kend) (k0_pay74 kend)
        (k0_pay75 kend))
      (k0_pay87 v kend dec (k0_pay70 v) (k0_pay71 kend) k0_pay72 (k0_pay73 kend) (k0_pay74 kend)
        (k0_pay75 kend) s) (k0_pay89 dec)
      = headState v kend dec 2 s := rfl

/-- Head 3's stored state. -/
theorem headState_three :
    k0_pay117 dec
      (k0_pay101 (k0_pay98 v kend) (k0_pay99 v) (k0_pay100 kend) (Scalar.ofBits .bf16 0x0000#16))
      (k0_pay116 dec (k0_pay98 v kend) (k0_pay99 v) (k0_pay100 kend)
        (Scalar.ofBits .bf16 0x0000#16) s)
      = headState v kend dec 3 s := rfl

/-- Head 0's stored block. -/
theorem headOut_zero :
    k0_pay45 u ng
      (k0_pay43 qb dec (k0_pay29 v kend) (k0_pay31 s) (k0_pay33 v kend dec s)
        (k0_pay34 v kend dec s) (k0_pay35 v kend dec s) (k0_pay36 dec))
      (k0_pay44 (k0_pay25 q k v b76 b78 b79 z)
        (k0_pay28 v k0_pay23 (k0_pay26 q b76 b78 b79 z) (k0_pay27 k b76 b78 b79 z)))
      = headOut u (k0_pay18 q b76 b78 b79 z) (k0_pay19 k b76 b78 b79 z) v qb kend k0_pay23 dec ng 0
          s := rfl

/-- Head 1's stored block. -/
theorem headOut_one :
    k0_pay67
      (k0_pay62 qb dec (k0_pay46 v qe ke mask) (k0_pay47 v qe ke mask) (k0_pay48 v kend)
        (k0_pay50 s) (k0_pay52 v kend dec s) (k0_pay54 v kend dec s) (k0_pay56 v kend dec s)
        (k0_pay57 v kend dec s))
      (k0_pay63 u) (k0_pay64 ng)
      (k0_pay65 qb dec (k0_pay46 v qe ke mask) (k0_pay47 v qe ke mask) (k0_pay48 v kend)
        (k0_pay50 s) (k0_pay52 v kend dec s) (k0_pay54 v kend dec s) (k0_pay56 v kend dec s)
        (k0_pay57 v kend dec s))
      k0_pay66
      = headOut u qe ke v qb kend mask dec ng 1 s := rfl

/-- Head 2's stored block. -/
theorem headOut_two :
    k0_pay95 (k0_pay93 u)
      (k0_pay94 qb dec ng (k0_pay68 v qe ke mask) (k0_pay69 v qe ke mask)
        (k0_pay76 v kend (k0_pay70 v) (k0_pay71 kend) k0_pay72 (k0_pay73 kend) (k0_pay74 kend)
          (k0_pay75 kend))
        (k0_pay78 s)
        (k0_pay80 v kend dec (k0_pay70 v) (k0_pay71 kend) k0_pay72 (k0_pay73 kend) (k0_pay74 kend)
          (k0_pay75 kend) s)
        (k0_pay82 v kend dec (k0_pay70 v) (k0_pay71 kend) k0_pay72 (k0_pay73 kend) (k0_pay74 kend)
          (k0_pay75 kend) s)
        (k0_pay84 v kend dec (k0_pay70 v) (k0_pay71 kend) k0_pay72 (k0_pay73 kend) (k0_pay74 kend)
          (k0_pay75 kend) s)
        (k0_pay86 v kend dec (k0_pay70 v) (k0_pay71 kend) k0_pay72 (k0_pay73 kend) (k0_pay74 kend)
          (k0_pay75 kend) s)
        (k0_pay87 v kend dec (k0_pay70 v) (k0_pay71 kend) k0_pay72 (k0_pay73 kend) (k0_pay74 kend)
          (k0_pay75 kend) s)
        (k0_pay88 v kend dec (k0_pay70 v) (k0_pay71 kend) k0_pay72 (k0_pay73 kend) (k0_pay74 kend)
          (k0_pay75 kend) s)
        (k0_pay89 dec))
      = headOut u qe ke v qb kend mask dec ng 2 s := rfl

/-- Head 3's stored block. -/
theorem headOut_three :
    k0_pay1 (k0_pay118 u)
      (k0_pay119 qb ng (k0_pay96 v qe ke mask) (k0_pay97 v qe ke mask) (k0_pay103 s)
        (k0_pay105 dec (k0_pay98 v kend) (k0_pay99 v) (k0_pay100 kend)
          (Scalar.ofBits .bf16 0x0000#16) s)
        (k0_pay107 dec (k0_pay98 v kend) (k0_pay99 v) (k0_pay100 kend)
          (Scalar.ofBits .bf16 0x0000#16) s)
        (k0_pay109 dec (k0_pay98 v kend) (k0_pay99 v) (k0_pay100 kend)
          (Scalar.ofBits .bf16 0x0000#16) s)
        (k0_pay111 dec (k0_pay98 v kend) (k0_pay99 v) (k0_pay100 kend)
          (Scalar.ofBits .bf16 0x0000#16) s)
        (k0_pay113 dec (k0_pay98 v kend) (k0_pay99 v) (k0_pay100 kend)
          (Scalar.ofBits .bf16 0x0000#16) s)
        (k0_pay115 dec (k0_pay98 v kend) (k0_pay99 v) (k0_pay100 kend)
          (Scalar.ofBits .bf16 0x0000#16) s)
        (k0_pay116 dec (k0_pay98 v kend) (k0_pay99 v) (k0_pay100 kend)
          (Scalar.ofBits .bf16 0x0000#16) s))
      (k0_pay120 u) k0_pay121
      = headOut u qe ke v qb kend mask dec ng 3 s := rfl

/-! ## The tile's own values -/

/-- The tile's projection. -/
abbrev tU (x : Vec F S1x512x1024 .f32) (g : Vec F S1x1024 .f32) (w : Vec F S1024x2048 .bf16) :
    FVec F S512x2048 .f32 := k0_pay3 x g w

/-- The forget gates. -/
abbrev tF (x : Vec F S1x512x1024 .f32) (g : Vec F S1x1024 .f32) (w : Vec F S1024x2048 .bf16)
    (lb : Vec F S1x512 .f32) : FVec F S512x512 .f32 := k0_pay7 x g w lb

/-- The keys. -/
abbrev tK (x : Vec F S1x512x1024 .f32) (g : Vec F S1x1024 .f32) (w : Vec F S1024x2048 .bf16)
    (lb : Vec F S1x512 .f32) : FVec F S512x512 .f32 := k0_pay10 (k0_pay8 lb) (k0_pay9 x g w)

/-- The values. -/
abbrev tV (x : Vec F S1x512x1024 .f32) (g : Vec F S1x1024 .f32) (w : Vec F S1024x2048 .bf16) :
    FVec F S512x512 .bf16 := k0_pay11 (k0_pay3 x g w)

/-- The queries against the chunk's middle. -/
abbrev tQe (x : Vec F S1x512x1024 .f32) (g : Vec F S1x1024 .f32) (w : Vec F S1024x2048 .bf16)
    (lb : Vec F S1x512 .f32) : FVec F S512x512 .bf16 :=
  k0_pay18 (k0_pay4 x g w) (k0_pay13 (tF x g w lb)) k0_pay14 (k0_pay15 (tF x g w lb))
    (Scalar.ofBits .f32 0x00000000#32)

/-- The keys against the chunk's middle. -/
abbrev tKe (x : Vec F S1x512x1024 .f32) (g : Vec F S1x1024 .f32) (w : Vec F S1024x2048 .bf16)
    (lb : Vec F S1x512 .f32) : FVec F S512x512 .bf16 :=
  k0_pay19 (tK x g w lb) (k0_pay13 (tF x g w lb)) k0_pay14 (k0_pay15 (tF x g w lb))
    (Scalar.ofBits .f32 0x00000000#32)

/-- The keys against the chunk's end. -/
abbrev tKend (x : Vec F S1x512x1024 .f32) (g : Vec F S1x1024 .f32) (w : Vec F S1024x2048 .bf16)
    (lb : Vec F S1x512 .f32) : FVec F S512x512 .bf16 :=
  k0_pay20 (tK x g w lb) (k0_pay13 (tF x g w lb)) k0_pay14 (k0_pay15 (tF x g w lb))
    (Scalar.ofBits .f32 0x00000000#32)

/-- The queries against the chunk's start. -/
abbrev tQb (x : Vec F S1x512x1024 .f32) (g : Vec F S1x1024 .f32) (w : Vec F S1024x2048 .bf16)
    (lb : Vec F S1x512 .f32) : FVec F S512x512 .bf16 :=
  k0_pay21 (k0_pay4 x g w) (k0_pay13 (tF x g w lb)) k0_pay14 (k0_pay15 (tF x g w lb))
    (Scalar.ofBits .f32 0x00000000#32)

/-- The decay of each chunk. -/
abbrev tDec (x : Vec F S1x512x1024 .f32) (g : Vec F S1x1024 .f32) (w : Vec F S1024x2048 .bf16)
    (lb : Vec F S1x512 .f32) : FVec F S8x512 .f32 :=
  k0_pay22 (k0_pay13 (tF x g w lb)) k0_pay14 (k0_pay15 (tF x g w lb))
    (Scalar.ofBits .f32 0x00000000#32)

/-- The state head `h` stores, from the tile's inputs and the state it loads. -/
def tileState (x : Vec F S1x512x1024 .f32) (g : Vec F S1x1024 .f32) (w : Vec F S1024x2048 .bf16)
    (lb : Vec F S1x512 .f32) (h : Fin 4) (s : Vec F S1x128x128 .f32) : FVec F S1x128x128 .f32 :=
  headState (tV x g w) (tKend x g w lb) (tDec x g w lb) h s

/-- The block head `h` stores, from the tile's inputs and the state it loads. -/
def tileOut (x : Vec F S1x512x1024 .f32) (g : Vec F S1x1024 .f32) (w : Vec F S1024x2048 .bf16)
    (lb ng : Vec F S1x512 .f32) (h : Fin 4) (s : Vec F S1x128x128 .f32) :
    FVec F S1x512x128 .bf16 :=
  headOut (tU x g w) (tQe x g w lb) (tKe x g w lb) (tV x g w) (tQb x g w lb) (tKend x g w lb)
    k0_pay23 (tDec x g w lb) (k0_pay24 ng) h s

end Cert.KernelIdeal.Hgrn
-- ==== Proof.Store.lean ====
module

public import proofs.«01_k».proof.Proof.Head
public import proofs.«01_k».proof.Proof.Gen.KernelIdeal.Frame
public import Idealize.ShloMosaic.Lib.Pipeline.ValueKit
public import Idealize.ShloMosaic.Lib.Pointwise

/-! # What one grid point stores

The state buffer after a grid point holds, for each head, the head's state after the tile's chunks;
the output block holds, in the head's columns, the head's rows. -/

@[expose] public section

set_option maxRecDepth 16384

noncomputable section

namespace Cert.KernelIdeal.Hgrn

open Cert.KernelIdeal Cert.KernelIdeal.Gen Idealize.ShloMosaic Idealize.ShloMosaic.TcCoe Idealize.SL.Sem

variable {F : FTy → Type} [FloatOps F]

theorem inb_state (h : Fin 4) (a : Fin 3) :
    (![h.val, 0, 0] : Fin 3 → ℕ) a + S1x128x128.size a ≤ S4x128x128.size a := by
  revert h a; decide

theorem inb_out (h : Fin 4) (a : Fin 3) :
    (![0, 0, 128 * h.val] : Fin 3 → ℕ) a + S1x512x128.size a ≤ S1x512x512.size a := by
  revert h a; decide

/-- Head `h`'s part of the state buffer. -/
abbrev stateRect (h : Fin 4) : Rect S4x128x128 := Rect.unit ![h.val, 0, 0] S1x128x128.size (inb_state h)

/-- Head `h`'s columns of the output block. -/
abbrev outRect (h : Fin 4) : Rect S1x512x512 :=
  Rect.unit ![0, 0, 128 * h.val] S1x512x128.size (inb_out h)

/-- Head `h`'s state in a state buffer. -/
def headOf (xs : Vec F S4x128x128 .f32) (h : Fin 4) : Vec F S1x128x128 .f32 :=
  fun x => xs (ix3 h (x 1 : Fin 128) (x 2 : Fin 128))

/-- The state buffer of zeros. -/
def zeroState : Vec F S4x128x128 .f32 := fun _ => Scalar.ofBits .f32 0x00000000#32

theorem fin_one_val (k : Fin 1) : k.val = 0 := by omega

/-- A load of head `h`'s part reads that head's state. -/
theorem ld_state (xs : Vec F S4x128x128 .f32) (h : Fin 4) :
    View.ld (Val := Elt F) (e' := .f32) xs (stateRect h) = headOf xs h := by
  funext x
  refine congrArg xs (funext fun a => Fin.ext ?_)
  rw [Rect.idx_unit_val]
  have h0 : (x 0 : Fin 1).val = 0 := fin_one_val (x 0)
  fin_cases a
  · show h.val + (x 0 : Fin 1).val = h.val; omega
  · show 0 + (x 1 : Fin 128).val = (x 1 : Fin 128).val; omega
  · show 0 + (x 2 : Fin 128).val = (x 2 : Fin 128).val; omega

theorem not_mem_state {h h' : Fin 4} (hne : h ≠ h') (p q : Fin 128) :
    (ix3 h' p q : S4x128x128.Idx) ∉ (stateRect h).set := by
  intro hm
  have := (Rect.mem_set_unit.mp hm) 0
  have h1 : h.val ≤ h'.val ∧ h'.val < h.val + 1 := this
  exact hne (Fin.ext (by omega))

theorem canon_state_skip {h h' : Fin 4} (hne : h ≠ h') (P : S1x128x128.Idx → Elt F .f32)
    (L : List (View.Piece (Elt F) S4x128x128 .f32)) (p q : Fin 128) :
    View.canon ((⟨stateRect h, P⟩ : View.Piece (Elt F) S4x128x128 .f32) :: L) (ix3 h' p q)
      = View.canon L (ix3 h' p q) :=
  View.canon_cons_of_not_mem _ _ (not_mem_state hne p q)

theorem canon_state_hit (h : Fin 4) (P : S1x128x128.Idx → Elt F .f32)
    (L : List (View.Piece (Elt F) S4x128x128 .f32)) (p q : Fin 128) :
    View.canon ((⟨stateRect h, P⟩ : View.Piece (Elt F) S4x128x128 .f32) :: L) (ix3 h p q)
      = P (ix3 0 p q) := by
  have : (ix3 h p q : S4x128x128.Idx) = (stateRect h).emb (ix3 0 p q : S1x128x128.Idx) := by
    funext a
    refine Fin.ext ?_
    rw [Rect.emb_apply]
    fin_cases a
    · show h.val = h.val + 1 * 0; omega
    · show p.val = 0 + 1 * p.val; omega
    · show q.val = 0 + 1 * q.val; omega
  rw [this]
  exact View.canon_cons_emb (stateRect h) P L _

/-- Every head is one of the four. -/
theorem head_cases (h : Fin 4) : h = 0 ∨ h = 1 ∨ h = 2 ∨ h = 3 := by
  revert h; decide

/-- The four heads' stores, the last first, read at an index of head `h`. -/
theorem canon_state (P : Fin 4 → S1x128x128.Idx → Elt F .f32)
    (L : List (View.Piece (Elt F) S4x128x128 .f32)) (h : Fin 4) (p q : Fin 128) :
    View.canon ((⟨stateRect 3, P 3⟩ : View.Piece (Elt F) S4x128x128 .f32) :: ⟨stateRect 2, P 2⟩ ::
      ⟨stateRect 1, P 1⟩ :: ⟨stateRect 0, P 0⟩ :: L) (ix3 h p q) = P h (ix3 0 p q) := by
  rcases head_cases h with rfl | rfl | rfl | rfl
  · rw [canon_state_skip (by decide), canon_state_skip (by decide), canon_state_skip (by decide)]
    exact canon_state_hit 0 _ _ p q
  · rw [canon_state_skip (by decide), canon_state_skip (by decide)]
    exact canon_state_hit 1 _ _ p q
  · rw [canon_state_skip (by decide)]
    exact canon_state_hit 2 _ _ p q
  · exact canon_state_hit 3 _ _ p q

theorem not_mem_out {h h' : Fin 4} (hne : h ≠ h') (r : Fin 512) (d : Fin 128) (n : Fin 512)
    (hn : n.val = 128 * h'.val + d.val) : (ix3 (0 : Fin 1) r n : S1x512x512.Idx) ∉ (outRect h).set := by
  intro hm
  have := (Rect.mem_set_unit.mp hm) 2
  have h1 : 128 * h.val ≤ n.val ∧ n.val < 128 * h.val + 128 := this
  exact hne (Fin.ext (by omega))

theorem canon_out_skip {h h' : Fin 4} (hne : h ≠ h') (P : S1x512x128.Idx → Elt F .bf16)
    (L : List (View.Piece (Elt F) S1x512x512 .bf16)) (r : Fin 512) (d : Fin 128)
    (n : Fin 512) (hn : n.val = 128 * h'.val + d.val) :
    View.canon ((⟨outRect h, P⟩ : View.Piece (Elt F) S1x512x512 .bf16) :: L) (ix3 0 r n)
      = View.canon L (ix3 0 r n) :=
  View.canon_cons_of_not_mem _ _ (not_mem_out hne r d n hn)

theorem canon_out_hit (h : Fin 4) (P : S1x512x128.Idx → Elt F .bf16)
    (L : List (View.Piece (Elt F) S1x512x512 .bf16)) (r : Fin 512) (d : Fin 128)
    (n : Fin 512) (hn : n.val = 128 * h.val + d.val) :
    View.canon ((⟨outRect h, P⟩ : View.Piece (Elt F) S1x512x512 .bf16) :: L) (ix3 0 r n)
      = P (ix3 0 r d) := by
  have : (ix3 (0 : Fin 1) r n : S1x512x512.Idx) = (outRect h).emb (ix3 0 r d : S1x512x128.Idx) := by
    funext a
    refine Fin.ext ?_
    rw [Rect.emb_apply]
    fin_cases a
    · show 0 = 0 + 1 * 0; omega
    · show r.val = 0 + 1 * r.val; omega
    · show n.val = 128 * h.val + 1 * d.val; omega
  rw [this]
  exact View.canon_cons_emb (outRect h) P L _

/-- The four heads' stores of the output block, the last first, read at a column of head `h`. -/
theorem canon_out (P : Fin 4 → S1x512x128.Idx → Elt F .bf16) (h : Fin 4) (r : Fin 512) (d : Fin 128)
    (n : Fin 512) (hn : n.val = 128 * h.val + d.val) :
    View.canon [(⟨outRect 3, P 3⟩ : View.Piece (Elt F) S1x512x512 .bf16), ⟨outRect 2, P 2⟩,
      ⟨outRect 1, P 1⟩, ⟨outRect 0, P 0⟩] (ix3 0 r n) = P h (ix3 0 r d) := by
  rcases head_cases h with rfl | rfl | rfl | rfl
  · rw [canon_out_skip (by decide) _ _ r d n hn, canon_out_skip (by decide) _ _ r d n hn,
      canon_out_skip (by decide) _ _ r d n hn]
    exact canon_out_hit 0 _ _ r d n hn
  · rw [canon_out_skip (by decide) _ _ r d n hn, canon_out_skip (by decide) _ _ r d n hn]
    exact canon_out_hit 1 _ _ r d n hn
  · rw [canon_out_skip (by decide) _ _ r d n hn]
    exact canon_out_hit 2 _ _ r d n hn
  · exact canon_out_hit 3 _ _ r d n hn

section Point

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x2048 .bf16) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512x512 .bf16) (harg7 : arg7.IsWhole)
  (arg8 : Memref sig .tc .vmem S4x128x128 .f32) (harg8 : arg8.IsWhole)
  (x : Vec F S1x512x1024 .f32) (g : Vec F S1x1024 .f32) (w : Vec F S1024x2048 .bf16)
  (lb ng : Vec F S1x512 .f32) (xs : Vec F S4x128x128 .f32)

theorem load_x : View.readAt (Elt F) arg2.view
    (Rect.unit ![0, 0, 0] S1x512x1024.size inb_S1x512x1024_S1x512x1024_0_0_0).toLoadRect
    (harg2.unread x) = x := by
  rw [View.readAt_eq_ld, harg2.read_unread]
  exact View.ld_unit_zero (S := S1x512x1024) (by funext a; fin_cases a <;> rfl) _ _

theorem load_g : View.readAt (Elt F) arg3.view
    (Rect.unit ![0, 0] S1x1024.size inb_S1x1024_S1x1024_0_0).toLoadRect (harg3.unread g) = g := by
  rw [View.readAt_eq_ld, harg3.read_unread]
  exact View.ld_unit_zero (S := S1x1024) (by funext a; fin_cases a <;> rfl) _ _

theorem load_w : View.readAt (Elt F) arg4.view
    (Rect.unit ![0, 0] S1024x2048.size inb_S1024x2048_S1024x2048_0_0).toLoadRect (harg4.unread w) = w := by
  rw [View.readAt_eq_ld, harg4.read_unread]
  exact View.ld_unit_zero (S := S1024x2048) (by funext a; fin_cases a <;> rfl) _ _

theorem load_row (arg : Memref sig .tc .vmem S1x512 .f32) (harg : arg.IsWhole) :
    View.readAt (Elt F) arg.view
    (Rect.unit ![0, 0] S1x512.size inb_S1x512_S1x512_0_0).toLoadRect (harg.unread lb) = lb := by
  rw [View.readAt_eq_ld, harg.read_unread]
  exact View.ld_unit_zero (S := S1x512) (by funext a; fin_cases a <;> rfl) _ _

theorem load_state (h : Fin 4) : View.readAt (Elt F) arg8.view (stateRect h).toLoadRect
    (harg8.unread xs) = headOf xs h := by
  rw [View.readAt_eq_ld, harg8.read_unread]
  exact ld_state xs h

/-- The state's pieces of a point that starts from the state `xs`. -/
theorem pieces_B (hc) :
    (kernelRun0_B c i arg2 harg2 arg3 harg3 arg4 harg4 arg5 harg5 arg6 harg6 arg7 harg7 arg8 harg8 hc
      x g w lb ng xs).2.1
    = [⟨stateRect 3, tileState x g w lb 3 (headOf xs 3)⟩, ⟨stateRect 2, tileState x g w lb 2 (headOf xs 2)⟩,
       ⟨stateRect 1, tileState x g w lb 1 (headOf xs 1)⟩, ⟨stateRect 0, tileState x g w lb 0 (headOf xs 0)⟩] := by
  have e := load_state arg8 harg8 xs
  rw [← e 0, ← e 1, ← e 2, ← e 3]
  conv_rhs => rw [← load_x arg2 harg2 x, ← load_g arg3 harg3 g, ← load_w arg4 harg4 w,
    ← load_row lb arg5 harg5]
  rfl

/-- The output's pieces of a point that starts from the state `xs`. -/
theorem pieces_out_B (hc) :
    (kernelRun0_B c i arg2 harg2 arg3 harg3 arg4 harg4 arg5 harg5 arg6 harg6 arg7 harg7 arg8 harg8 hc
      x g w lb ng xs).1
    = [⟨outRect 3, tileOut x g w lb ng 3 (headOf xs 3)⟩, ⟨outRect 2, tileOut x g w lb ng 2 (headOf xs 2)⟩,
       ⟨outRect 1, tileOut x g w lb ng 1 (headOf xs 1)⟩, ⟨outRect 0, tileOut x g w lb ng 0 (headOf xs 0)⟩] := by
  have e := load_state arg8 harg8 xs
  rw [← e 0, ← e 1, ← e 2, ← e 3]
  conv_rhs => rw [← load_x arg2 harg2 x, ← load_g arg3 harg3 g, ← load_w arg4 harg4 w,
    ← load_row lb arg5 harg5, ← load_row ng arg6 harg6]
  rfl

/-- The state a point leaves, from the state `xs` it starts from. -/
theorem sout_B (hc) (h : Fin 4) (p q : Fin 128) :
    sout0_B_0 c i arg2 harg2 arg3 harg3 arg4 harg4 arg5 harg5 arg6 harg6 arg7 harg7 arg8 harg8 hc
      x g w lb ng xs (ix3 h p q) = tileState x g w lb h (headOf xs h) (ix3 0 p q) := by
  unfold sout0_B_0
  rw [View.read_writes_eq_canon _ _ _ (scover0_B_0 c i arg2 harg2 arg3 harg3 arg4 harg4 arg5 harg5
    arg6 harg6 arg7 harg7 arg8 harg8 hc x g w lb ng xs), pieces_B]
  exact canon_state (fun h => tileState x g w lb h (headOf xs h)) [] h p q

/-- The output block a point leaves, from the state `xs` it starts from. -/
theorem out_B (hc) (h : Fin 4) (r : Fin 512) (d : Fin 128) (n : Fin 512)
    (hn : n.val = 128 * h.val + d.val) :
    out0_B_5 c i arg2 harg2 arg3 harg3 arg4 harg4 arg5 harg5 arg6 harg6 arg7 harg7 arg8 harg8 hc
      x g w lb ng xs (ix3 0 r n) = tileOut x g w lb ng h (headOf xs h) (ix3 0 r d) := by
  unfold out0_B_5
  rw [View.read_writes_eq_canon _ _ _ (cover0_B_5 c i arg2 harg2 arg3 harg3 arg4 harg4 arg5 harg5
    arg6 harg6 arg7 harg7 arg8 harg8 hc x g w lb ng xs), pieces_out_B]
  exact canon_out (fun h => tileOut x g w lb ng h (headOf xs h)) h r d n hn

/-! ### A point that clears the state first -/

/-- The clearing store. -/
abbrev clear : View.Piece (Elt F) S4x128x128 .f32 :=
  ⟨Rect.unit ![0, 0, 0] S4x128x128.size inb_S4x128x128_S4x128x128_0_0_0, k0_pay2⟩

theorem canon_clear (y : S4x128x128.Idx) : View.canon [clear (F := F)] y = zeroState y := by
  rw [View.canon_unit_zero (S := S4x128x128) (by funext a; fin_cases a <;> rfl)]
  rfl

/-- Reading head `h`'s part after the clearing and the stores of earlier heads reads zeros. -/
theorem readCov_clear (L : List (View.Piece (Elt F) S4x128x128 .f32)) (h : Fin 4)
    (hcov : ∀ y, ∃ p ∈ L, y ∈ p.1.set)
    (hL : ∀ p q : Fin 128, View.canon L (ix3 h p q) = zeroState (ix3 h p q)) :
    arg8.view.readCov L (stateRect h).toLoadRect = headOf zeroState h := by
  unfold View.readCov
  rw [View.readAt_eq_ld, View.read_writes_eq_canon _ _ _ hcov]
  refine (ld_state _ h).trans ?_
  funext y
  exact hL (y 1) (y 2)

theorem clear_covers (L : List (View.Piece (Elt F) S4x128x128 .f32)) (hL : clear ∈ L)
    (y : S4x128x128.Idx) : ∃ p ∈ L, y ∈ p.1.set :=
  ⟨clear, hL, View.mem_set_unit_zero (by funext a; fin_cases a <;> rfl)
    inb_S4x128x128_S4x128x128_0_0_0 y⟩

/-- The state's pieces after the first `k` heads of a point that clears the state. -/
def clearPieces : ℕ → List (View.Piece (Elt F) S4x128x128 .f32)
  | 0 => [clear]
  | k + 1 => ⟨stateRect ⟨k % 4, Nat.mod_lt k (by decide)⟩,
      tileState x g w lb ⟨k % 4, Nat.mod_lt k (by decide)⟩
        (arg8.view.readCov (clearPieces k)
          (stateRect ⟨k % 4, Nat.mod_lt k (by decide)⟩).toLoadRect)⟩ :: clearPieces k

theorem clear_mem (k : ℕ) : clear ∈ clearPieces arg8 x g w lb k := by
  induction k with
  | zero => exact List.mem_singleton_self _
  | succ k ih => exact List.mem_cons_of_mem _ ih

/-- Before head `h` stores, its part is zero. -/
theorem canon_clearPieces (k : ℕ) (h : Fin 4) (hk : k ≤ h.val) (p q : Fin 128) :
    View.canon (clearPieces arg8 x g w lb k) (ix3 h p q) = zeroState (ix3 h p q) := by
  induction k with
  | zero => exact canon_clear _
  | succ k ih =>
    refine (canon_state_skip (fun e => ?_) _ _ p q).trans (ih (by omega))
    have := congrArg Fin.val e
    have hm : k % 4 = h.val := this
    have := h.isLt
    omega

theorem readCov_clearPieces (h : Fin 4) :
    arg8.view.readCov (clearPieces arg8 x g w lb h.val) (stateRect h).toLoadRect
      = headOf zeroState h :=
  readCov_clear arg8 _ h (clear_covers _ (clear_mem arg8 x g w lb _))
    (canon_clearPieces arg8 x g w lb h.val h le_rfl)

/-- The state's pieces of a point that clears the state. -/
theorem pieces_A (hc) :
    (kernelRun0_A c i arg2 harg2 arg3 harg3 arg4 harg4 arg5 harg5 arg6 harg6 arg7 harg7 arg8 harg8 hc
      x g w lb ng).2.1
    = [⟨stateRect 3, tileState x g w lb 3 (headOf zeroState 3)⟩,
       ⟨stateRect 2, tileState x g w lb 2 (headOf zeroState 2)⟩,
       ⟨stateRect 1, tileState x g w lb 1 (headOf zeroState 1)⟩,
       ⟨stateRect 0, tileState x g w lb 0 (headOf zeroState 0)⟩, clear] := by
  have e := readCov_clearPieces arg8 x g w lb
  rw [← e 0, ← e 1, ← e 2, ← e 3]
  conv_rhs => rw [← load_x arg2 harg2 x, ← load_g arg3 harg3 g, ← load_w arg4 harg4 w,
    ← load_row lb arg5 harg5]
  rfl

/-- The output's pieces of a point that clears the state. -/
theorem pieces_out_A (hc) :
    (kernelRun0_A c i arg2 harg2 arg3 harg3 arg4 harg4 arg5 harg5 arg6 harg6 arg7 harg7 arg8 harg8 hc
      x g w lb ng).1
    = [⟨outRect 3, tileOut x g w lb ng 3 (headOf zeroState 3)⟩,
       ⟨outRect 2, tileOut x g w lb ng 2 (headOf zeroState 2)⟩,
       ⟨outRect 1, tileOut x g w lb ng 1 (headOf zeroState 1)⟩,
       ⟨outRect 0, tileOut x g w lb ng 0 (headOf zeroState 0)⟩] := by
  have e := readCov_clearPieces arg8 x g w lb
  rw [← e 0, ← e 1, ← e 2, ← e 3]
  conv_rhs => rw [← load_x arg2 harg2 x, ← load_g arg3 harg3 g, ← load_w arg4 harg4 w,
    ← load_row lb arg5 harg5, ← load_row ng arg6 harg6]
  rfl

/-- The state a point that clears it leaves. -/
theorem sout_A (hc) (h : Fin 4) (p q : Fin 128) :
    sout0_A_0 c i arg2 harg2 arg3 harg3 arg4 harg4 arg5 harg5 arg6 harg6 arg7 harg7 arg8 harg8 hc
      x g w lb ng (ix3 h p q) = tileState x g w lb h (headOf zeroState h) (ix3 0 p q) := by
  unfold sout0_A_0
  rw [View.read_writes_eq_canon _ _ _ (scover0_A_0 c i arg2 harg2 arg3 harg3 arg4 harg4 arg5 harg5
    arg6 harg6 arg7 harg7 arg8 harg8 hc x g w lb ng), pieces_A]
  exact canon_state (fun h => tileState x g w lb h (headOf zeroState h)) [clear] h p q

/-- The output block a point that clears the state leaves. -/
theorem out_A (hc) (h : Fin 4) (r : Fin 512) (d : Fin 128) (n : Fin 512)
    (hn : n.val = 128 * h.val + d.val) :
    out0_A_5 c i arg2 harg2 arg3 harg3 arg4 harg4 arg5 harg5 arg6 harg6 arg7 harg7 arg8 harg8 hc
      x g w lb ng (ix3 0 r n) = tileOut x g w lb ng h (headOf zeroState h) (ix3 0 r d) := by
  unfold out0_A_5
  rw [View.read_writes_eq_canon _ _ _ (cover0_A_5 c i arg2 harg2 arg3 harg3 arg4 harg4 arg5 harg5
    arg6 harg6 arg7 harg7 arg8 harg8 hc x g w lb ng), pieces_out_A]
  exact canon_out (fun h => tileOut x g w lb ng h (headOf zeroState h)) h r d n hn

end Point

end Cert.KernelIdeal.Hgrn
-- ==== Proof.Spec.lean ====
module

public import Idealize.ShloMosaic.Lib.Pointwise
public import Idealize.ShloMosaic.Lib.Pointwise.Tactic

/-! # The mixer's mathematics

The gated recurrence with a vector decay, in chunks of 64 tokens, over the extended reals.  Every
definition is stated from the projected rows of one chunk (`Chunk`), so that the kernel (which walks
the sequence tile by tile) and the reference (which holds all of it) are read against the same
terms. -/

@[expose] public section

noncomputable section

namespace Cert.Hgrn

open Idealize.ShloMosaic

/-- The projected rows of one chunk: 64 tokens, 2048 columns (queries, gates, values, output gates). -/
abbrev Chunk := Fin 64 → Fin 2048 → EReal

/-- Column `e` of group `k` of the projection. -/
def col (k : Fin 4) (e : Fin 512) : Fin 2048 := ⟨512 * k.val + e.val, by omega⟩

/-- Column `d` of head `h`. -/
def hcol (h : Fin 4) (d : Fin 128) : Fin 512 := ⟨128 * h.val + d.val, by omega⟩

theorem col_zero (e : Fin 512) (h : e.val < 2048) : (⟨e.val, h⟩ : Fin 2048) = col 0 e :=
  Fin.ext (by simp [col])

theorem col_three (h : Fin 4) (d : Fin 128) (hh : 1536 + 128 * h.val + d.val < 2048) :
    (⟨1536 + 128 * h.val + d.val, hh⟩ : Fin 2048) = col 3 (hcol h d) :=
  Fin.ext (by simp [col, hcol]; omega)

variable (lb : Fin 512 → EReal) (u : Chunk)

/-- The forget gate: `lb + (1 - lb) * sigmoid`. -/
def forget (t : Fin 64) (e : Fin 512) : EReal :=
  lb e + (1 - lb e) * Ideal.logistic (u t (col 1 e))

/-- The key: `(1 - lb) * sigmoid` of the negated gate. -/
def key (t : Fin 64) (e : Fin 512) : EReal :=
  (1 - lb e) * Ideal.logistic (-(u t (col 1 e)))

/-- The running sum of the gates' logarithms inside the chunk. -/
def cum (t : Fin 64) (e : Fin 512) : EReal :=
  ∑ s : Fin 64, if s ≤ t then Ideal.log (forget lb u s e) else 0

/-- The query against the middle of the chunk. -/
def qMid (t : Fin 64) (e : Fin 512) : EReal :=
  u t (col 0 e) * Ideal.exp (cum lb u t e - cum lb u 31 e)

/-- The key against the middle of the chunk. -/
def kMid (t : Fin 64) (e : Fin 512) : EReal :=
  key lb u t e * Ideal.exp (cum lb u 31 e - cum lb u t e)

/-- The key against the end of the chunk. -/
def kEnd (t : Fin 64) (e : Fin 512) : EReal :=
  key lb u t e * Ideal.exp (cum lb u 63 e - cum lb u t e)

/-- The query against the start of the chunk. -/
def qStart (t : Fin 64) (e : Fin 512) : EReal :=
  u t (col 0 e) * Ideal.exp (cum lb u t e)

/-- The chunk's decay. -/
def decay (e : Fin 512) : EReal := Ideal.exp (cum lb u 63 e)

/-- The value. -/
def value (t : Fin 64) (e : Fin 512) : EReal := u t (col 2 e)

/-- The score of token `t` for token `s` of its chunk, in head `h`. -/
def score (h : Fin 4) (t s : Fin 64) : EReal :=
  ∑ d : Fin 128, qMid lb u t (hcol h d) * kMid lb u s (hcol h d)

/-- What a token takes from its own chunk. -/
def own (h : Fin 4) (t : Fin 64) (p : Fin 128) : EReal :=
  ∑ s : Fin 64, if s ≤ t then score lb u h t s * value u s (hcol h p) else 0

/-- The chunk's update of the state, at value column `p` and key column `q` of head `h`. -/
def update (h : Fin 4) (p q : Fin 128) : EReal :=
  ∑ s : Fin 64, value u s (hcol h p) * kEnd lb u s (hcol h q)

/-- The state before chunk `n` of a sequence of chunks. -/
def state (us : ℕ → Chunk) (h : Fin 4) (p q : Fin 128) : ℕ → EReal
  | 0 => 0
  | n + 1 => state us h p q n * decay lb (us n) (hcol h q) + update lb (us n) h p q

/-- A token's mixed value: from its own chunk and from the state `st`. -/
def mix (st : Fin 128 → Fin 128 → EReal) (h : Fin 4) (t : Fin 64) (p : Fin 128) : EReal :=
  own lb u h t p + ∑ q : Fin 128, qStart lb u t (hcol h q) * st p q

/-- The head's norm of a row `o`. -/
def headNorm (o : Fin 128 → EReal) (p : Fin 128) : EReal :=
  o p * Ideal.rsqrt (Ideal.div (∑ q : Fin 128, o q * o q) (Ideal.ofBits .f32 0x43000000#32)
    + Ideal.ofBits .f32 0x358637BD#32)

/-- The result at one token: the head's norm, its weight and the gate `z * sigmoid z`. -/
def result (ng : Fin 512 → EReal) (st : Fin 128 → Fin 128 → EReal) (h : Fin 4) (t : Fin 64)
    (p : Fin 128) : EReal :=
  headNorm (mix lb u st h t) p * ng (hcol h p)
    * (u t (col 3 (hcol h p)) * Ideal.logistic (u t (col 3 (hcol h p))))

/-- A row's projection: the root mean square norm with its weight, times the matrix. -/
def project (x : Fin 1024 → EReal) (g : Fin 1024 → EReal) (w : Fin 1024 → Fin 2048 → EReal)
    (n : Fin 2048) : EReal :=
  ∑ j : Fin 1024, x j * Ideal.rsqrt (Ideal.div (∑ i : Fin 1024, x i * x i)
      (Ideal.ofBits .f32 0x44800000#32) + Ideal.ofBits .f32 0x358637BD#32) * g j * w j n

/-- The chunks of one sequence: chunk `n` holds the projections of rows `64 n` to `64 n + 63`. -/
def chunks (x : Fin 2048 → Fin 1024 → EReal) (g : Fin 1024 → EReal)
    (w : Fin 1024 → Fin 2048 → EReal) (n : ℕ) : Chunk :=
  fun t k => project (x ⟨(64 * n + t.val) % 2048, Nat.mod_lt _ (by decide)⟩) g w k

/-- The mixer at row `r` and column `d` of a sequence. -/
def mixer (x : Fin 2048 → Fin 1024 → EReal) (g : Fin 1024 → EReal)
    (w : Fin 1024 → Fin 2048 → EReal) (lb ng : Fin 512 → EReal) (r : Fin 2048) (d : Fin 512) :
    EReal :=
  result lb (chunks x g w (r.val / 64)) ng
    (fun p q => state lb (chunks x g w) ⟨d.val / 128, by omega⟩ p q (r.val / 64))
    ⟨d.val / 128, by omega⟩ ⟨r.val % 64, by omega⟩ ⟨d.val % 128, by omega⟩

/-- The sigmoid written with a hyperbolic tangent is the logistic function, at every extended real. -/
theorem half_tanh (z : EReal) :
    Ideal.ofBits .f32 0x3F000000#32 * Ideal.tanh (Ideal.ofBits .f32 0x3F000000#32 * z)
      + Ideal.ofBits .f32 0x3F000000#32 = Ideal.logistic z := by
  have hh : Ideal.ofBits .f32 0x3F000000#32 = ((1 / 2 : ℝ) : EReal) := by
    simp [Ideal.ofBits, Ideal.ieee, -EReal.coe_mul]; norm_num
  rw [hh]
  induction z using EReal.rec with
  | bot =>
    rw [EReal.coe_mul_bot_of_pos (by norm_num), Ideal.tanh_bot, Ideal.logistic_bot]
    have : (-1 : EReal) = ((-1 : ℝ) : EReal) := by simp
    rw [this, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by
      rw [← Real.exp_add]; congr 1; ring
    have e2 : Real.exp (1 / 2 * r) * Real.exp (-(1 / 2 * r)) = 1 := by
      rw [← Real.exp_add]; simp
    have p1 := Real.exp_pos (1 / 2 * r)
    have p2 := Real.exp_pos (-(1 / 2 * r))
    rw [e1]
    generalize Real.exp (1 / 2 * r) = a at *
    generalize Real.exp (-(1 / 2 * r)) = b at *
    have p3 : a + b ≠ 0 := by positivity
    have p4 : 1 + b * b ≠ 0 := by positivity
    field_simp
    linear_combination 2 * b * e2

end Cert.Hgrn
-- ==== Proof.Cum.lean ====
module

public import proofs.«01_k».proof.Proof.Head
public import proofs.«01_k».proof.Proof.Spec

/-! # The running sum by shifts

The kernel sums the logarithms of the gates inside a chunk by six steps: step `k` adds to each row
the row `2 ^ k` above it, when that row is in the same chunk.  After six steps each row holds the
sum over its chunk up to itself. -/

@[expose] public section

set_option maxRecDepth 16384

noncomputable section

namespace Cert.KernelIdeal.Hgrn

open Cert.KernelIdeal Cert.KernelIdeal.Gen Idealize.ShloMosaic Idealize.SL.Sem Cert.Hgrn

/-- The sum of the last `2 ^ k` rows up to row `r`, or of as many as row `r`'s chunk has. -/
def windowSum (f : ℕ → EReal) (k r : ℕ) : EReal :=
  ∑ j ∈ Finset.range (min (2 ^ k) (r % 64 + 1)), f (r - j)

/-- One step doubles the window. -/
theorem windowSum_succ (f : ℕ → EReal) (k r : ℕ) :
    windowSum f k r + (if 2 ^ k ≤ r % 64 then windowSum f k (r - 2 ^ k) else 0)
      = windowSum f (k + 1) r := by
  unfold windowSum
  have hp : 2 ^ (k + 1) = 2 ^ k + 2 ^ k := by ring
  rw [hp]
  generalize 2 ^ k = a
  split
  · rename_i h
    have e1 : min a (r % 64 + 1) = a := by omega
    have e2 : (r - a) % 64 = r % 64 - a := by omega
    have e3 : min (a + a) (r % 64 + 1) = a + min a (r % 64 - a + 1) := by omega
    rw [e1, e2, e3, Finset.sum_range_add]
    congr 1
    refine Finset.sum_congr rfl fun j _ => ?_
    rw [Nat.sub_sub]
  · rename_i h
    have e1 : min a (r % 64 + 1) = r % 64 + 1 := by omega
    have e3 : min (a + a) (r % 64 + 1) = r % 64 + 1 := by omega
    rw [e1, e3, add_zero]

/-- After six steps the window is the chunk up to the row. -/
theorem windowSum_six (f : ℕ → EReal) (c : ℕ) (t : Fin 64) :
    windowSum f 6 (64 * c + t.val) = ∑ s : Fin 64, if s ≤ t then f (64 * c + s.val) else 0 := by
  unfold windowSum
  have e1 : min (2 ^ 6) ((64 * c + t.val) % 64 + 1) = t.val + 1 := by omega
  rw [e1, ← Finset.sum_range_reflect, ← Finset.sum_filter]
  refine Finset.sum_bij' (fun a _ => (⟨a % 64, Nat.mod_lt _ (by decide)⟩ : Fin 64))
    (fun s _ => s.val) ?_ ?_ ?_ ?_ ?_
  · intro a ha
    simp only [Finset.mem_range] at ha
    simp only [Finset.mem_filter, Finset.mem_univ, true_and, Fin.le_def]
    omega
  · intro s hs
    simp only [Finset.mem_filter, Finset.mem_univ, true_and, Fin.le_def] at hs
    simp only [Finset.mem_range]
    omega
  · intro a ha
    simp only [Finset.mem_range] at ha
    show a % 64 = a
    omega
  · intro s hs
    apply Fin.ext
    show s.val % 64 = s.val
    omega
  · intro a ha
    simp only [Finset.mem_range] at ha
    show f _ = f (64 * c + a % 64)
    congr 1
    omega

/-- One shift: to each row the row `s` above it, when it is in the same chunk. -/
def rollStep (s : BitVec 32) (x : FVec Ideal S512x512 .f32) : FVec Ideal S512x512 .f32 :=
  addf x (select (cmpi .sge k0_pay12 (broadcast S512x512 s))
    (dynamicRotate 0 s none x rotates_S512x512_d0)
    (broadcast S512x512 (Scalar.ofBits (F := Ideal) .f32 0x00000000#32)))

/-- The mask of a shift: the row's place in its chunk is at least the shift. -/
theorem roll_mask : ∀ (k : Fin 6) (r : Fin 512),
    IntOp.cmpi .sge (IntOp.andi (BitVec.ofNat 32 r.val) 63#32) (BitVec.ofNat 32 (2 ^ k.val))
      = if 2 ^ k.val ≤ r.val % 64 then 1#1 else 0#1 := by decide +kernel

/-- The shift as a number. -/
theorem roll_amount : ∀ k : Fin 6, (BitVec.ofNat 32 (2 ^ k.val)).toNat % 512 = 2 ^ k.val := by
  decide

/-- The entry of column `e` at row `r`, zero outside the tile. -/
def colOf (x : FVec Ideal S512x512 .f32) (e : Fin 512) (r : ℕ) : EReal :=
  if h : r < 512 then x (ix2 ⟨r, h⟩ e) else 0

theorem colOf_val (x : FVec Ideal S512x512 .f32) (e r : Fin 512) :
    colOf x e r.val = x (ix2 r e) := by
  simp [colOf]

/-- One shift, read at an entry. -/
theorem rollStep_at (k : Fin 6) (x : FVec Ideal S512x512 .f32) (r e : Fin 512) :
    rollStep (BitVec.ofNat 32 (2 ^ k.val)) x (ix2 r e)
      = x (ix2 r e) + if 2 ^ k.val ≤ r.val % 64 then colOf x e (r.val - 2 ^ k.val) else 0 := by
  pointwise [rollStep, k0_pay12]
  rw [roll_mask k r]
  split
  · rename_i h
    have h2 : 2 ^ k.val ≤ r.val := le_trans h (Nat.mod_le _ _)
    have h3 : r.val - 2 ^ k.val < 512 := lt_of_le_of_lt (Nat.sub_le _ _) r.isLt
    have ha := roll_amount k
    simp only [colOf, h3, dif_pos]
    refine congrArg (x (ix2 r e) + ·) (congrArg x (congrArg (fun i => ix2 i e) (Fin.ext ?_)))
    show (r.val + 512 - (BitVec.ofNat 32 (2 ^ k.val)).toNat % 512) % 512 = r.val - 2 ^ k.val
    rw [ha]
    omega
  · rfl

/-- A window sum, then one shift. -/
theorem rollStep_window (f : Fin 512 → ℕ → EReal) (k : Fin 6) (x : FVec Ideal S512x512 .f32)
    (hx : ∀ r e : Fin 512, x (ix2 r e) = windowSum (f e) k.val r.val) (r e : Fin 512) :
    rollStep (BitVec.ofNat 32 (2 ^ k.val)) x (ix2 r e) = windowSum (f e) (k.val + 1) r.val := by
  rw [rollStep_at, ← windowSum_succ, hx]
  congr 1
  split
  · rename_i h
    have h2 : 2 ^ k.val ≤ r.val := le_trans h (Nat.mod_le _ _)
    have h3 : r.val - 2 ^ k.val < 512 := lt_of_le_of_lt (Nat.sub_le _ _) r.isLt
    simp only [colOf, h3, dif_pos, hx]
  · rfl

/-- The six shifts of the logarithms of a tile. -/
def rolled (y : FVec Ideal S512x512 .f32) : FVec Ideal S512x512 .f32 :=
  rollStep (BitVec.ofNat 32 (2 ^ (5 : Fin 6).val)) (rollStep (BitVec.ofNat 32 (2 ^ (4 : Fin 6).val))
    (rollStep (BitVec.ofNat 32 (2 ^ (3 : Fin 6).val)) (rollStep (BitVec.ofNat 32 (2 ^ (2 : Fin 6).val))
      (rollStep (BitVec.ofNat 32 (2 ^ (1 : Fin 6).val)) (rollStep (BitVec.ofNat 32 (2 ^ (0 : Fin 6).val))
        (log y))))))

/-- The printed chain of shifts is the six shifts. -/
theorem pay16_rolled (y : FVec Ideal S512x512 .f32) :
    k0_pay16 (k0_pay13 y) k0_pay14 (k0_pay15 y) (Scalar.ofBits .f32 0x00000000#32) = rolled y := rfl

/-- Row `t` of chunk `c` of a tile. -/
def row (c : Fin 8) (t : Fin 64) : Fin 512 := ⟨64 * c.val + t.val, by omega⟩

/-- The six shifts give the running sum inside the chunk. -/
theorem rolled_at (y : FVec Ideal S512x512 .f32) (c : Fin 8) (t : Fin 64) (e : Fin 512) :
    rolled y (ix2 (row c t) e)
      = ∑ s : Fin 64, if s ≤ t then Ideal.log (y (ix2 (row c s) e)) else 0 := by
  have h0 : ∀ r e : Fin 512, (log y : FVec Ideal S512x512 .f32) (ix2 r e)
      = windowSum (fun r => colOf (log y) e r) 0 r.val := by
    intro r e
    have : min (2 ^ 0) (r.val % 64 + 1) = 1 := by omega
    rw [windowSum, this, Finset.sum_range_one, Nat.sub_zero, colOf_val]
  have h := rollStep_window _ 5 _ (rollStep_window _ 4 _ (rollStep_window _ 3 _
    (rollStep_window _ 2 _ (rollStep_window _ 1 _ (rollStep_window _ 0 _ h0))))) (row c t) e
  refine (show rolled y (ix2 (row c t) e) = _ from h).trans ?_
  refine (windowSum_six (fun r => colOf (log y) e r) c.val t).trans ?_
  refine Finset.sum_congr rfl fun s _ => ?_
  split
  · exact (colOf_val (log y) e (row c s)).trans (by pointwise)
  · rfl

end Cert.KernelIdeal.Hgrn
-- ==== Proof.Tile.lean ====
module

public import proofs.«01_k».proof.Proof.Cum

/-! # What a tile's arrays hold

Each array of a tile, read at row `t` of chunk `c`, is the specification's term for the chunk of
projected rows. -/

@[expose] public section

set_option maxRecDepth 16384

noncomputable section

namespace Cert.KernelIdeal.Hgrn

open Cert.KernelIdeal Cert.KernelIdeal.Gen Idealize.ShloMosaic Idealize.SL.Sem Cert.Hgrn

variable (x : Vec Ideal S1x512x1024 .f32) (g : Vec Ideal S1x1024 .f32)
  (w : Vec Ideal S1024x2048 .bf16) (lb : Vec Ideal S1x512 .f32)

/-- Chunk `c` of the tile's projected rows. -/
def tileChunk (c : Fin 8) : Chunk := fun t n => tU x g w (ix2 (row c t) n)

/-- A one-row array as a function of its column. -/
def rowFn (lb : Vec Ideal S1x512 .f32) : Fin 512 → EReal := fun e => lb (ix2 0 e)

/-- The projected rows. -/
theorem tU_at (r : Fin 512) (n : Fin 2048) :
    tU x g w (ix2 r n) = project (fun j => x (ix3 0 r j)) (fun j => g (ix2 0 j))
      (fun j n => w (ix2 j n)) n := by
  pointwise [k0_pay3, dot_S512x1024_S1024x2048_S512x2048_1_0_0_1_n_n]
  rfl

/-- The forget gates. -/
theorem tF_at (c : Fin 8) (t : Fin 64) (e : Fin 512) :
    tF x g w lb (ix2 (row c t) e) = forget (rowFn lb) (tileChunk x g w c) t e := by
  pointwise [k0_pay7, k0_pay5, k0_pay6, k0_pay8, k0_pay9]
  rfl

/-- The keys. -/
theorem tK_at (c : Fin 8) (t : Fin 64) (e : Fin 512) :
    tK x g w lb (ix2 (row c t) e) = key (rowFn lb) (tileChunk x g w c) t e := by
  pointwise [k0_pay10, k0_pay5, k0_pay6, k0_pay8, k0_pay9]
  rw [zero_sub]
  rfl

/-- The values. -/
theorem tV_at (c : Fin 8) (t : Fin 64) (e : Fin 512) :
    tV x g w (ix2 (row c t) e) = value (tileChunk x g w c) t e := by
  pointwise [k0_pay11]
  rfl

/-- The running sum of the logarithms of the gates. -/
theorem cum_at (c : Fin 8) (t : Fin 64) (e : Fin 512) :
    k0_pay16 (k0_pay13 (tF x g w lb)) k0_pay14 (k0_pay15 (tF x g w lb)) (0 : EReal)
        (ix2 (row c t) e)
      = cum (rowFn lb) (tileChunk x g w c) t e := by
  have h : (0 : EReal) = Scalar.ofBits (F := Ideal) .f32 0x00000000#32 := by simp
  rw [h]
  refine (congrFun (pay16_rolled (tF x g w lb)) _).trans ?_
  rw [rolled_at]
  simp only [tF_at]
  rfl

theorem row_at (c : Fin 8) (t k : Fin 64) (m : ℕ) (hm : m = k.val)
    (h : (row c t).val / 64 * 64 + m < 512) :
    (⟨(row c t).val / 64 * 64 + m, h⟩ : Fin 512) = row c k :=
  Fin.ext (by simp only [row]; omega)

theorem row_last (c : Fin 8) (h : c.val * 64 + 63 < 512) :
    (⟨c.val * 64 + 63, h⟩ : Fin 512) = row c 63 :=
  Fin.ext (by show c.val * 64 + 63 = 64 * c.val + 63; omega)

/-- The queries against the middle of the chunk. -/
theorem tQe_at (c : Fin 8) (t : Fin 64) (e : Fin 512) :
    tQe x g w lb (ix2 (row c t) e) = qMid (rowFn lb) (tileChunk x g w c) t e := by
  pointwise [k0_pay18, k0_pay17, k0_pay4]
  rw [cum_at, row_at c t 31 31 rfl, cum_at, col_zero]
  rfl

/-- The keys against the middle of the chunk. -/
theorem tKe_at (c : Fin 8) (t : Fin 64) (e : Fin 512) :
    tKe x g w lb (ix2 (row c t) e) = kMid (rowFn lb) (tileChunk x g w c) t e := by
  pointwise [k0_pay19, k0_pay17]
  rw [cum_at, row_at c t 31 31 rfl, cum_at, tK_at]
  rfl

/-- The keys against the end of the chunk. -/
theorem tKend_at (c : Fin 8) (t : Fin 64) (e : Fin 512) :
    tKend x g w lb (ix2 (row c t) e) = kEnd (rowFn lb) (tileChunk x g w c) t e := by
  pointwise [k0_pay20]
  rw [cum_at, row_at c t 63 63 rfl, cum_at, tK_at]
  rfl

/-- The queries against the start of the chunk. -/
theorem tQb_at (c : Fin 8) (t : Fin 64) (e : Fin 512) :
    tQb x g w lb (ix2 (row c t) e) = qStart (rowFn lb) (tileChunk x g w c) t e := by
  pointwise [k0_pay21, k0_pay4]
  rw [cum_at, col_zero]
  rfl

/-- The decay of each chunk. -/
theorem tDec_at (c : Fin 8) (e : Fin 512) :
    tDec x g w lb (ix2 c e) = decay (rowFn lb) (tileChunk x g w c) e := by
  pointwise [k0_pay22]
  rw [row_last, cum_at]
  rfl

end Cert.KernelIdeal.Hgrn
-- ==== Proof.Blocks.lean ====
module

public import proofs.«01_k».proof.Proof.Tile

/-! # What the blocks of one head compute -/

@[expose] public section

set_option maxRecDepth 16384

noncomputable section

namespace Cert.KernelIdeal.Hgrn

open Cert.KernelIdeal Cert.KernelIdeal.Gen Idealize.ShloMosaic Idealize.SL.Sem Cert.Hgrn

/-- Row `s` of chunk `k` of a half. -/
def hrow (k : Fin 4) (s : Fin 64) : Fin 256 := ⟨64 * k.val + s.val, by omega⟩

/-- Chunk `k` of half `i`. -/
def half (i : Fin 2) (k : Fin 4) : Fin 8 := ⟨4 * i.val + k.val, by omega⟩

/-- A sum over the rows of a half, chunk by chunk. -/
theorem sum_half (f : Fin 256 → EReal) : ∑ x, f x = ∑ k : Fin 4, ∑ s : Fin 64, f (hrow k s) := by
  rw [← Fintype.sum_prod_type']
  refine (Fintype.sum_equiv (finProdFinEquiv (m := 4) (n := 64)) _ _ fun x => ?_).symm
  congr 1
  apply Fin.ext
  simp [hrow, finProdFinEquiv]
  omega

theorem hrow_val (k : Fin 4) (s : Fin 64) : (hrow k s).val = 64 * k.val + s.val := rfl

/-- A small number's chunk, by a shift. -/
theorem shift_six : ∀ r : Fin 256,
    IntOp.shrsi .vector (BitVec.ofNat 32 r.val) 6#32 = BitVec.ofNat 32 (r.val / 64) := by
  decide +kernel

/-- The signed comparison of small numbers. -/
theorem cmp_ge (r e : Fin 256) :
    IntOp.cmpi .sge (BitVec.ofNat 32 r.val) (BitVec.ofNat 32 e.val)
      = if e.val ≤ r.val then 1#1 else 0#1 := by
  have hr : (BitVec.ofNat 32 r.val).toInt = r.val := by
    rw [BitVec.toInt_eq_toNat_of_lt] <;> rw [BitVec.toNat_ofNat, Nat.mod_eq_of_lt] <;> omega
  have he : (BitVec.ofNat 32 e.val).toInt = e.val := by
    rw [BitVec.toInt_eq_toNat_of_lt] <;> rw [BitVec.toNat_ofNat, Nat.mod_eq_of_lt] <;> omega
  have : IntOp.cmpi .sge (BitVec.ofNat 32 r.val) (BitVec.ofNat 32 e.val)
      = BitVec.ofBool (BitVec.sle (BitVec.ofNat 32 e.val) (BitVec.ofNat 32 r.val)) := rfl
  rw [this, BitVec.sle_eq_decide, hr, he]
  split <;> rename_i h
  · simp [h]
  · simp [h]

/-- The comparison of chunks. -/
theorem cmp_chunk : ∀ a b : Fin 4,
    IntOp.cmpi .eq (BitVec.ofNat 32 a.val) (BitVec.ofNat 32 b.val)
      = if a.val = b.val then 1#1 else 0#1 := by decide +kernel

/-- The mask of the scores: the same chunk, and not later. -/
theorem mask_at (k j : Fin 4) (t s : Fin 64) :
    (k0_pay23 : IVec S256x256 1) (ix2 (hrow k t) (hrow j s))
      = if k = j ∧ s ≤ t then 1#1 else 0#1 := by
  pointwise [k0_pay23]
  rw [cmp_ge, shift_six, shift_six]
  have hk : (hrow k t).val / 64 = k.val := by rw [hrow_val]; omega
  have hj : (hrow j s).val / 64 = j.val := by rw [hrow_val]; omega
  rw [hk, hj, cmp_chunk, hrow_val, hrow_val]
  by_cases hkj : k = j
  · subst hkj
    by_cases hs : s ≤ t
    · have : 64 * k.val + s.val ≤ 64 * k.val + t.val := by omega
      simp [hs, this]
      try rfl
    · have : ¬ 64 * k.val + s.val ≤ 64 * k.val + t.val := by omega
      simp [hs, this]
      try rfl
  · have hkv : k.val ≠ j.val := fun e => hkj (Fin.ext e)
    simp only [hkj, false_and, if_false, hkv]
    split <;> rfl

theorem half_row (i : Fin 2) (k : Fin 4) (t : Fin 64) (h : 256 * i.val + (hrow k t).val < 512) :
    (⟨256 * i.val + (hrow k t).val, h⟩ : Fin 512) = row (half i k) t :=
  Fin.ext (by show 256 * i.val + (64 * k.val + t.val) = 64 * (4 * i.val + k.val) + t.val; omega)

/-- What a row takes from its own chunk. -/
theorem intra_at (qe ke v : FVec Ideal S512x512 .bf16) (i : Fin 2) (h : Fin 4) (k : Fin 4)
    (t : Fin 64) (d : Fin 128) :
    intra qe ke v k0_pay23 i h (ix2 (hrow k t) d)
      = ∑ s : Fin 64, if s ≤ t then
          (∑ e : Fin 128, qe (ix2 (row (half i k) t) (hcol h e)) * ke (ix2 (row (half i k) s) (hcol h e)))
            * v (ix2 (row (half i k) s) (hcol h d)) else (0 : EReal) := by
  pointwise [intra, part, dot_S256x256_S256x128_S256x128_1_0_0_1_n_n, dot_S256x128_S256x128_S256x256_1_1_0_0_n_n]
  rw [sum_half, Finset.sum_eq_single k]
  · refine Finset.sum_congr rfl fun s _ => ?_
    rw [mask_at]
    simp only [true_and, half_row]
    split
    · rfl
    · rfl
  · intro j _ hj
    refine Finset.sum_eq_zero fun s _ => ?_
    rw [mask_at]
    simp only [Ne.symm hj, false_and, if_false]
    rfl
  · intro h
    exact absurd (Finset.mem_univ k) h

theorem four_cases (k : Fin 4) : k = 0 ∨ k = 1 ∨ k = 2 ∨ k = 3 := by
  revert k; decide

set_option maxHeartbeats 2000000 in
/-- The matrix with the four chunks on its diagonal. -/
theorem blockDiag_at (y : FVec Ideal S256x128 .bf16) (k j : Fin 4) (s : Fin 64) (q : Fin 128)
    (h : 128 * j.val + q.val < 512) :
    blockDiag y (ix2 (hrow k s) ⟨128 * j.val + q.val, h⟩)
      = if k = j then y (ix2 (hrow k s) q) else (0 : EReal) := by
  rcases four_cases k with rfl | rfl | rfl | rfl <;> rcases four_cases j with rfl | rfl | rfl | rfl <;>
    pointwise [blockDiag, chunk, zeros, hrow]
  all_goals
    repeat first
      | rw [dif_neg (by omega)]
      | rw [dif_pos (by omega)]
  all_goals first
    | rfl
    | exact congrArg y (congrArg₂ ix2 (Fin.ext (by show _ = _; simp only []; omega))
        (Fin.ext (by show _ = _; simp only []; omega)))

/-- The update of chunk `j` of half `i`. -/
theorem kvHalf_at (v kend : FVec Ideal S512x512 .bf16) (i : Fin 2) (h : Fin 4) (j : Fin 4)
    (p q : Fin 128) (hh : 128 * j.val + q.val < 512) :
    kvHalf v kend i h (ix2 p ⟨128 * j.val + q.val, hh⟩)
      = ∑ s : Fin 64, v (ix2 (row (half i j) s) (hcol h p)) * kend (ix2 (row (half i j) s) (hcol h q)) := by
  pointwise [kvHalf, part, dot_S256x128_S256x512_S128x512_0_0_1_1_n_n]
  rw [sum_half, Finset.sum_eq_single j]
  · refine Finset.sum_congr rfl fun s _ => ?_
    rw [blockDiag_at, if_pos rfl, half_row]
    congr 1
    pointwise
    rw [half_row]
    rfl
  · intro k _ hk
    refine Finset.sum_eq_zero fun s _ => ?_
    rw [blockDiag_at, if_neg hk, mul_zero]
  · intro h
    exact absurd (Finset.mem_univ j) h

/-- The update of chunk `c`. -/
theorem kvAll_at (v kend : FVec Ideal S512x512 .bf16) (h : Fin 4) (c : Fin 8)
    (p q : Fin 128) (hh : 128 * c.val + q.val < 1024) :
    kvAll v kend h (ix2 p ⟨128 * c.val + q.val, hh⟩)
      = ∑ s : Fin 64, v (ix2 (row c s) (hcol h p)) * kend (ix2 (row c s) (hcol h q)) := by
  pointwise [kvAll]
  split
  · rename_i h1
    have hc : c.val < 4 := by omega
    have e : c = half 0 ⟨c.val, hc⟩ := Fin.ext (by show c.val = 4 * 0 + c.val; omega)
    have := kvHalf_at v kend 0 h ⟨c.val, hc⟩ p q (by show 128 * c.val + q.val < 512; omega)
    rw [← e] at this
    exact this
  · rename_i h1
    have hc : c.val - 4 < 4 := by omega
    have e : c = half 1 ⟨c.val - 4, hc⟩ := Fin.ext (by show c.val = 4 * 1 + (c.val - 4); omega)
    have e2 : 128 * c.val + q.val - 512 = 128 * (c.val - 4) + q.val := by omega
    simp only [e2]
    have := kvHalf_at v kend 1 h ⟨c.val - 4, hc⟩ p q (by show 128 * (c.val - 4) + q.val < 512; omega)
    rw [← e] at this
    exact this

/-- One chunk's step of the state. -/
theorem stepState_at (dec : FVec Ideal S8x512 .f32) (kv : FVec Ideal S128x1024 .f32) (h : Fin 4)
    (n : Fin 8) (st : FVec Ideal S128x128 .f32) (p q : Fin 128) :
    stepState dec kv h n st (ix2 p q)
      = st (ix2 p q) * dec (ix2 n (hcol h q)) + kv (ix2 p ⟨128 * n.val + q.val, by omega⟩) := by
  pointwise [stepState]
  rfl

/-- The state a chunk starts from, by the chunk's place in its half. -/
def pick (s0 s1 s2 s3 : FVec Ideal S128x128 .f32) : Fin 4 → FVec Ideal S128x128 .f32 :=
  ![s0, s1, s2, s3]

/-- One term of the product of the queries with a state, with its indices by value. -/
theorem inter_term (qb : FVec Ideal S512x512 .bf16) (s : FVec Ideal S128x128 .f32) (i : Fin 2)
    (h k : Fin 4) (t : Fin 64) (p x : Fin 128) (r c : Fin 512) (p' : Fin 128)
    (hr : r.val = 256 * i.val + 64 * k.val + t.val) (hc : c.val = 128 * h.val + x.val)
    (hp : p'.val = p.val) :
    (qb (ix2 r c) * s (ix2 p' x) : EReal)
      = qb (ix2 (row (half i k) t) (hcol h x)) * s (ix2 p x) := by
  obtain rfl : p' = p := Fin.ext hp
  obtain rfl : r = row (half i k) t :=
    Fin.ext (hr.trans (by show _ = 64 * (4 * i.val + k.val) + t.val; omega))
  obtain rfl : c = hcol h x := Fin.ext hc
  rfl

set_option maxHeartbeats 2000000 in
/-- What a row takes from the state its chunk starts from. -/
theorem interHalf_at (qb : FVec Ideal S512x512 .bf16) (i : Fin 2) (h : Fin 4)
    (s0 s1 s2 s3 : FVec Ideal S128x128 .f32) (k : Fin 4) (t : Fin 64) (p : Fin 128) :
    interHalf qb i h s0 s1 s2 s3 (ix2 (hrow k t) p)
      = ∑ q : Fin 128, qb (ix2 (row (half i k) t) (hcol h q)) * pick s0 s1 s2 s3 k (ix2 p q) := by
  rcases four_cases k with rfl | rfl | rfl | rfl <;>
    pointwise [interHalf, part, dot_S256x128_S512x128_S256x512_1_1_0_0_n_n, hrow, pick]
  all_goals
    repeat first
      | rw [dif_neg (by omega)]
      | rw [dif_pos (by omega)]
  all_goals refine Finset.sum_congr rfl fun x _ => ?_
  all_goals
    repeat first
      | rw [dif_neg (by omega)]
      | rw [dif_pos (by omega)]
  · exact inter_term qb s0 i h 0 t p x _ _ _ (by show 256 * i.val + t.val = _; simp) rfl rfl
  · exact inter_term qb s1 i h 1 t p x _ _ _
      (by show 256 * i.val + (64 + t.val) = 256 * i.val + 64 * 1 + t.val; omega) rfl rfl
  · exact inter_term qb s2 i h 2 t p x _ _ _
      (by show 256 * i.val + (128 + (128 + t.val - 64 - 64)) = 256 * i.val + 64 * 2 + t.val; omega)
      rfl (by show 256 + p.val - 128 - 128 = p.val; omega)
  · exact inter_term qb s3 i h 3 t p x _ _ _
      (by show 256 * i.val + (192 + (192 + t.val - 64 - 64 - 64)) = 256 * i.val + 64 * 3 + t.val
          omega)
      rfl (by show 384 + p.val - 128 - 128 - 128 = p.val; omega)

/-- The half of a chunk and its place in it. -/
theorem half_cases (c : Fin 8) : ∃ i k, c = half i k := by revert c; decide

/-- A row of the mixed values: from the own chunk and from the state the chunk starts from. -/
theorem mixed_at (qe ke v qb : FVec Ideal S512x512 .bf16) (dec : FVec Ideal S8x512 .f32)
    (kv : FVec Ideal S128x1024 .f32) (h : Fin 4) (st : FVec Ideal S128x128 .f32) (c : Fin 8)
    (t : Fin 64) (p : Fin 128) :
    mixed qe ke v qb k0_pay23 dec kv h st (ix2 (row c t) p)
      = (∑ s : Fin 64, if s ≤ t then
          (∑ e : Fin 128, qe (ix2 (row c t) (hcol h e)) * ke (ix2 (row c s) (hcol h e)))
            * v (ix2 (row c s) (hcol h p)) else (0 : EReal))
        + ∑ q : Fin 128, qb (ix2 (row c t) (hcol h q)) * stateAt dec kv h st c.val (ix2 p q) := by
  obtain ⟨i, k, rfl⟩ := half_cases c
  rw [← intra_at]
  rcases (by omega : i.val = 0 ∨ i.val = 1) with e | e
  · obtain rfl : i = 0 := Fin.ext e
    have hr : row (half 0 k) t = ⟨(hrow k t).val, by omega⟩ :=
      Fin.ext (by show 64 * (4 * 0 + k.val) + t.val = 64 * k.val + t.val; omega)
    have hi := interHalf_at qb 0 h (stateAt dec kv h st 0) (stateAt dec kv h st 1)
      (stateAt dec kv h st 2) (stateAt dec kv h st 3) k t p
    have hp : pick (stateAt dec kv h st 0) (stateAt dec kv h st 1) (stateAt dec kv h st 2)
        (stateAt dec kv h st 3) k = stateAt dec kv h st (half 0 k).val := by
      rcases four_cases k with rfl | rfl | rfl | rfl <;> rfl
    rw [hp] at hi
    rw [← hi, hr]
    pointwise [mixed]
  · obtain rfl : i = 1 := Fin.ext e
    have hr : row (half 1 k) t = ⟨256 + (hrow k t).val, by omega⟩ :=
      Fin.ext (by show 64 * (4 * 1 + k.val) + t.val = 256 + (64 * k.val + t.val); omega)
    have hi := interHalf_at qb 1 h (stateAt dec kv h st 4) (stateAt dec kv h st 5)
      (stateAt dec kv h st 6) (stateAt dec kv h st 7) k t p
    have hp : pick (stateAt dec kv h st 4) (stateAt dec kv h st 5) (stateAt dec kv h st 6)
        (stateAt dec kv h st 7) k = stateAt dec kv h st (half 1 k).val := by
      rcases four_cases k with rfl | rfl | rfl | rfl <;> rfl
    rw [hp] at hi
    rw [← hi, hr]
    pointwise [mixed]

/-- The norm of a head's row, its weight and the gate. -/
theorem gated_at (u : FVec Ideal S512x2048 .f32) (ng : FVec Ideal S1x512 .f32) (h : Fin 4)
    (o : FVec Ideal S512x128 .f32) (r : Fin 512) (d : Fin 128) :
    gated u ng h o (ix3 0 r d)
      = headNorm (fun q => o (ix2 r q)) d * ng (ix2 0 (hcol h d))
        * (u (ix2 r (col 3 (hcol h d))) * Ideal.logistic (u (ix2 r (col 3 (hcol h d))))) := by
  pointwise [gated]
  rw [col_three, half_tanh]
  rfl

end Cert.KernelIdeal.Hgrn
-- ==== Proof.TileResult.lean ====
module

public import proofs.«01_k».proof.Proof.Blocks

/-! # What a tile leaves

The state a tile leaves and the block it stores, when its eight chunks are chunks `m`, …, `m + 7` of
a sequence and the state it starts from is the state before chunk `m`. -/

@[expose] public section

set_option maxRecDepth 16384

noncomputable section

namespace Cert.KernelIdeal.Hgrn

open Cert.KernelIdeal Cert.KernelIdeal.Gen Idealize.ShloMosaic Idealize.SL.Sem Cert.Hgrn

variable (x : Vec Ideal S1x512x1024 .f32) (g : Vec Ideal S1x1024 .f32)
  (w : Vec Ideal S1024x2048 .bf16) (lb ng : Vec Ideal S1x512 .f32)
  (us : ℕ → Chunk) (m : ℕ) (hu : ∀ c : Fin 8, tileChunk x g w c = us (m + c.val))
  (h : Fin 4) (s : Vec Ideal S1x128x128 .f32)
  (hs : ∀ p q : Fin 128, s (ix3 0 p q) = state (rowFn lb) us h p q m)

include hu hs

/-- The state after the first `n` chunks of the tile. -/
theorem tile_stateAt (n : ℕ) (hn : n ≤ 8) (p q : Fin 128) :
    stateAt (tDec x g w lb) (kvAll (tV x g w) (tKend x g w lb) h) h (unpack s) n (ix2 p q)
      = state (rowFn lb) us h p q (m + n) := by
  induction n with
  | zero =>
    rw [Nat.add_zero, ← hs]
    pointwise [stateAt, unpack]
  | succ n ih =>
    have e : n % 8 = n := Nat.mod_eq_of_lt (by omega)
    have hc := hu ⟨n, by omega⟩
    have hf : (⟨n % 8, Nat.mod_lt n (by decide)⟩ : Fin 8) = ⟨n, by omega⟩ := Fin.ext e
    show stepState _ _ h _ (stateAt _ _ h _ n) (ix2 p q) = _
    rw [hf, stepState_at, ih (by omega), kvAll_at, tDec_at, hc]
    simp only [tV_at, tKend_at, hc]
    rfl

/-- The state the tile leaves. -/
theorem tileState_at (p q : Fin 128) :
    tileState x g w lb h s (ix3 0 p q) = state (rowFn lb) us h p q (m + 8) := by
  rw [← tile_stateAt x g w lb us m hu h s hs 8 le_rfl]
  pointwise [tileState, headState]

/-- The block the tile stores. -/
theorem tileOut_at (c : Fin 8) (t : Fin 64) (p : Fin 128) :
    tileOut x g w lb ng h s (ix3 0 (row c t) p)
      = result (rowFn lb) (us (m + c.val)) (rowFn ng)
          (fun p q => state (rowFn lb) us h p q (m + c.val)) h t p := by
  have hm : ∀ q : Fin 128, mixed (tQe x g w lb) (tKe x g w lb) (tV x g w) (tQb x g w lb) k0_pay23
      (tDec x g w lb) (kvAll (tV x g w) (tKend x g w lb) h) h (unpack s) (ix2 (row c t) q)
      = mix (rowFn lb) (us (m + c.val)) (fun p q => state (rowFn lb) us h p q (m + c.val)) h t q := by
    intro q
    rw [mixed_at]
    simp only [tile_stateAt x g w lb us m hu h s hs c.val (by omega), tQe_at, tKe_at, tV_at, tQb_at,
      hu c]
    rfl
  show gated _ _ h _ (ix3 0 (row c t) p) = _
  rw [gated_at]
  simp only [hm]
  rw [← hu c]
  have hng : (k0_pay24 ng : FVec Ideal S1x512 .f32) (ix2 0 (hcol h p)) = rowFn ng (hcol h p) := by
    pointwise [k0_pay24]
    rfl
  rw [hng]
  rfl

end Cert.KernelIdeal.Hgrn
-- ==== Proof.Array.lean ====
module

public import proofs.«01_k».proof.Proof.Store
public import proofs.«01_k».proof.Proof.TileResult
public import proofs.«01_k».proof.Proof.Gen.KernelIdeal.Value
public import Idealize.ShloMosaic.Lib.Pipeline.ValueKit
public import Idealize.ShloMosaic.Lib.Claim

/-! # What the kernel's result holds

The state after a grid point and the block it stores, by the recursion over the points; then the
whole result: the mixer at every row and column. -/

@[expose] public section

set_option maxRecDepth 16384

noncomputable section

namespace Cert.KernelIdeal.Hgrn

open Cert.KernelIdeal Cert.KernelIdeal.Gen Idealize.ShloMosaic Idealize.ShloMosaic.TcCoe
  Idealize.SL.Sem Cert.Hgrn
open Idealize.ShloMosaic.Pipeline (Dat)

variable (m : (ℓ : Loc nD τ sig) → Buf (Elt Ideal) ℓ)

/-- The input of sequence `b`. -/
def inX (c : Dev nD) (b : Fin 32) : Fin 2048 → Fin 1024 → EReal :=
  fun r j => (m ((c : Thread nD τ).loc main_arg0) : FVec Ideal S32x2048x1024 .f32) (ix3 b r j)

/-- The norm's weight. -/
def inG (c : Dev nD) : Fin 1024 → EReal :=
  fun j => (m ((c : Thread nD τ).loc main_arg1) : FVec Ideal S1024 .f32) (ix1 j)

/-- The projection's matrix. -/
def inW (c : Dev nD) : Fin 1024 → Fin 2048 → EReal :=
  fun j n => (m ((c : Thread nD τ).loc main_arg2) : FVec Ideal S1024x2048 .f32) (ix2 j n)

/-- The lower bound. -/
def inLb (c : Dev nD) : Fin 512 → EReal :=
  fun e => (m ((c : Thread nD τ).loc main_arg3) : FVec Ideal S512 .f32) (ix1 e)

/-- The weight of the heads' norm. -/
def inNg (c : Dev nD) : Fin 512 → EReal :=
  fun e => (m ((c : Thread nD τ).loc main_arg4) : FVec Ideal S512 .f32) (ix1 e)

theorem V_main_v0 (c : Dev nD) : (V m c main_v0 : FVec Ideal S1x1024 .f32)
    = shapeCast S1x1024 (m ((c : Thread nD τ).loc main_arg1) : FVec Ideal S1024 .f32) shapeCasts_S1024_S1x1024 := by
  unfold V; after_results; try rfl

theorem V_main_v1 (c : Dev nD) (i : S1024x2048.Idx) : (V m c main_v1 : FVec Ideal S1024x2048 .bf16) i
    = (m ((c : Thread nD τ).loc main_arg2) : FVec Ideal S1024x2048 .f32) i := by
  unfold V; after_results; try rfl

theorem V_main_v2 (c : Dev nD) : (V m c main_v2 : FVec Ideal S1x512 .f32)
    = shapeCast S1x512 (m ((c : Thread nD τ).loc main_arg3) : FVec Ideal S512 .f32) shapeCasts_S512_S1x512 := by
  unfold V; after_results; try rfl

theorem V_main_v3 (c : Dev nD) : (V m c main_v3 : FVec Ideal S1x512 .f32)
    = shapeCast S1x512 (m ((c : Thread nD τ).loc main_arg4) : FVec Ideal S512 .f32) shapeCasts_S512_S1x512 := by
  unfold V; after_results; try rfl

/-- The blocks' places, at every grid point. -/
theorem places : ∀ t : Fin cfg0.N, win0_0.index t = ![t.val / 4, t.val % 4, 0]
    ∧ win0_1.index t = ![0, 0] ∧ win0_2.index t = ![0, 0] ∧ win0_3.index t = ![0, 0]
    ∧ win0_4.index t = ![0, 0] :=
  (by decide +kernel : ∀ t : Fin grid0.N, _)

theorem lt_points (t : Fin cfg0.N) : t.val < 128 := lt_of_lt_of_eq t.isLt N_0

/-- The sequence a grid point works on. -/
def seqOf (t : Fin cfg0.N) : Fin 32 := ⟨t.val / 4, by have := lt_points t; omega⟩

/-- The input block of a point. -/
theorem block_x (c : Dev nD) (t : Fin cfg0.N) (r : Fin 512) (j : Fin 1024) :
    (iblk m c 0 t : FVec Ideal S1x512x1024 .f32) (ix3 0 r j)
      = inX m c (seqOf t) ⟨512 * (t.val % 4) + r.val, by omega⟩ j := by
  unfold inX seqOf
  blk_ext [iblk, V, places t]

theorem block_g (c : Dev nD) (t : Fin cfg0.N) (j : Fin 1024) :
    (iblk m c 1 t : FVec Ideal S1x1024 .f32) (ix2 0 j) = inG m c j := by
  have h : (iblk m c 1 t : FVec Ideal S1x1024 .f32) (ix2 0 j) = (V m c main_v0 : FVec Ideal S1x1024 .f32) (ix2 0 j) := by
    blk_ext [iblk, places t]
  rw [h, V_main_v0]
  pointwise
  rfl

theorem block_w (c : Dev nD) (t : Fin cfg0.N) (j : Fin 1024) (n : Fin 2048) :
    (iblk m c 2 t : FVec Ideal S1024x2048 .bf16) (ix2 j n) = inW m c j n := by
  have h : (iblk m c 2 t : FVec Ideal S1024x2048 .bf16) (ix2 j n) = (V m c main_v1 : FVec Ideal S1024x2048 .bf16) (ix2 j n) := by
    blk_ext [iblk, places t]
  rw [h, V_main_v1]
  rfl

theorem block_lb (c : Dev nD) (t : Fin cfg0.N) (e : Fin 512) :
    (iblk m c 3 t : FVec Ideal S1x512 .f32) (ix2 0 e) = inLb m c e := by
  have h : (iblk m c 3 t : FVec Ideal S1x512 .f32) (ix2 0 e) = (V m c main_v2 : FVec Ideal S1x512 .f32) (ix2 0 e) := by
    blk_ext [iblk, places t]
  rw [h, V_main_v2]
  pointwise
  rfl

theorem block_ng (c : Dev nD) (t : Fin cfg0.N) (e : Fin 512) :
    (iblk m c 4 t : FVec Ideal S1x512 .f32) (ix2 0 e) = inNg m c e := by
  have h : (iblk m c 4 t : FVec Ideal S1x512 .f32) (ix2 0 e) = (V m c main_v3 : FVec Ideal S1x512 .f32) (ix2 0 e) := by
    blk_ext [iblk, places t]
  rw [h, V_main_v3]
  pointwise
  rfl

/-- The lower bound's block is the lower bound. -/
theorem row_lb (c : Dev nD) (t : Fin cfg0.N) : rowFn (iblk m c 3 t) = inLb m c :=
  funext fun e => block_lb m c t e

/-- The heads' norm's block is its weight. -/
theorem row_ng (c : Dev nD) (t : Fin cfg0.N) : rowFn (iblk m c 4 t) = inNg m c :=
  funext fun e => block_ng m c t e

/-- The chunks of sequence `b`. -/
abbrev seqChunks (c : Dev nD) (b : Fin 32) : ℕ → Chunk := chunks (inX m c b) (inG m c) (inW m c)

/-- The chunks of a point's tile are chunks of its sequence. -/
theorem tile_chunks (c : Dev nD) (t : Fin cfg0.N) (k : Fin 8) :
    tileChunk (iblk m c 0 t) (iblk m c 1 t) (iblk m c 2 t) k
      = seqChunks m c (seqOf t) (8 * (t.val % 4) + k.val) := by
  funext s n
  refine (tU_at (iblk m c 0 t) (iblk m c 1 t) (iblk m c 2 t) (row k s) n).trans ?_
  have hr : (⟨512 * (t.val % 4) + (row k s).val, by omega⟩ : Fin 2048)
      = ⟨(64 * (8 * (t.val % 4) + k.val) + s.val) % 2048, Nat.mod_lt _ (by decide)⟩ :=
    Fin.ext (by simp only [row]; omega)
  simp only [block_x, block_g, block_w, hr]
  rfl

theorem headOf_zero (h : Fin 4) (p q : Fin 128) :
    headOf (zeroState : Vec Ideal S4x128x128 .f32) h (ix3 0 p q) = (0 : EReal) := by
  show Scalar.ofBits (F := Ideal) .f32 0x00000000#32 = (0 : EReal)
  simp

/-- The state after a grid point: the state after the tile's last chunk. -/
theorem state_after (c : Dev nD) (n : ℕ) (hn : n < cfg0.N) (h : Fin 4) (p q : Fin 128) :
    (outsAt0 m c n hn).2 (ix3 h p q)
      = state (inLb m c) (seqChunks m c (seqOf ⟨n, hn⟩)) h p q (8 * (n % 4) + 8) := by
  induction n generalizing h p q with
  | zero =>
    rw [outsAt0_A m c ⟨0, hn⟩ (Nat.zero_mod _)]
    dsimp only
    rw [sout_A, tileState_at _ _ _ _ (seqChunks m c (seqOf ⟨0, hn⟩)) (8 * (0 % 4))
      (tile_chunks m c ⟨0, hn⟩) h _ (fun p q => headOf_zero h p q), row_lb]
  | succ n ih =>
    have hN := lt_points ⟨n + 1, hn⟩
    by_cases h0 : (n + 1) % 4 = 0
    · rw [outsAt0_A m c ⟨n + 1, hn⟩ h0]
      dsimp only
      rw [sout_A, tileState_at _ _ _ _ (seqChunks m c (seqOf ⟨n + 1, hn⟩)) (8 * ((n + 1) % 4))
        (tile_chunks m c ⟨n + 1, hn⟩) h _
        (fun p q => by rw [h0]; exact headOf_zero h p q), row_lb]
    · rw [outsAt0_B m c ⟨n + 1, hn⟩ h0]
      dsimp only
      rw [sout_B, tileState_at _ _ _ _ (seqChunks m c (seqOf ⟨n + 1, hn⟩)) (8 * ((n + 1) % 4))
        (tile_chunks m c ⟨n + 1, hn⟩) h _
        (fun p q => by
          have hs : seqOf ⟨n + 1, hn⟩ = seqOf ⟨n, Nat.lt_of_succ_lt hn⟩ :=
            Fin.ext (by show (n + 1) / 4 = n / 4; omega)
          have he : 8 * ((n + 1) % 4) = 8 * (n % 4) + 8 := by omega
          rw [row_lb, hs, he]
          exact ih (Nat.lt_of_succ_lt hn) h p q), row_lb]

/-- The block a grid point stores. -/
theorem block_after (c : Dev nD) (t : Fin cfg0.N) (k : Fin 8) (s : Fin 64) (h : Fin 4)
    (p : Fin 128) :
    (outsAt0 m c t.val t.isLt).1 (ix3 0 (row k s) (hcol h p))
      = result (inLb m c) (seqChunks m c (seqOf t) (8 * (t.val % 4) + k.val)) (inNg m c)
          (fun p q => state (inLb m c) (seqChunks m c (seqOf t)) h p q (8 * (t.val % 4) + k.val))
          h s p := by
  have hN := lt_points t
  by_cases h0 : t.val % 4 = 0
  · rw [outsAt0_A m c t h0]
    dsimp only
    rw [out_A (hn := rfl), tileOut_at _ _ _ _ _ (seqChunks m c (seqOf t)) (8 * (t.val % 4))
      (tile_chunks m c t) h _ (fun p q => by rw [h0]; exact headOf_zero h p q), row_lb, row_ng]
  · rw [outsAt0_B m c t h0]
    dsimp only
    rw [out_B (hn := rfl), tileOut_at _ _ _ _ _ (seqChunks m c (seqOf t)) (8 * (t.val % 4))
      (tile_chunks m c t) h _ (fun p q => by
        have hlt : t.val - 1 < cfg0.N := Nat.lt_of_le_of_lt (Nat.sub_le _ _) t.isLt
        have hs : seqOf t = seqOf ⟨t.val - 1, hlt⟩ :=
          Fin.ext (by show t.val / 4 = (t.val - 1) / 4; omega)
        have he : 8 * (t.val % 4) = 8 * ((t.val - 1) % 4) + 8 := by omega
        rw [row_lb, hs, he]
        exact state_after m c (t.val - 1) hlt h p q), row_lb, row_ng]

/-- The kernel's result, at sequence `b`, row `r` and column `d`. -/
theorem array_at (c : Dev nD) (b : Fin 32) (r : Fin 2048) (d : Fin 512) :
    ((dats m 0 c).arrAt 5 cfg0.N : FVec Ideal S32x2048x512 .bf16) (ix3 b r d)
      = mixer (inX m c b) (inG m c) (inW m c) (inLb m c) (inNg m c) r d := by
  rw [Value.final5]
  have hpt : Value.pt5Of (ix3 b r d : S32x2048x512.Idx) = 4 * b.val + r.val / 512 := by
    show 4 * (b.val / 1 - 0) + 1 * (r.val / 512 - 0) + 1 * (d.val / 512 - 0) = _
    omega
  have hlt : 4 * b.val + r.val / 512 < cfg0.N := lt_of_lt_of_eq (by omega) N_0.symm
  unfold Value.G5
  rw [dif_pos (by rw [hpt]; exact hlt), Value.fold0_congr m c _ _ _ (by omega) hpt,
    ← Value.outsAt0_sweep m c (4 * b.val + r.val / 512) hlt]
  have hloc : Value.loc5Of (ix3 b r d : S32x2048x512.Idx)
      = ix3 0 (row ⟨r.val % 512 / 64, by omega⟩ ⟨r.val % 64, by omega⟩)
          (hcol ⟨d.val / 128, by omega⟩ ⟨d.val % 128, by omega⟩) := by
    funext a
    apply Fin.ext
    match a with
    | ⟨0, _⟩ => show b.val % 1 = 0; omega
    | ⟨1, _⟩ => show r.val % 512 = 64 * (r.val % 512 / 64) + r.val % 64; omega
    | ⟨2, _⟩ => show d.val % 512 = 128 * (d.val / 128) + d.val % 128; omega
  rw [hloc]
  refine (block_after m c ⟨_, hlt⟩ _ _ _ _).trans ?_
  have hs : seqOf ⟨4 * b.val + r.val / 512, hlt⟩ = b :=
    Fin.ext (by show (4 * b.val + r.val / 512) / 4 = b.val; omega)
  have hk : 8 * ((4 * b.val + r.val / 512) % 4) + r.val % 512 / 64 = r.val / 64 := by omega
  rw [hs]
  simp only [hk]
  rfl

end Cert.KernelIdeal.Hgrn
-- ==== Proof.RefTerms.lean ====
module

public import proofs.«01_k».proof.Proof.Gen.ReferenceIdeal.Run
public import Idealize.ShloMosaic.PureOps.Ideal
public import Idealize.ShloMosaic.Lib.Pointwise

/-! # The reference's arrays, stage by stage

Each array the reference computes, written as a function of the arrays it is computed from, and the
statement that the program's buffer holds it. -/

@[expose] public section

set_option maxRecDepth 16384

noncomputable section

namespace Cert.ReferenceIdeal.Hgrn

open Cert.ReferenceIdeal Cert.ReferenceIdeal.Gen Idealize.ShloMosaic Idealize.ShloMosaic.TcCoe
  Idealize.SL.Sem Idealize.ShloMosaic.StableHlo
open Cert.ReferenceIdeal.Value (preI bodyI postI condOps)

/-- The normalised input times the weight. -/
def projT (x : FVec Ideal S32x2048x1024 .f32) (g : FVec Ideal S1024 .f32)
    (w : FVec Ideal S1024x2048 .f32) : FVec Ideal S32x2048x2048 .f32 :=
  Host.dotGeneral dot_S32x2048x1024_S1024x2048_S32x2048x2048_2_0_01_1_n_n none
    (mulf
      (mulf x
        (broadcastInDim S32x2048x1024 ![0, 1, 2] bcast_S32x2048x1_S32x2048x1024_0_1_2
          (Host.rsqrt
            (addf
              (Host.divf
                (broadcastInDim S32x2048x1 ![0, 1] bcast_S32x2048_S32x2048x1_0_1
                  (Host.reduceAdd (mulf x x) (constant S_ FTy.f32 0#32)
                    reducesTo_S32x2048x1024_S32x2048_d2 h_S_))
                (broadcastInDim S32x2048x1 ![] bcast_S_S32x2048x1 (constant S_ FTy.f32 1149239296#32)))
              (broadcastInDim S32x2048x1 ![] bcast_S_S32x2048x1 (constant S_ FTy.f32 897988541#32))))))
      (broadcastInDim S32x2048x1024 ![0, 1, 2] bcast_S1x1x1024_S32x2048x1024_0_1_2
        (broadcastInDim S1x1x1024 ![2] bcast_S1024_S1x1x1024_2 g)))
    w

/-- An array of one row per token as one of chunks, head by head. -/
def heads (u : FVec Ideal S32x2048x512 .f32) : FVec Ideal S32x4x32x64x128 .f32 :=
  transpose S32x4x32x64x128 [0, 3, 1, 2, 4] (shapeCast S32x32x64x4x128 u shapeCasts_S32x2048x512_S32x32x64x4x128)
    transposes_S32x32x64x4x128_S32x4x32x64x128_0_3_1_2_4

/-- The queries. -/
def queryT (p : FVec Ideal S32x2048x2048 .f32) : FVec Ideal S32x4x32x64x128 .f32 :=
  heads (extractStridedSlice S32x2048x512 ![0, 0, 0] p slices_S32x2048x2048_S32x2048x512_0_0_0)

/-- The values. -/
def valueT (p : FVec Ideal S32x2048x2048 .f32) : FVec Ideal S32x4x32x64x128 .f32 :=
  heads (extractStridedSlice S32x2048x512 ![0, 0, 1024] p slices_S32x2048x2048_S32x2048x512_0_0_1024)

/-- The gates. -/
def gateT (p : FVec Ideal S32x2048x2048 .f32) : FVec Ideal S32x2048x512 .f32 :=
  extractStridedSlice S32x2048x512 ![0, 0, 1536] p slices_S32x2048x2048_S32x2048x512_0_0_1536

/-- One minus the lower bound. -/
def restT (lb : FVec Ideal S512 .f32) : FVec Ideal S512 .f32 :=
  subf (broadcastInDim S512 ![] bcast_S_S512 (constant S_ FTy.f32 1065353216#32)) lb

/-- A row on every token. -/
def everyT (v : FVec Ideal S512 .f32) : FVec Ideal S32x2048x512 .f32 :=
  broadcastInDim S32x2048x512 ![0, 1, 2] bcast_S1x1x512_S32x2048x512_0_1_2
    (broadcastInDim S1x1x512 ![2] bcast_S512_S1x1x512_2 v)

/-- The logistic function of the negated array. -/
def sigT (v : FVec Ideal S32x2048x512 .f32) : FVec Ideal S32x2048x512 .f32 :=
  Host.divf (broadcastInDim S32x2048x512 ![] bcast_S_S32x2048x512 (constant S_ FTy.f32 1065353216#32))
    (addf (broadcastInDim S32x2048x512 ![] bcast_S_S32x2048x512 (constant S_ FTy.f32 1065353216#32))
      (Host.exp (Host.negf v)))

/-- The forget gate's inputs. -/
def forgetInT (p : FVec Ideal S32x2048x2048 .f32) : FVec Ideal S32x2048x512 .f32 :=
  extractStridedSlice S32x2048x512 ![0, 0, 512] p slices_S32x2048x2048_S32x2048x512_0_0_512

/-- The keys. -/
def keyT (lb : FVec Ideal S512 .f32) (p : FVec Ideal S32x2048x2048 .f32) :
    FVec Ideal S32x4x32x64x128 .f32 :=
  heads (mulf (everyT (restT lb)) (sigT (Host.negf (forgetInT p))))

/-- The logarithms of the forget gates. -/
def logT (lb : FVec Ideal S512 .f32) (p : FVec Ideal S32x2048x2048 .f32) :
    FVec Ideal S32x4x32x64x128 .f32 :=
  heads (Host.log (addf (everyT lb) (mulf (everyT (restT lb)) (sigT (forgetInT p)))))

section First
variable (V : Valuation τ sig (Elt Ideal))

/-- The product of an array of contents with the weight, of the contents before the program. -/
abbrev projV : FVec Ideal S32x2048x2048 .f32 :=
  projT (V (Proc.devRef .tc main_arg0)) (V (Proc.devRef .tc main_arg1)) (V (Proc.devRef .tc main_arg2))

theorem first_query : after hostOps0 V (Proc.devRef .tc main_v46) = queryT (projV V) := by
  after_results; rfl
theorem first_key : after hostOps0 V (Proc.devRef .tc main_v48) = keyT (V (Proc.devRef .tc main_arg3)) (projV V) := by
  after_results; rfl
theorem first_value : after hostOps0 V (Proc.devRef .tc main_v50) = valueT (projV V) := by
  after_results; rfl
theorem first_log : after hostOps0 V (Proc.devRef .tc main_v52) = logT (V (Proc.devRef .tc main_arg3)) (projV V) := by
  after_results; rfl
theorem first_gate : after hostOps0 V (Proc.devRef .tc main_v17) = gateT (projV V) := by
  after_results; rfl
end First

/-- The running sums of the logarithms. -/
def cumT (l : FVec Ideal S32x4x32x64x128 .f32) : FVec Ideal S32x4x32x64x128 .f32 :=
  Host.reduceWindowAdd ![1, 1, 1, 64, 1] ![1, 1, 1, 1, 1] ![0, 0, 0, 63, 0] ![0, 0, 0, 0, 0] l
    (broadcastInDim S_ ![] bcast_S_S_ (constant S_ FTy.f32 0#32) : FVec Ideal S_ .f32)
    reduceWindows_S32x4x32x64x128_S32x4x32x64x128_w1s1p0_0_w1s1p0_0_w1s1p0_0_w64s1p63_0_w1s1p0_0 h_S_

/-- Row 31 of each chunk. -/
def midT (b : FVec Ideal S32x4x32x64x128 .f32) : FVec Ideal S32x4x32x1x128 .f32 :=
  extractStridedSlice S32x4x32x1x128 ![0, 0, 0, 31, 0] b slices_S32x4x32x64x128_S32x4x32x1x128_0_0_0_31_0

/-- Row 63 of each chunk. -/
def endT (b : FVec Ideal S32x4x32x64x128 .f32) : FVec Ideal S32x4x32x1x128 .f32 :=
  extractStridedSlice S32x4x32x1x128 ![0, 0, 0, 63, 0] b slices_S32x4x32x64x128_S32x4x32x1x128_0_0_0_63_0

/-- A row on every row of its chunk. -/
def rowsT (r : FVec Ideal S32x4x32x1x128 .f32) : FVec Ideal S32x4x32x64x128 .f32 :=
  broadcastInDim S32x4x32x64x128 ![0, 1, 2, 3, 4] bcast_S32x4x32x1x128_S32x4x32x64x128_0_1_2_3_4 r

/-- The scores of one chunk. -/
def scoreT (q k b : FVec Ideal S32x4x32x64x128 .f32) : FVec Ideal S32x4x32x64x64 .f32 :=
  Host.dotGeneral dot_S32x4x32x64x128_S32x4x32x64x128_S32x4x32x64x64_4_4_3_3_012_012 none
    (mulf q (Host.exp (subf b (rowsT (midT b))))) (mulf k (Host.exp (subf (rowsT (midT b)) b)))

/-- The lower triangle. -/
def lowerT : IVec S64x64 1 :=
  select (cmpi .sge (addi (iotaInDim S64x64 32 0) (broadcastInDim S64x64 ![] bcast_S_S64x64 (constantI S_ 32 0#32)))
      (iotaInDim S64x64 32 1))
    (broadcastInDim S64x64 ![] bcast_S_S64x64 (constantI S_ 1 1#1))
    (broadcastInDim S64x64 ![] bcast_S_S64x64 (constantI S_ 1 0#1))

/-- The scores on and below the diagonal. -/
def maskedT (s : FVec Ideal S32x4x32x64x64 .f32) : FVec Ideal S32x4x32x64x64 .f32 :=
  select (broadcastInDim S32x4x32x64x64 ![3, 4] bcast_S64x64_S32x4x32x64x64_3_4 lowerT) s
    (broadcastInDim S32x4x32x64x64 ![] bcast_S_S32x4x32x64x64 (constant S_ FTy.f32 0#32))

/-- What each chunk's own rows give. -/
def ownT (q k v b : FVec Ideal S32x4x32x64x128 .f32) : FVec Ideal S32x4x32x64x128 .f32 :=
  Host.dotGeneral dot_S32x4x32x64x64_S32x4x32x64x128_S32x4x32x64x128_4_3_3_4_012_012 none
    (maskedT (scoreT q k b)) v

/-- What each chunk adds to the state, with the chunks first. -/
def updateT (k v b : FVec Ideal S32x4x32x64x128 .f32) : FVec Ideal S32x32x4x128x128 .f32 :=
  transpose S32x32x4x128x128 [2, 0, 1, 3, 4]
    (Host.dotGeneral dot_S32x4x32x64x128_S32x4x32x64x128_S32x4x32x128x128_3_3_4_4_012_012 none
      (mulf k (Host.exp (subf (rowsT (endT b)) b))) v)
    transposes_S32x4x32x128x128_S32x32x4x128x128_2_0_1_3_4

/-- How much of the state each chunk keeps, with the chunks first. -/
def decayT (b : FVec Ideal S32x4x32x64x128 .f32) : FVec Ideal S32x32x4x128 .f32 :=
  transpose S32x32x4x128 [2, 0, 1, 3]
    (Host.exp (shapeCast S32x4x32x128 (endT b) shapeCasts_S32x4x32x1x128_S32x4x32x128))
    transposes_S32x4x32x128_S32x32x4x128_2_0_1_3

/-- The zero state. -/
def zeroT : FVec Ideal S32x4x128x128 .f32 :=
  broadcastInDim S32x4x128x128 ![] bcast_S_S32x4x128x128 (constant S_ FTy.f32 0#32)

section Second
variable (V : Valuation τ sig (Elt Ideal))

/-- The operations between the first stretch and the loop. -/
abbrev midI : List (List (HloOp τ sig (Elt Ideal))) :=
  [hostOps0_1, hostOps0_2, hostOps0_3, hostOps0_4, hostOps0_5, hostOps0_6]

/-- The running sums, of the contents after the first stretch. -/
abbrev cumV : FVec Ideal S32x4x32x64x128 .f32 := cumT (V (Proc.devRef .tc main_v52))

theorem second_cum : afterL midI V (Proc.devRef .tc main_v53) = cumV V := by
  simp only [midI, afterL_cons, afterL_nil]; after_results; rfl
theorem second_own : afterL midI V (Proc.devRef .tc main_v68) = ownT (V (Proc.devRef .tc main_v46))
    (V (Proc.devRef .tc main_v48)) (V (Proc.devRef .tc main_v50)) (cumV V) := by
  simp only [midI, afterL_cons, afterL_nil]; after_results; rfl
theorem second_decay : afterL midI V (Proc.devRef .tc main_v80_0) = decayT (cumV V) := by
  simp only [midI, afterL_cons, afterL_nil]; after_results; rfl
theorem second_update : afterL midI V (Proc.devRef .tc main_v80_1) = updateT
    (V (Proc.devRef .tc main_v48)) (V (Proc.devRef .tc main_v50)) (cumV V) := by
  simp only [midI, afterL_cons, afterL_nil]; after_results; rfl
theorem second_state : afterL midI V (Proc.devRef .tc main_v80_3) = zeroT := by
  simp only [midI, afterL_cons, afterL_nil]; after_results; rfl
end Second

end Cert.ReferenceIdeal.Hgrn
-- ==== Proof.RefCumsum.lean ====
module

public import Idealize.ShloMosaic.PureOps.Ideal
public import Idealize.ShloMosaic.Lib.Pointwise

/-! # The host's running sum along an axis

A window sum whose window is as long as the axis and padded low by one less is the running sum along
the axis. -/

@[expose] public section

set_option maxRecDepth 16384

noncomputable section

namespace Cert.ReferenceIdeal.Hgrn

open Idealize.ShloMosaic

/-- Adding the terms of a list one after another gives the start plus the sum of the terms. -/
theorem foldl_add_eq {α : Type} (l : List α) (g : α → EReal) (a : EReal) :
    l.foldl (fun r n => r + g n) a = a + (l.map g).sum := by
  induction l generalizing a with
  | nil => simp
  | cons x l ih => rw [List.foldl_cons, ih, List.map_cons, List.sum_cons, add_assoc]

/-- The window of 64 positions on the fourth axis. -/
abbrev Win : Shape := ⟨5, ![1, 1, 1, 64, 1]⟩

/-- The window's positions, numbered by the fourth axis. -/
def winEquiv : Fin 64 ≃ Win.Idx where
  toFun w := ix5 0 0 0 w 0
  invFun j := j 3
  left_inv _ := rfl
  right_inv j := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
    | ⟨4, _⟩ => exact (Subsingleton.elim (α := Fin 1) _ _)

/-- A sum over the window that ends at `t`, its positions below the axis counted as zero, is the sum of
    the entries up to `t`. -/
theorem sum_window (f : Fin 64 → EReal) (t : Fin 64) :
    (∑ w : Fin 64, if h : 63 ≤ t.val + w.val then f ⟨t.val + w.val - 63, by omega⟩ else 0)
      = ∑ s : Fin 64, if s ≤ t then f s else 0 := by
  refine Eq.trans ?_ (Fintype.sum_equiv (Equiv.addRight (t + 1))
    (fun w => if w + (t + 1) ≤ t then f (w + (t + 1)) else 0) _ fun w => rfl)
  refine Finset.sum_congr rfl fun w _ => ?_
  have ht := t.isLt
  have hw := w.isLt
  have hv : (w + (t + 1)).val = (w.val + t.val + 1) % 64 := by
    rw [Fin.val_add, Fin.val_add]; show (w.val + (t.val + 1) % 64) % 64 = _; omega
  show _ = if w + (t + 1) ≤ t then f (w + (t + 1)) else 0
  split
  · next h =>
    rw [if_pos (by rw [Fin.le_def, hv]; omega)]
    exact congrArg f (Fin.ext (by rw [hv]; show t.val + w.val - 63 = _; omega))
  · next h => rw [if_neg (by rw [Fin.le_def, hv]; omega)]

/-- The running sum along the fourth axis, at an entry: the sum of the entries up to it. -/
theorem cumsum_at {n0 n1 n2 n4 : ℕ} {u : Shape}
    (x : FVec Ideal ⟨5, ![n0, n1, n2, 64, n4]⟩ .f32) (init : u.Idx → Ideal .f32)
    (h : (⟨5, ![n0, n1, n2, 64, n4]⟩ : Shape).ReduceWindows ![1, 1, 1, 64, 1] ![1, 1, 1, 1, 1]
      ![0, 0, 0, 63, 0] ![0, 0, 0, 0, 0] ⟨5, ![n0, n1, n2, 64, n4]⟩) (hu : 0 < u.numel)
    (hinit : ∀ i, init i = (0 : EReal))
    (a : Fin n0) (b : Fin n1) (c : Fin n2) (t : Fin 64) (e : Fin n4) :
    Host.reduceWindowAdd ![1, 1, 1, 64, 1] ![1, 1, 1, 1, 1] ![0, 0, 0, 63, 0] ![0, 0, 0, 0, 0] x init h hu
        (ix5 a b c t e)
      = ∑ s : Fin 64, if s ≤ t then (x (ix5 a b c s e) : EReal) else 0 := by
  rw [← sum_window (fun s => x (ix5 a b c s e)) t]
  show Host.reduceWindow (u := ⟨0, ![]⟩) (fun p q : EReal => p + q) ![1, 1, 1, 64, 1] ![1, 1, 1, 1, 1]
    ![0, 0, 0, 63, 0] ![0, 0, 0, 0, 0] x (fun _ => init (Shape.Idx.first hu)) h (by decide)
    (ix5 a b c t e) = _
  rw [hinit]
  unfold Host.reduceWindow
  dsimp only
  rw [foldl_add_eq, zero_add, ← List.ofFn_eq_map, List.sum_ofFn]
  refine (Fintype.sum_equiv (winEquiv.trans Win.rowMajor) _ _ fun w => ?_).symm
  have hp : Win.rowMajor.symm ((winEquiv.trans Win.rowMajor) w) = ix5 0 0 0 w 0 :=
    Win.rowMajor.symm_apply_apply (winEquiv w)
  have hw := w.isLt
  have ht := t.isLt
  simp only [hp]
  by_cases hc : 63 ≤ t.val + w.val
  · rw [dif_pos hc, dif_pos (fun k => by
      match k with
      | ⟨0, _⟩ => exact ⟨Nat.zero_le _, by show a.val * 1 + 0 - 0 < n0; have := a.isLt; omega⟩
      | ⟨1, _⟩ => exact ⟨Nat.zero_le _, by show b.val * 1 + 0 - 0 < n1; have := b.isLt; omega⟩
      | ⟨2, _⟩ => exact ⟨Nat.zero_le _, by show c.val * 1 + 0 - 0 < n2; have := c.isLt; omega⟩
      | ⟨3, _⟩ => exact ⟨by show 63 ≤ t.val * 1 + w.val; omega, by show t.val * 1 + w.val - 63 < 64; omega⟩
      | ⟨4, _⟩ => exact ⟨Nat.zero_le _, by show e.val * 1 + 0 - 0 < n4; have := e.isLt; omega⟩)]
    refine congrArg x (funext fun k => Fin.ext ?_)
    match k with
    | ⟨0, _⟩ => show a.val = a.val * 1 + 0 - 0; omega
    | ⟨1, _⟩ => show b.val = b.val * 1 + 0 - 0; omega
    | ⟨2, _⟩ => show c.val = c.val * 1 + 0 - 0; omega
    | ⟨3, _⟩ => show t.val + w.val - 63 = t.val * 1 + w.val - 63; omega
    | ⟨4, _⟩ => show e.val = e.val * 1 + 0 - 0; omega
  · rw [dif_neg hc, dif_neg (fun hk => hc (by
      have h3 := (hk ⟨3, by decide⟩).1
      have h3' : 63 ≤ t.val * 1 + w.val := h3
      omega))]

end Cert.ReferenceIdeal.Hgrn
-- ==== Proof.RefEntry.lean ====
module

public import proofs.«01_k».proof.Proof.RefTerms
public import proofs.«01_k».proof.Proof.RefCumsum
public import proofs.«01_k».proof.Proof.Spec
public import Idealize.ShloMosaic.Lib.Pipeline.ValueKit

/-! # The reference's arrays at an entry

Each array of the reference before its loop, at chunk `n`, head `h`, row `t` and column `d`. -/

@[expose] public section

set_option maxRecDepth 16384

noncomputable section

namespace Cert.ReferenceIdeal.Hgrn

open Cert.ReferenceIdeal Cert.ReferenceIdeal.Gen Idealize.ShloMosaic Idealize.ShloMosaic.TcCoe
  Idealize.SL.Sem Cert.Hgrn

variable (x : FVec Ideal S32x2048x1024 .f32) (g : FVec Ideal S1024 .f32)
  (w : FVec Ideal S1024x2048 .f32) (lb : FVec Ideal S512 .f32)

/-- The product with the weight at a row and a column. -/
theorem proj_at (b : Fin 32) (r : Fin 2048) (k : Fin 2048) :
    projT x g w (ix3 b r k)
      = project (fun j => x (ix3 b r j)) (fun j => g (ix1 j)) (fun j n => w (ix2 j n)) k := by
  pointwise [projT, dot_S32x2048x1024_S1024x2048_S32x2048x2048_2_0_01_1_n_n]
  rfl

variable (p : FVec Ideal S32x2048x2048 .f32)

/-- Chunk `n` of sequence `b`. -/
def chunkOf (b n : Fin 32) : Chunk := fun t k => p (ix3 b ⟨64 * n.val + t.val, by omega⟩ k)

/-- The arrays' rows and columns are numbered head by head. -/
theorem entry_eq (b n : Fin 32) (h : Fin 4) (t : Fin 64) (d : Fin 128) (k : Fin 4) (off : ℕ)
    (hoff : off = 512 * k.val) (h1 : n.val * 64 + t.val < 2048) (h2 : off + (h.val * 128 + d.val) < 2048) :
    p (ix3 b ⟨n.val * 64 + t.val, h1⟩ ⟨off + (h.val * 128 + d.val), h2⟩) = chunkOf p b n t (col k (hcol h d)) :=
  congrArg p (congrArg₂ (ix3 b) (Fin.ext (by show n.val * 64 + t.val = 64 * n.val + t.val; omega))
    (Fin.ext (by simp [col, hcol]; omega)))

/-- A head's column. -/
theorem hcol_eq (h : Fin 4) (d : Fin 128) (h2 : h.val * 128 + d.val < 512) :
    (⟨h.val * 128 + d.val, h2⟩ : Fin 512) = hcol h d := Fin.ext (by simp [hcol]; omega)

theorem query_at (b : Fin 32) (h : Fin 4) (n : Fin 32) (t : Fin 64) (d : Fin 128) :
    queryT p (ix5 b h n t d) = chunkOf p b n t (col 0 (hcol h d)) := by
  pointwise [queryT, heads]
  exact congrArg p (congrArg₂ (ix3 b) (Fin.ext (by show n.val * 64 + t.val = 64 * n.val + t.val; omega))
    (Fin.ext (by simp [col, hcol]; omega)))
theorem value_at (b : Fin 32) (h : Fin 4) (n : Fin 32) (t : Fin 64) (d : Fin 128) :
    valueT p (ix5 b h n t d) = value (chunkOf p b n) t (hcol h d) := by
  pointwise [valueT, heads]
  exact congrArg p (congrArg₂ (ix3 b) (Fin.ext (by show n.val * 64 + t.val = 64 * n.val + t.val; omega))
    (Fin.ext (by simp [col, hcol]; omega)))
theorem key_at (b : Fin 32) (h : Fin 4) (n : Fin 32) (t : Fin 64) (d : Fin 128) :
    keyT lb p (ix5 b h n t d) = key (fun e => lb (ix1 e)) (chunkOf p b n) t (hcol h d) := by
  pointwise [keyT, heads, everyT, restT, sigT, forgetInT]
  rw [entry_eq p b n h t d 1 512 rfl, hcol_eq]
  rfl
theorem log_at (b : Fin 32) (h : Fin 4) (n : Fin 32) (t : Fin 64) (d : Fin 128) :
    logT lb p (ix5 b h n t d)
      = Ideal.log (forget (fun e => lb (ix1 e)) (chunkOf p b n) t (hcol h d)) := by
  pointwise [logT, heads, everyT, restT, sigT, forgetInT]
  rw [entry_eq p b n h t d 1 512 rfl, hcol_eq]
  rfl

variable (l q k v bb : FVec Ideal S32x4x32x64x128 .f32)

theorem cumT_at (b : Fin 32) (h : Fin 4) (n : Fin 32) (t : Fin 64) (d : Fin 128) :
    cumT l (ix5 b h n t d) = ∑ s : Fin 64, if s ≤ t then (l (ix5 b h n s d) : EReal) else 0 := by
  unfold cumT
  exact cumsum_at _ _ _ _ (fun i => by pointwise) b h n t d

theorem score_at (b : Fin 32) (h : Fin 4) (n : Fin 32) (t s : Fin 64) :
    scoreT q k bb (ix5 b h n t s)
      = ∑ d : Fin 128, q (ix5 b h n t d) * Ideal.exp (bb (ix5 b h n t d) - bb (ix5 b h n 31 d))
          * (k (ix5 b h n s d) * Ideal.exp (bb (ix5 b h n 31 d) - bb (ix5 b h n s d))) := by
  pointwise [scoreT, rowsT, midT, dot_S32x4x32x64x128_S32x4x32x64x128_S32x4x32x64x64_4_4_3_3_012_012]

/-- The comparison that makes the lower triangle. -/
theorem lower_at : ∀ t s : Fin 64,
    (Scalar.select (IntOp.cmpi CmpIPredicate.sge (IntOp.addi (BitVec.ofNat 32 t.val) 0#32)
      (BitVec.ofNat 32 s.val)) 1#1 0#1 : BitVec 1) = if s ≤ t then 1#1 else 0#1 := by
  decide +kernel

theorem masked_at (sc : FVec Ideal S32x4x32x64x64 .f32) (b : Fin 32) (h : Fin 4) (n : Fin 32) (t s : Fin 64) :
    maskedT sc (ix5 b h n t s) = if s ≤ t then (sc (ix5 b h n t s) : EReal) else 0 := by
  pointwise [maskedT, lowerT]
  rw [lower_at t s]
  by_cases e : s ≤ t
  · rw [if_pos e, if_pos e]; rfl
  · rw [if_neg e, if_neg e]; rfl

theorem own_at (b : Fin 32) (h : Fin 4) (n : Fin 32) (t : Fin 64) (d : Fin 128) :
    ownT q k v bb (ix5 b h n t d)
      = ∑ s : Fin 64, maskedT (scoreT q k bb) (ix5 b h n t s) * v (ix5 b h n s d) := by
  pointwise [ownT, dot_S32x4x32x64x64_S32x4x32x64x128_S32x4x32x64x128_4_3_3_4_012_012]

theorem update_at (b : Fin 32) (h : Fin 4) (n : Fin 32) (d e : Fin 128) :
    updateT k v bb (ix5 n b h d e)
      = ∑ s : Fin 64, k (ix5 b h n s d) * Ideal.exp (bb (ix5 b h n 63 d) - bb (ix5 b h n s d)) * v (ix5 b h n s e) := by
  pointwise [updateT, rowsT, endT, dot_S32x4x32x64x128_S32x4x32x64x128_S32x4x32x128x128_3_3_4_4_012_012]

theorem decay_at (b : Fin 32) (h : Fin 4) (n : Fin 32) (d : Fin 128) :
    decayT bb (ix4 n b h d) = Ideal.exp (bb (ix5 b h n 63 d)) := by
  pointwise [decayT, endT]

theorem zero_at (b : Fin 32) (h : Fin 4) (d e : Fin 128) : zeroT (ix4 b h d e) = (0 : EReal) := by
  pointwise [zeroT]

end Cert.ReferenceIdeal.Hgrn
-- ==== Proof.RefLoop.lean ====
module

public import proofs.«01_k».proof.Proof.RefTerms
public import Idealize.ShloMosaic.Lib.DynamicIndex
public import Idealize.ShloMosaic.Lib.Pipeline.Value

/-! # The reference's loop over the chunks

The state after some of the loop's steps, at an entry, and the states kept on the way. -/

@[expose] public section

set_option maxRecDepth 16384

noncomputable section

namespace Cert.ReferenceIdeal.Hgrn

open Cert.ReferenceIdeal Cert.ReferenceIdeal.Gen Idealize.ShloMosaic Idealize.ShloMosaic.TcCoe
  Idealize.SL.Sem Idealize.ShloMosaic.StableHlo
open Cert.ReferenceIdeal.Value (STEP step_main_v80_3 step_main_v80_4 step_main_v80_2)

/-- The word of a number below 32, read back signed. -/
theorem word_toInt (k : Fin 32) : (BitVec.ofNat 32 k.val).toInt = (k.val : ℤ) := by
  revert k; decide

/-- The next state, from the decays, the state, the updates and the two places read. -/
def nextT (D : FVec Ideal S32x32x4x128 .f32) (S : FVec Ideal S32x4x128x128 .f32)
    (U : FVec Ideal S32x32x4x128x128 .f32) (s4 : Fin 4 → ℤ) (s5 : Fin 5 → ℤ) :
    FVec Ideal S32x4x128x128 .f32 :=
  addf
    (mulf
      (broadcastInDim S32x4x128x128 ![0, 1, 2, 3] bcast_S32x4x128x1_S32x4x128x128_0_1_2_3
        (broadcastInDim S32x4x128x1 ![0, 1, 2] bcast_S32x4x128_S32x4x128x1_0_1_2
          (shapeCast S32x4x128 (Host.dynamicSlice S1x32x4x128 D s4 sliceFits_S32x32x4x128_S1x32x4x128)
            shapeCasts_S1x32x4x128_S32x4x128)))
      S)
    (shapeCast S32x4x128x128
      (Host.dynamicSlice S1x32x4x128x128 U s5 sliceFits_S32x32x4x128x128_S1x32x4x128x128)
      shapeCasts_S1x32x4x128x128_S32x4x128x128)

/-- The states kept, after one more is written. -/
def keepT (K : FVec Ideal S32x32x4x128x128 .f32) (S : FVec Ideal S32x4x128x128 .f32) (s5 : Fin 5 → ℤ) :
    FVec Ideal S32x32x4x128x128 .f32 :=
  Host.dynamicUpdateSlice K
    (broadcastInDim S1x32x4x128x128 ![1, 2, 3, 4] bcast_S32x4x128x128_S1x32x4x128x128_1_2_3_4 S) s5
    updateFits_S32x32x4x128x128_S1x32x4x128x128

/-- A block of one chunk at chunk `k` lies in the array. -/
theorem fits4 (k : Fin 32) : S32x32x4x128.Slices ![k.val, 0, 0, 0] S1x32x4x128 := by
  revert k; decide
/-- The same for the arrays of five axes. -/
theorem fits5 (k : Fin 32) : S32x32x4x128x128.Slices ![k.val, 0, 0, 0, 0] S1x32x4x128x128 := by
  revert k; decide

/-- The next state at an entry. -/
theorem next_at (D : FVec Ideal S32x32x4x128 .f32) (S : FVec Ideal S32x4x128x128 .f32)
    (U : FVec Ideal S32x32x4x128x128 .f32) (k : Fin 32)
    (s4 : Fin 4 → ℤ) (h4 : ∀ a, s4 a = ((![k.val, 0, 0, 0] : Fin 4 → ℕ) a : ℤ))
    (s5 : Fin 5 → ℤ) (h5 : ∀ a, s5 a = ((![k.val, 0, 0, 0, 0] : Fin 5 → ℕ) a : ℤ))
    (b : Fin 32) (h : Fin 4) (p q : Fin 128) :
    nextT D S U s4 s5 (ix4 b h p q)
      = D (ix4 k b h p) * S (ix4 b h p q) + U (ix5 k b h p q) := by
  unfold nextT
  rw [Host.dynamicSlice_eq_extractStridedSlice S1x32x4x128 D s4 ![k.val, 0, 0, 0] _ (fits4 k) h4,
    Host.dynamicSlice_eq_extractStridedSlice S1x32x4x128x128 U s5 ![k.val, 0, 0, 0, 0] _ (fits5 k) h5]
  pointwise

/-- The states kept, at an entry. -/
theorem keep_at (K : FVec Ideal S32x32x4x128x128 .f32) (S : FVec Ideal S32x4x128x128 .f32) (k : Fin 32)
    (s5 : Fin 5 → ℤ) (h5 : ∀ a, s5 a = ((![k.val, 0, 0, 0, 0] : Fin 5 → ℕ) a : ℤ))
    (j b : Fin 32) (h : Fin 4) (p q : Fin 128) :
    keepT K S s5 (ix5 j b h p q) = if j = k then S (ix4 b h p q) else K (ix5 j b h p q) := by
  unfold keepT
  rw [Host.dynamicUpdateSlice_eq_updateSlice K _ s5 _ ![k.val, 0, 0, 0, 0]
    (fun a => by
      have hb := (fits5 k).2 a
      rw [h5 a]
      omega) (fits5 k)]
  pointwise
  by_cases e : j = k
  · rw [if_pos e, dif_pos (by rw [e]; omega)]
  · rw [if_neg e, dif_neg (fun hk => e (Fin.ext (by omega)))]

/-- The places that a counter's word picks on the first of four axes. -/
theorem places4 (w : IVec S_ 32) (k : Fin 32) (hw : w = fun _ => BitVec.ofNat 32 k.val) (a : Fin 4) :
    ((![w, constantI S_ 32 0#32, constantI S_ 32 0#32, constantI S_ 32 0#32] : Fin 4 → IVec S_ 32) a
      (Shape.Idx.first h_S_)).toInt = ((![k.val, 0, 0, 0] : Fin 4 → ℕ) a : ℤ) := by
  subst hw
  match a with
  | ⟨0, _⟩ => exact word_toInt k
  | ⟨1, _⟩ => rfl
  | ⟨2, _⟩ => rfl
  | ⟨3, _⟩ => rfl
/-- The places that a counter's word picks on the first of five axes. -/
theorem places5 (w : IVec S_ 32) (k : Fin 32) (hw : w = fun _ => BitVec.ofNat 32 k.val) (a : Fin 5) :
    ((![w, constantI S_ 32 0#32, constantI S_ 32 0#32, constantI S_ 32 0#32, constantI S_ 32 0#32] :
      Fin 5 → IVec S_ 32) a (Shape.Idx.first h_S_)).toInt = ((![k.val, 0, 0, 0, 0] : Fin 5 → ℕ) a : ℤ) := by
  subst hw
  match a with
  | ⟨0, _⟩ => exact word_toInt k
  | ⟨1, _⟩ => rfl
  | ⟨2, _⟩ => rfl
  | ⟨3, _⟩ => rfl
  | ⟨4, _⟩ => rfl

variable (V : Valuation τ sig (Elt Ideal))

/-- The decays, as the loop reads them. -/
abbrev decayV : FVec Ideal S32x32x4x128 .f32 := V (Proc.devRef .tc main_v80_0)
/-- The updates, as the loop reads them. -/
abbrev updateV : FVec Ideal S32x32x4x128x128 .f32 := V (Proc.devRef .tc main_v80_1)
/-- The counter. -/
abbrev countV : IVec S_ 32 := V (Proc.devRef .tc main_v80_2)
/-- The state. -/
abbrev stateV : FVec Ideal S32x4x128x128 .f32 := V (Proc.devRef .tc main_v80_3)
/-- The states kept. -/
abbrev keptV : FVec Ideal S32x32x4x128x128 .f32 := V (Proc.devRef .tc main_v80_4)

/-- One step's new state at an entry: the old one decayed, plus the chunk's update. -/
theorem step_state (k : Fin 32) (hc : countV V = fun _ => BitVec.ofNat 32 k.val)
    (b : Fin 32) (h : Fin 4) (p q : Fin 128) :
    (step_main_v80_3 V : FVec Ideal S32x4x128x128 .f32) (ix4 b h p q)
      = decayV V (ix4 k b h p) * stateV V (ix4 b h p q) + updateV V (ix5 k b h p q) := by
  exact next_at (decayV V) (stateV V) (updateV V) k _ (places4 (countV V) k hc) _
    (places5 (countV V) k hc) b h p q

/-- One step's kept states at an entry: at the step's own place the state before it, elsewhere as before. -/
theorem step_kept (k : Fin 32) (hc : countV V = fun _ => BitVec.ofNat 32 k.val)
    (j : Fin 32) (b : Fin 32) (h : Fin 4) (p q : Fin 128) :
    (step_main_v80_4 V : FVec Ideal S32x32x4x128x128 .f32) (ix5 j b h p q)
      = if j = k then stateV V (ix4 b h p q) else keptV V (ix5 j b h p q) := by
  exact keep_at (keptV V) (stateV V) k _ (places5 (countV V) k hc) j b h p q

/-- The contents after `n` steps. -/
abbrev after_steps (n : ℕ) : Valuation τ sig (Elt Ideal) := STEP^[n] V

/-- A step more. -/
theorem steps_succ (n : ℕ) : after_steps V (n + 1) = STEP (after_steps V n) :=
  Function.iterate_succ_apply' STEP n V

theorem steps_decay (n : ℕ) : decayV (after_steps V n) = decayV V := by
  induction n with
  | zero => rfl
  | succ n ih => rw [steps_succ]; exact (Value.STEP_main_v80_0 _).trans ih

theorem steps_update (n : ℕ) : updateV (after_steps V n) = updateV V := by
  induction n with
  | zero => rfl
  | succ n ih => rw [steps_succ]; exact (Value.STEP_main_v80_1 _).trans ih

theorem steps_count (h0 : countV V = fun _ => 0#32) (n : ℕ) :
    countV (after_steps V n) = fun _ => BitVec.ofNat 32 n := by
  induction n with
  | zero => exact h0
  | succ n ih =>
    rw [steps_succ]
    refine (Value.STEP_main_v80_2 _).trans ?_
    show (fun i => countV (after_steps V n) i + 1#32) = _
    rw [ih]
    funext _
    exact (BitVec.ofNat_add n 1).symm

/-- The state after `n` steps at an entry, as a recursion over the steps. -/
def stateRec (b : Fin 32) (h : Fin 4) (p q : Fin 128) : ℕ → EReal
  | 0 => stateV V (ix4 b h p q)
  | n + 1 => decayV V (ix4 (Fin.ofNat 32 n) b h p) * stateRec b h p q n + updateV V (ix5 (Fin.ofNat 32 n) b h p q)

theorem steps_state (h0 : countV V = fun _ => 0#32) (b : Fin 32) (h : Fin 4) (p q : Fin 128) (n : ℕ)
    (hn : n ≤ 32) : stateV (after_steps V n) (ix4 b h p q) = stateRec V b h p q n := by
  induction n with
  | zero => rfl
  | succ n ih =>
    rw [steps_succ]
    have hc : countV (after_steps V n) = fun _ => BitVec.ofNat 32 (Fin.ofNat 32 n).val := by
      rw [steps_count V h0, show (Fin.ofNat 32 n).val = n from Nat.mod_eq_of_lt (by omega)]
    refine (congrFun (Value.STEP_main_v80_3 _) _).trans ((step_state _ (Fin.ofNat 32 n) hc b h p q).trans ?_)
    rw [steps_decay, steps_update, ih (by omega)]
    rfl

/-- The states kept: entry `j` is the state before step `j`. -/
theorem steps_kept (h0 : countV V = fun _ => 0#32) (j b : Fin 32) (h : Fin 4) (p q : Fin 128) (n : ℕ)
    (hn : n ≤ 32) (hj : j.val < n) : keptV (after_steps V n) (ix5 j b h p q) = stateRec V b h p q j.val := by
  induction n with
  | zero => omega
  | succ n ih =>
    rw [steps_succ]
    have hm : (Fin.ofNat 32 n).val = n := Nat.mod_eq_of_lt (by omega)
    have hc : countV (after_steps V n) = fun _ => BitVec.ofNat 32 (Fin.ofNat 32 n).val := by
      rw [steps_count V h0, hm]
    refine (congrFun (Value.STEP_main_v80_4 _) _).trans ((step_kept _ (Fin.ofNat 32 n) hc j b h p q).trans ?_)
    by_cases e : j = Fin.ofNat 32 n
    · rw [if_pos e, steps_state V h0 b h p q n (by omega), e, hm]
    · rw [if_neg e]
      exact ih (by omega) (by
        have : j.val ≠ n := fun e' => e (Fin.ext (e'.trans hm.symm))
        omega)

end Cert.ReferenceIdeal.Hgrn
-- ==== Proof.RefResult.lean ====
module

public import proofs.«01_k».proof.Proof.RefEntry
public import proofs.«01_k».proof.Proof.RefLoop

/-! # What the reference's result holds

The operations after the loop at an entry, and the whole result: the mixer at every row and column. -/

@[expose] public section

set_option maxRecDepth 16384

noncomputable section

namespace Cert.ReferenceIdeal.Hgrn

open Cert.ReferenceIdeal Cert.ReferenceIdeal.Gen Idealize.ShloMosaic Idealize.ShloMosaic.TcCoe
  Idealize.SL.Sem Idealize.ShloMosaic.StableHlo Cert.Hgrn
open Cert.ReferenceIdeal.Value (preI bodyI postI condOps STEP atK)

/-- The mixed values: each chunk's own plus what its queries take from the state. -/
def mixT (o q b : FVec Ideal S32x4x32x64x128 .f32) (K : FVec Ideal S32x32x4x128x128 .f32) :
    FVec Ideal S32x4x32x64x128 .f32 :=
  addf o
    (Host.dotGeneral dot_S32x4x32x64x128_S32x4x32x128x128_S32x4x32x64x128_4_3_3_4_012_012 none
      (mulf q (Host.exp b))
      (transpose S32x4x32x128x128 [1, 2, 0, 3, 4] K transposes_S32x32x4x128x128_S32x4x32x128x128_1_2_0_3_4))

/-- The mixed values, one row per token. -/
def tokensT (o : FVec Ideal S32x4x32x64x128 .f32) : FVec Ideal S32x2048x4x128 .f32 :=
  shapeCast S32x2048x4x128
    (transpose S32x32x64x4x128 [0, 2, 3, 1, 4] o transposes_S32x4x32x64x128_S32x32x64x4x128_0_2_3_1_4)
    shapeCasts_S32x32x64x4x128_S32x2048x4x128

/-- The heads' norm. -/
def normT (o : FVec Ideal S32x2048x4x128 .f32) : FVec Ideal S32x2048x4x128 .f32 :=
  mulf o
    (broadcastInDim S32x2048x4x128 ![0, 1, 2, 3] bcast_S32x2048x4x1_S32x2048x4x128_0_1_2_3
      (Host.rsqrt
        (addf
          (Host.divf
            (broadcastInDim S32x2048x4x1 ![0, 1, 2] bcast_S32x2048x4_S32x2048x4x1_0_1_2
              (Host.reduceAdd (mulf o o) (constant S_ FTy.f32 0#32) reducesTo_S32x2048x4x128_S32x2048x4_d3 h_S_))
            (broadcastInDim S32x2048x4x1 ![] bcast_S_S32x2048x4x1 (constant S_ FTy.f32 0x43000000#32)))
          (broadcastInDim S32x2048x4x1 ![] bcast_S_S32x2048x4x1 (constant S_ FTy.f32 0x358637BD#32)))))

/-- The result: the norm, its weight and the gate. -/
def resultT (o : FVec Ideal S32x2048x4x128 .f32) (ng : FVec Ideal S512 .f32)
    (z : FVec Ideal S32x2048x512 .f32) : FVec Ideal S32x2048x512 .bf16 :=
  truncf .bf16
    (mulf
      (shapeCast S32x2048x512
        (mulf (normT o)
          (broadcastInDim S32x2048x4x128 ![0, 1, 2, 3] bcast_S1x1x4x128_S32x2048x4x128_0_1_2_3
            (broadcastInDim S1x1x4x128 ![2, 3] bcast_S4x128_S1x1x4x128_2_3
              (shapeCast S4x128 ng shapeCasts_S512_S4x128))))
        shapeCasts_S32x2048x4x128_S32x2048x512)
      (mulf z (sigT z)))
    bitsLt_bf16_f32

/-- The result's buffer, of the contents after the loop. -/
theorem third_result (V : Valuation τ sig (Elt Ideal)) :
    afterL postI V (Proc.devRef .tc main_v105)
      = resultT (tokensT (mixT (V (Proc.devRef .tc main_v68)) (V (Proc.devRef .tc main_v46))
          (V (Proc.devRef .tc main_v53)) (V (Proc.devRef .tc main_v80_4))))
          (V (Proc.devRef .tc main_arg4)) (V (Proc.devRef .tc main_v17)) := by
  simp only [postI, afterL_cons, afterL_nil]; after_results; rfl

theorem mix_at (o q bb : FVec Ideal S32x4x32x64x128 .f32) (K : FVec Ideal S32x32x4x128x128 .f32)
    (b : Fin 32) (h : Fin 4) (n : Fin 32) (t : Fin 64) (d : Fin 128) :
    mixT o q bb K (ix5 b h n t d) = o (ix5 b h n t d)
      + ∑ e : Fin 128, q (ix5 b h n t e) * Ideal.exp (bb (ix5 b h n t e)) * K (ix5 n b h e d) := by
  pointwise [mixT, dot_S32x4x32x64x128_S32x4x32x128x128_S32x4x32x64x128_4_3_3_4_012_012]

theorem tokens_at (o : FVec Ideal S32x4x32x64x128 .f32) (b : Fin 32) (r : Fin 2048) (h : Fin 4) (d : Fin 128) :
    tokensT o (ix4 b r h d) = o (ix5 b h ⟨r.val / 64, by omega⟩ ⟨r.val % 64, by omega⟩ d) := by
  pointwise [tokensT]

theorem result_at (o : FVec Ideal S32x2048x4x128 .f32) (ng : FVec Ideal S512 .f32)
    (z : FVec Ideal S32x2048x512 .f32) (b : Fin 32) (r : Fin 2048) (d : Fin 512) :
    resultT o ng z (ix3 b r d)
      = headNorm (fun e => o (ix4 b r ⟨d.val / 128, by omega⟩ e)) ⟨d.val % 128, by omega⟩ * ng (ix1 d)
        * (z (ix3 b r d) * Ideal.logistic (z (ix3 b r d))) := by
  pointwise [resultT, normT, sigT]
  rfl

end Cert.ReferenceIdeal.Hgrn
-- ==== Proof.RefKeep.lean ====
module

public import proofs.«01_k».proof.Proof.RefTerms

/-! # What the reference's operations leave alone

Buffers that a stretch of operations does not write keep their contents. -/

@[expose] public section

set_option maxRecDepth 16384

noncomputable section

namespace Cert.ReferenceIdeal.Hgrn

open Cert.ReferenceIdeal Cert.ReferenceIdeal.Gen Idealize.ShloMosaic Idealize.ShloMosaic.TcCoe
  Idealize.SL.Sem Idealize.ShloMosaic.StableHlo
open Cert.ReferenceIdeal.Value

/-- What the stretches between the first and the loop write. -/
abbrev midW : List (Ref sig .tc) :=
  hostOps0_1_W ++ (hostOps0_2_W ++ (hostOps0_3_W ++ (hostOps0_4_W ++ (hostOps0_5_W ++ hostOps0_6_W))))

/-- What a step of the loop writes. -/
abbrev stepW : List (Ref sig .tc) :=
  condOps_W ++ (while0Ops0_W ++ (while0Ops0_1_W ++ (while0Ops0_2_W ++ (while0Ops0_3_W ++ while0Ops0_4_W))))

variable (V : Valuation τ sig (Elt Ideal))

/-- The stretches between the first and the loop keep what they don't write. -/
theorem mid_keeps (r : Ref sig .tc) (hr : r ∉ midW) :
    afterL midI V (Proc.devRef .tc r) = V (Proc.devRef .tc r) := by
  simp only [midW, List.mem_append, not_or] at hr
  obtain ⟨h1, h2, h3, h4, h5, h6⟩ := hr
  simp only [midI, afterL_cons, afterL_nil]
  rw [after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1]

/-- A step of the loop keeps what it doesn't write. -/
theorem step_keeps (r : Ref sig .tc) (hr : r ∉ stepW) :
    afterL bodyI (after condOps V) (Proc.devRef .tc r) = V (Proc.devRef .tc r) := by
  simp only [stepW, List.mem_append, not_or] at hr
  obtain ⟨h0, h1, h2, h3, h4, h5⟩ := hr
  simp only [bodyI, afterL_cons, afterL_nil]
  rw [after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

/-- So does the whole loop. -/
theorem loop_keeps (W : Dev nD → Valuation τ sig (Elt Ideal)) (c : Dev nD) (r : Ref sig .tc) (hr : r ∉ stepW) (n : ℕ) :
    atTrip condOps bodyI W n c (Proc.devRef .tc r) = W c (Proc.devRef .tc r) := by
  induction n with
  | zero => rfl
  | succ n ih => rw [atTrip_succ, step_keeps _ r hr, ih]

/-- What the operations after the loop write. -/
abbrev postW : List (Ref sig .tc) :=
  [main_v81, main_v82, main_v83, main_v84, main_v85, main_v86, main_v87, main_v88, main_v89, main_cst_12, main_v90,
    main_v91, main_cst_13, main_v92, main_v93, main_cst_14, main_v94, main_v95, main_v96, main_v97, main_v98,
    main_v99, main_v100, main_v101, main_v102]

theorem post_writes_first : (hostOps0_7 : List (HloOp τ sig (Elt Ideal))).Forall
    fun op => op.writes ⊆ (postW.map (Proc.devRef (τ := τ) .tc)).toFinset :=
  StableHlo.forall_writes_sub_of_map rfl
theorem post_writes_second : (hostOps0_8 : List (HloOp τ sig (Elt Ideal))).Forall fun op => op.writes ⊆
    (([main_call6_v0, main_call6_v1, main_call6_cst, main_call6_v2, main_call6_v3, main_call6_cst_0,
      main_call6_v4, main_call6_v5, main_v103] : List (Ref sig .tc)).map (Proc.devRef (τ := τ) .tc)).toFinset :=
  StableHlo.forall_writes_sub_of_map rfl
theorem post_writes_third : (hostOps0_9 : List (HloOp τ sig (Elt Ideal))).Forall
    fun op => op.writes ⊆ (([main_v104, main_v105] : List (Ref sig .tc)).map (Proc.devRef (τ := τ) .tc)).toFinset :=
  StableHlo.forall_writes_sub_of_map rfl

/-- The program keeps its arguments. -/
theorem final_keeps (m : (ℓ : Loc nD τ sig) → Buf (Elt Ideal) ℓ) (c : Dev nD) (r : Ref sig .tc)
    (hr : r ∈ ([main_arg0, main_arg1, main_arg2, main_arg3, main_arg4] : List (Ref sig .tc))) :
    finalContents condOps preI bodyI postI 32 m c (Proc.devRef .tc r) = m ((c.tc : Thread nD τ).loc r) := by
  have hb : r ∉ stepW ∧ r ∉ midW ∧ r ∉ hostOps0_W ∧ r ∉ condOps_W ∧ r ∉ postW
      ∧ r ∉ ([main_call6_v0, main_call6_v1, main_call6_cst, main_call6_v2, main_call6_v3, main_call6_cst_0,
        main_call6_v4, main_call6_v5, main_v103] : List (Ref sig .tc))
      ∧ r ∉ ([main_v104, main_v105] : List (Ref sig .tc)) := by
    revert r; decide +kernel
  obtain ⟨h1, h2, h3, h4, h5, h6, h7⟩ := hb
  show after hostOps0_9 (after hostOps0_8 (after hostOps0_7 (after condOps (atTrip condOps bodyI (entryContents preI m) 32 c))))
    (Proc.devRef .tc r) = _
  rw [after_of_writes_sub hostOps0_9 _ post_writes_third h7, after_of_writes_sub hostOps0_8 _ post_writes_second h6,
    after_of_writes_sub hostOps0_7 _ post_writes_first h5, after_of_writes_sub condOps _ condOps_writes h4,
    loop_keeps _ c r h1]
  exact (mid_keeps (after hostOps0 (launchContents m c)) r h2).trans
    (after_of_writes_sub hostOps0 _ hostOps0_writes h3)

/-- The reference ends, keeps its arguments and leaves every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) := by
  refine (θ_run _ _ _).mono (fun r hr => ⟨fun c => ?_, sem_eq_zero_of_no_sems rfl _⟩) (run_fold m ρ)
  exact ⟨(hr c main_arg0 rfl).trans (final_keeps m c main_arg0 (by decide)),
    (hr c main_arg1 rfl).trans (final_keeps m c main_arg1 (by decide)),
    (hr c main_arg2 rfl).trans (final_keeps m c main_arg2 (by decide)),
    (hr c main_arg3 rfl).trans (final_keeps m c main_arg3 (by decide)),
    (hr c main_arg4 rfl).trans (final_keeps m c main_arg4 (by decide))⟩

end Cert.ReferenceIdeal.Hgrn
-- ==== Proof.RefFinal.lean ====
module

public import proofs.«01_k».proof.Proof.RefResult
public import proofs.«01_k».proof.Proof.RefKeep

/-! # The reference computes the mixer

The reference's result at every row and column, from its arguments. -/

@[expose] public section

set_option maxRecDepth 16384

noncomputable section

namespace Cert.ReferenceIdeal.Hgrn

open Cert.ReferenceIdeal Cert.ReferenceIdeal.Gen Idealize.ShloMosaic Idealize.ShloMosaic.TcCoe
  Idealize.SL.Sem Idealize.ShloMosaic.StableHlo Cert.Hgrn
open Cert.ReferenceIdeal.Value (preI bodyI postI condOps STEP atK atK_agree cond_keeps run_fold)

section Chunk

variable (lb : FVec Ideal S512 .f32) (p : FVec Ideal S32x2048x2048 .f32)

/-- The running sums of the gates' logarithms. -/
abbrev sumsT : FVec Ideal S32x4x32x64x128 .f32 := cumT (logT lb p)

/-- The lower bound as a function of the column. -/
abbrev low : Fin 512 → EReal := fun e => lb (ix1 e)

theorem sums_at (b : Fin 32) (h : Fin 4) (n : Fin 32) (t : Fin 64) (d : Fin 128) :
    sumsT lb p (ix5 b h n t d) = cum (low lb) (chunkOf p b n) t (hcol h d) := by
  rw [sumsT, cumT_at]
  exact Finset.sum_congr rfl fun s _ => by rw [log_at]

/-- What a chunk's own rows give. -/
theorem own_eq (b : Fin 32) (h : Fin 4) (n : Fin 32) (t : Fin 64) (d : Fin 128) :
    ownT (queryT p) (keyT lb p) (valueT p) (sumsT lb p) (ix5 b h n t d)
      = own (low lb) (chunkOf p b n) h t d := by
  rw [own_at]
  refine Finset.sum_congr rfl fun s _ => ?_
  rw [masked_at, score_at, value_at]
  simp only [query_at, key_at, sums_at]
  by_cases e : s ≤ t
  · rw [if_pos e, if_pos e]; rfl
  · rw [if_neg e, if_neg e, zero_mul]

/-- What a chunk adds to the state. -/
theorem update_eq (b : Fin 32) (h : Fin 4) (n : Fin 32) (q e : Fin 128) :
    updateT (keyT lb p) (valueT p) (sumsT lb p) (ix5 n b h q e)
      = update (low lb) (chunkOf p b n) h e q := by
  rw [update_at]
  refine Finset.sum_congr rfl fun s _ => ?_
  simp only [key_at, value_at, sums_at]
  exact mul_comm _ _

/-- How much of the state a chunk keeps. -/
theorem decay_eq (b : Fin 32) (h : Fin 4) (n : Fin 32) (q : Fin 128) :
    decayT (sumsT lb p) (ix4 n b h q) = decay (low lb) (chunkOf p b n) (hcol h q) := by
  rw [decay_at, sums_at]
  rfl

end Chunk

variable (m : (ℓ : Loc nD τ sig) → Buf (Elt Ideal) ℓ) (c : Dev nD)

/-- The input of sequence `b`. -/
def refX (b : Fin 32) : Fin 2048 → Fin 1024 → EReal := fun r j =>
  (m ((c.tc : Thread nD τ).loc main_arg0) : FVec Ideal S32x2048x1024 .f32) (ix3 b r j)
/-- The input norm's weight. -/
def refG : Fin 1024 → EReal := fun j =>
  (m ((c.tc : Thread nD τ).loc main_arg1) : FVec Ideal S1024 .f32) (ix1 j)
/-- The projection's weight. -/
def refW : Fin 1024 → Fin 2048 → EReal := fun j n =>
  (m ((c.tc : Thread nD τ).loc main_arg2) : FVec Ideal S1024x2048 .f32) (ix2 j n)
/-- The lower bound. -/
def refLb : Fin 512 → EReal := fun e =>
  (m ((c.tc : Thread nD τ).loc main_arg3) : FVec Ideal S512 .f32) (ix1 e)
/-- The heads' norm's weight. -/
def refNg : Fin 512 → EReal := fun e =>
  (m ((c.tc : Thread nD τ).loc main_arg4) : FVec Ideal S512 .f32) (ix1 e)

/-- The lower bound's array. -/
abbrev lbA : FVec Ideal S512 .f32 := m ((c.tc : Thread nD τ).loc main_arg3)
/-- The projections' array. -/
abbrev projA : FVec Ideal S32x2048x2048 .f32 := projV (launchContents m c)
/-- The contents when the loop begins. -/
abbrev entryA : Valuation τ sig (Elt Ideal) := entryContents preI m c
/-- The contents when the loop ends. -/
abbrev exitA : Valuation τ sig (Elt Ideal) := after condOps (atTrip condOps bodyI (entryContents preI m) 32 c)

/-- The chunks of the projections' array are the chunks of the input. -/
theorem chunk_eq (b n : Fin 32) : chunkOf (projA m c) b n = chunks (refX m c b) (refG m c) (refW m c) n.val := by
  funext t k
  refine (proj_at _ _ _ b _ k).trans ?_
  have e : (⟨64 * n.val + t.val, by omega⟩ : Fin 2048)
      = ⟨(64 * n.val + t.val) % 2048, Nat.mod_lt _ (by decide)⟩ := Fin.ext (by
    show 64 * n.val + t.val = (64 * n.val + t.val) % 2048; omega)
  rw [e]
  rfl

theorem entry_log : after hostOps0 (launchContents m c) (Proc.devRef .tc main_v52) = logT (lbA m c) (projA m c) :=
  first_log _
theorem entry_decay : decayV (entryA m c) = decayT (sumsT (lbA m c) (projA m c)) := by
  refine (second_decay (after hostOps0 (launchContents m c))).trans ?_
  rw [cumV, entry_log]
theorem entry_update : updateV (entryA m c)
    = updateT (keyT (lbA m c) (projA m c)) (valueT (projA m c)) (sumsT (lbA m c) (projA m c)) := by
  refine (second_update (after hostOps0 (launchContents m c))).trans ?_
  rw [cumV, entry_log, first_key, first_value]
theorem entry_state : stateV (entryA m c) = zeroT := second_state (after hostOps0 (launchContents m c))
theorem entry_count : countV (entryA m c) = fun _ => 0#32 := Value.ctr_entry m c

/-- The reference's recursion is the mixer's. -/
theorem state_eq (b : Fin 32) (h : Fin 4) (q e : Fin 128) (n : ℕ) (hn : n ≤ 32) :
    stateRec (entryA m c) b h q e n
      = state (refLb m c) (chunks (refX m c b) (refG m c) (refW m c)) h e q n := by
  induction n with
  | zero => exact (congrFun (entry_state m c) _).trans (zero_at b h q e)
  | succ n ih =>
    have hm : (Fin.ofNat 32 n).val = n := Nat.mod_eq_of_lt (by omega)
    show decayV (entryA m c) _ * stateRec (entryA m c) b h q e n + updateV (entryA m c) _ = _
    rw [ih (by omega), entry_decay, entry_update, decay_eq, update_eq, chunk_eq, hm, mul_comm]
    rfl

/-- A buffer that the loop leaves alone ends as it was when the loop began. -/
theorem exit_keeps (r : Ref sig .tc) (hr : r ∉ stepW) :
    exitA m c (Proc.devRef .tc r) = entryA m c (Proc.devRef .tc r) := by
  have hc : r ∉ Value.condOps_W := fun h => hr (List.mem_append_left _ h)
  exact (after_of_writes_sub condOps _ Value.condOps_writes hc).trans (loop_keeps _ c r hr 32)

theorem exit_own : exitA m c (Proc.devRef .tc main_v68)
    = ownT (queryT (projA m c)) (keyT (lbA m c) (projA m c)) (valueT (projA m c)) (sumsT (lbA m c) (projA m c)) := by
  rw [exit_keeps m c main_v68 (by decide +kernel)]
  refine (second_own (after hostOps0 (launchContents m c))).trans ?_
  rw [cumV, entry_log, first_key, first_value, first_query]
theorem exit_query : exitA m c (Proc.devRef .tc main_v46) = queryT (projA m c) := by
  rw [exit_keeps m c main_v46 (by decide +kernel)]
  exact (mid_keeps (after hostOps0 (launchContents m c)) main_v46 (by decide +kernel)).trans (first_query _)
theorem exit_sums : exitA m c (Proc.devRef .tc main_v53) = sumsT (lbA m c) (projA m c) := by
  rw [exit_keeps m c main_v53 (by decide +kernel)]
  refine (second_cum (after hostOps0 (launchContents m c))).trans ?_
  rw [cumV, entry_log]
theorem exit_gate : exitA m c (Proc.devRef .tc main_v17) = gateT (projA m c) := by
  rw [exit_keeps m c main_v17 (by decide +kernel)]
  exact (mid_keeps (after hostOps0 (launchContents m c)) main_v17 (by decide +kernel)).trans (first_gate _)
theorem exit_weight : exitA m c (Proc.devRef .tc main_arg4) = m ((c.tc : Thread nD τ).loc main_arg4) := by
  rw [exit_keeps m c main_arg4 (by decide +kernel)]
  exact (mid_keeps (after hostOps0 (launchContents m c)) main_arg4 (by decide +kernel)).trans
    (after_of_writes_sub hostOps0 _ Value.hostOps0_writes (by decide +kernel))

/-- The states kept: before each chunk, the mixer's state. -/
theorem exit_kept (b : Fin 32) (h : Fin 4) (n : Fin 32) (q e : Fin 128) :
    keptV (exitA m c) (ix5 n b h q e)
      = state (refLb m c) (chunks (refX m c b) (refG m c) (refW m c)) h e q n.val := by
  have e1 : keptV (exitA m c) = keptV (after_steps (entryA m c) 32) :=
    (cond_keeps _ main_v80_4 (by decide)).trans (atK_agree m c 32 main_v80_4 (by decide))
  rw [e1, steps_kept _ (entry_count m c) n b h q e 32 le_rfl n.isLt, state_eq m c b h q e n.val (by omega)]

theorem gate_at (p : FVec Ideal S32x2048x2048 .f32) (b : Fin 32) (r : Fin 2048) (d : Fin 512) :
    gateT p (ix3 b r d) = p (ix3 b r (col 3 d)) := by
  pointwise [gateT]
  rfl

/-- The reference's result is the mixer, at every row and column. -/
theorem result_eq (b : Fin 32) (r : Fin 2048) (d : Fin 512) :
    (finalContents condOps preI bodyI postI 32 m c (Proc.devRef .tc main_v105) : FVec Ideal S32x2048x512 .bf16) (ix3 b r d)
      = mixer (refX m c b) (refG m c) (refW m c) (refLb m c) (refNg m c) r d := by
  refine (congrFun (third_result (exitA m c)) (ix3 b r d)).trans ?_
  rw [exit_own, exit_query, exit_sums, exit_gate, exit_weight, result_at]
  have hd : hcol ⟨d.val / 128, by omega⟩ ⟨d.val % 128, by omega⟩ = d := Fin.ext (by
    show 128 * (d.val / 128) + d.val % 128 = d.val; omega)
  have hz : gateT (projA m c) (ix3 b r d)
      = chunkOf (projA m c) b ⟨r.val / 64, by omega⟩ ⟨r.val % 64, by omega⟩ (col 3 d) := by
    rw [gate_at]
    exact congrArg (projA m c) (congrArg (fun i => ix3 b i (col 3 d)) (Fin.ext (by
      show r.val = 64 * (r.val / 64) + r.val % 64; omega)))
  have ho : ∀ e : Fin 128, tokensT (mixT
      (ownT (queryT (projA m c)) (keyT (lbA m c) (projA m c)) (valueT (projA m c)) (sumsT (lbA m c) (projA m c)))
      (queryT (projA m c)) (sumsT (lbA m c) (projA m c)) (keptV (exitA m c)))
      (ix4 b r ⟨d.val / 128, by omega⟩ e)
      = mix (refLb m c) (chunks (refX m c b) (refG m c) (refW m c) (r.val / 64))
        (fun p q => state (refLb m c) (chunks (refX m c b) (refG m c) (refW m c)) ⟨d.val / 128, by omega⟩ p q (r.val / 64))
        ⟨d.val / 128, by omega⟩ ⟨r.val % 64, by omega⟩ e := fun e => by
    rw [tokens_at, mix_at, own_eq, chunk_eq]
    refine congrArg (_ + ·) (Finset.sum_congr rfl fun q _ => ?_)
    rw [exit_kept, query_at, sums_at, chunk_eq]
    rfl
  rw [hz, chunk_eq]
  simp only [ho]
  show _ = result _ _ _ _ _ _ _
  unfold result
  rw [hd]
  rfl

end Cert.ReferenceIdeal.Hgrn
-- ==== Proof.Equation.lean ====
module

public import proofs.«01_k».proof.Proof.Array
public import proofs.«01_k».proof.Proof.RefFinal

/-! # Kernel and reference hold the same result -/

@[expose] public section

set_option maxRecDepth 16384

noncomputable section

namespace Cert.Hgrn

open Idealize.ShloMosaic Idealize.ShloMosaic.TcCoe Idealize.SL.Sem Idealize.ShloMosaic.StableHlo

/-- From the same arguments the kernel's array and the reference's array are equal. -/
theorem equation
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    (finalContents Cert.ReferenceIdeal.Value.condOps Cert.ReferenceIdeal.Value.preI Cert.ReferenceIdeal.Value.bodyI
        Cert.ReferenceIdeal.Value.postI 32 m' c (Proc.devRef .tc Cert.ReferenceIdeal.main_v105)
        : FVec Ideal Cert.KernelIdeal.S32x2048x512 .bf16)
      = ((Cert.KernelIdeal.Gen.dats m 0 c).arrAt 5 Cert.KernelIdeal.cfg0.N
        : FVec Ideal Cert.KernelIdeal.S32x2048x512 .bf16) := by
  funext i
  rw [eq_ix3 i]
  refine (Cert.ReferenceIdeal.Hgrn.result_eq m' c _ _ _).trans
    (Eq.trans ?_ (Cert.KernelIdeal.Hgrn.array_at m c _ _ _).symm)
  have e0 : ∀ b, Cert.ReferenceIdeal.Hgrn.refX m' c b = Cert.KernelIdeal.Hgrn.inX m c b := fun b => by
    unfold Cert.ReferenceIdeal.Hgrn.refX Cert.KernelIdeal.Hgrn.inX
    rw [h0]
  have e1 : Cert.ReferenceIdeal.Hgrn.refG m' c = Cert.KernelIdeal.Hgrn.inG m c := by
    unfold Cert.ReferenceIdeal.Hgrn.refG Cert.KernelIdeal.Hgrn.inG
    rw [h1]
  have e2 : Cert.ReferenceIdeal.Hgrn.refW m' c = Cert.KernelIdeal.Hgrn.inW m c := by
    unfold Cert.ReferenceIdeal.Hgrn.refW Cert.KernelIdeal.Hgrn.inW
    rw [h2]
  have e3 : Cert.ReferenceIdeal.Hgrn.refLb m' c = Cert.KernelIdeal.Hgrn.inLb m c := by
    unfold Cert.ReferenceIdeal.Hgrn.refLb Cert.KernelIdeal.Hgrn.inLb
    rw [h3]
  have e4 : Cert.ReferenceIdeal.Hgrn.refNg m' c = Cert.KernelIdeal.Hgrn.inNg m c := by
    unfold Cert.ReferenceIdeal.Hgrn.refNg Cert.KernelIdeal.Hgrn.inNg
    rw [h4]
  have same : ∀ (b : Fin 32) (r : Fin 2048) (d : Fin 512),
      mixer (Cert.ReferenceIdeal.Hgrn.refX m' c b) (Cert.ReferenceIdeal.Hgrn.refG m' c) (Cert.ReferenceIdeal.Hgrn.refW m' c)
        (Cert.ReferenceIdeal.Hgrn.refLb m' c) (Cert.ReferenceIdeal.Hgrn.refNg m' c) r d
      = mixer (Cert.KernelIdeal.Hgrn.inX m c b) (Cert.KernelIdeal.Hgrn.inG m c) (Cert.KernelIdeal.Hgrn.inW m c)
        (Cert.KernelIdeal.Hgrn.inLb m c) (Cert.KernelIdeal.Hgrn.inNg m c) r d := fun b r d => by
    rw [e0, e1, e2, e3, e4]
  exact same _ _ _

end Cert.Hgrn
-- ==== Proof.MergeSpec.lean ====
module

public import Idealize.ShloMosaic.PureOps.Ideal
public import Idealize.ShloMosaic.Lib.Pointwise

/-! # The merge of the four mixers, written plainly

One token's row `x`, its four mixed rows `o k`, the norm's weight `g`, the gates' matrix `wm` and
shift `mb`, the branches' matrices `wb k` and the last matrix `wo`. -/

@[expose] public section

set_option maxRecDepth 16384

noncomputable section

namespace Cert.Merge

open Idealize.ShloMosaic Idealize.SL.Sem

/-- The row after the root-mean-square norm. -/
def normed (x g : Fin 1024 → EReal) (j : Fin 1024) : EReal :=
  x j * Ideal.rsqrt (Ideal.div (∑ i : Fin 1024, x i * x i) (Ideal.ofBits .f32 0x44800000#32)
    + Ideal.ofBits .f32 0x358637BD#32) * g j

/-- Column `n` of the part of branch `k` in a row of 4096 columns. -/
def gcol (k : Fin 4) (n : Fin 1024) : Fin 4096 := ⟨1024 * k.val + n.val, by omega⟩

/-- The gate of branch `k` at column `n`. -/
def gate (x g : Fin 1024 → EReal) (wm : Fin 1024 → Fin 4096 → EReal) (mb : Fin 4 → Fin 1024 → EReal)
    (k : Fin 4) (n : Fin 1024) : EReal :=
  Ideal.logistic (∑ j : Fin 1024, normed x g j * wm j (gcol k n) + mb k n)

/-- What branch `k` adds at column `n`: its gate times its projection. -/
def branch (x g : Fin 1024 → EReal) (wm : Fin 1024 → Fin 4096 → EReal) (mb : Fin 4 → Fin 1024 → EReal)
    (o : Fin 4 → Fin 512 → EReal) (wb : Fin 4 → Fin 512 → Fin 1024 → EReal) (k : Fin 4) (n : Fin 1024) : EReal :=
  gate x g wm mb k n * ∑ e : Fin 512, o k e * wb k e n

/-- The four branches together. -/
def merged (x g : Fin 1024 → EReal) (wm : Fin 1024 → Fin 4096 → EReal) (mb : Fin 4 → Fin 1024 → EReal)
    (o : Fin 4 → Fin 512 → EReal) (wb : Fin 4 → Fin 512 → Fin 1024 → EReal) (n : Fin 1024) : EReal :=
  branch x g wm mb o wb 0 n + branch x g wm mb o wb 1 n + branch x g wm mb o wb 2 n + branch x g wm mb o wb 3 n

/-- The layer's output at column `d`. -/
def output (x g : Fin 1024 → EReal) (wm : Fin 1024 → Fin 4096 → EReal) (mb : Fin 4 → Fin 1024 → EReal)
    (o : Fin 4 → Fin 512 → EReal) (wb : Fin 4 → Fin 512 → Fin 1024 → EReal) (wo : Fin 1024 → Fin 1024 → EReal)
    (d : Fin 1024) : EReal :=
  x d + ∑ n : Fin 1024, merged x g wm mb o wb n * wo n d

end Cert.Merge
-- ==== Proof.MergeTile.lean ====
module

public import proofs.«01_k».proof.Proof.MergeSpec
public import proofs.«01_k».proof.Proof.Spec
public import proofs.«01_k».proof.Proof.Gen.Kernel2Ideal.Frame
public import Idealize.ShloMosaic.Lib.Pipeline.ValueKit

/-! # What one block of the merge computes -/

@[expose] public section

set_option maxRecDepth 16384

noncomputable section

namespace Cert.Kernel2Ideal.Merge

open Cert.Kernel2Ideal Cert.Kernel2Ideal.Gen Idealize.ShloMosaic Idealize.SL.Sem Cert.Merge

variable (x : Vec Ideal S1x512x1024 .f32) (g : Vec Ideal S1x1024 .f32)
  (w w' : Vec Ideal S1024x1024 .bf16) (b : Vec Ideal S1x1024 .f32)
  (nx : FVec Ideal S512x1024 .bf16) (acc h : FVec Ideal S512x1024 .f32) (o : FVec Ideal S512x512 .bf16)
  (p q : Vec Ideal S1x512x512 .bf16) (v v' : Vec Ideal S1x512x1024 .bf16)

/-- A product's row: the gate's logit from the normed rows. -/
abbrev logit (nx : FVec Ideal S512x1024 .bf16) (w : Vec Ideal S1024x1024 .bf16) (b : Vec Ideal S1x1024 .f32)
    (r : Fin 512) (n : Fin 1024) : EReal :=
  ∑ j : Fin 1024, nx (ix2 r j) * w (ix2 j n) + b (ix2 0 n)

theorem normed_at (r : Fin 512) (j : Fin 1024) :
    k0_pay3 x g (ix2 r j) = normed (fun i => x (ix3 0 r i)) (fun i => g (ix2 0 i)) j := by
  pointwise [k0_pay3, k0_pay2]
  rfl

theorem first_gate_at (r : Fin 512) (n : Fin 1024) :
    k0_pay5 x g w b (ix2 r n) = Ideal.logistic (logit (k0_pay3 x g) w b r n) := by
  pointwise [k0_pay5, dot_S512x1024_S1024x1024_S512x1024_1_0_0_1_n_n]
  rw [Cert.Hgrn.half_tanh]

theorem two_at (r : Fin 512) (n : Fin 1024) :
    k0_pay7 nx acc h o v w b p v' (ix2 r n)
      = acc (ix2 r n) + h (ix2 r n) * (∑ e : Fin 512, o (ix2 r e) * v (ix3 0 e n))
        + Ideal.logistic (logit nx w b r n) * ∑ e : Fin 512, p (ix3 0 r e) * v' (ix3 0 e n) := by
  pointwise [k0_pay7, dot_S512x1024_S1024x1024_S512x1024_1_0_0_1_n_n, dot_S512x512_S512x1024_S512x1024_1_0_0_1_n_n]
  rw [Cert.Hgrn.half_tanh]

theorem half_gate_at (r : Fin 512) (n : Fin 1024) :
    k0_pay8 nx w b (ix2 r n)
      = Ideal.ofBits .f32 0x3F000000#32 * Ideal.tanh (Ideal.ofBits .f32 0x3F000000#32 * logit nx w b r n) := by
  pointwise [k0_pay8, dot_S512x1024_S1024x1024_S512x1024_1_0_0_1_n_n]

theorem last_at (r : Fin 512) (d : Fin 1024) :
    k0_pay9 nx acc h p v w b q v' w' (ix2 r d)
      = ∑ n : Fin 1024, (acc (ix2 r n)
          + (h (ix2 r n) + Ideal.ofBits .f32 0x3F000000#32) * (∑ e : Fin 512, p (ix3 0 r e) * v (ix3 0 e n))
          + Ideal.logistic (logit nx w b r n) * ∑ e : Fin 512, q (ix3 0 r e) * v' (ix3 0 e n)) * w' (ix2 n d) := by
  pointwise [k0_pay9, dot_S512x1024_S1024x1024_S512x1024_1_0_0_1_n_n, dot_S512x512_S512x1024_S512x1024_1_0_0_1_n_n]
  simp only [Cert.Hgrn.half_tanh]

theorem sum_at (a : FVec Ideal S512x1024 .f32) (r : Fin 512) (d : Fin 1024) :
    k0_pay1 a h (ix3 0 r d) = a (ix2 r d) + h (ix2 r d) := by
  pointwise [k0_pay1]

end Cert.Kernel2Ideal.Merge
-- ==== Proof.MergeBlock.lean ====
module

public import proofs.«01_k».proof.Proof.MergeTile

/-! # What one block of the merge stores, from the input blocks -/

@[expose] public section

set_option maxRecDepth 16384

noncomputable section

namespace Cert.Kernel2Ideal.Merge

open Cert.Kernel2Ideal Cert.Kernel2Ideal.Gen Idealize.ShloMosaic Idealize.SL.Sem Cert.Merge

/-- A load of the gate matrix's part of branch `k` reads its columns. -/
theorem ld_wm (x : Vec Ideal S1024x4096 .bf16) (k : Fin 4) (o : ℕ) (ho : o = 1024 * k.val)
    (inb) (j n : Fin 1024) :
    (View.ld x (Rect.unit (s := S1024x4096) ![0, o] S1024x1024.size inb) : Vec Ideal S1024x1024 .bf16) (ix2 j n)
      = x (ix2 j (gcol k n)) := by
  subst ho
  refine congrArg x (funext fun a => Fin.ext ?_)
  rw [Rect.idx_unit_val]
  fin_cases a
  · show 0 + j.val = j.val; omega
  · show 1024 * k.val + n.val = 1024 * k.val + n.val; rfl

/-- A load of the gates' shift of branch `k` reads its columns. -/
theorem ld_mb (x : Vec Ideal S1x4096 .f32) (k : Fin 4) (o : ℕ) (ho : o = 1024 * k.val)
    (inb) (n : Fin 1024) :
    (View.ld x (Rect.unit (s := S1x4096) ![0, o] S1x1024.size inb) : Vec Ideal S1x1024 .f32) (ix2 0 n)
      = x (ix2 0 (gcol k n)) := by
  subst ho
  refine congrArg x (funext fun a => Fin.ext ?_)
  rw [Rect.idx_unit_val]
  fin_cases a
  · show 0 + 0 = 0; rfl
  · show 1024 * k.val + n.val = 1024 * k.val + n.val; rfl

/-- A load of one of the four projections reads that one. -/
theorem ld_wb (x : Vec Ideal S4x512x1024 .bf16) (k : Fin 4) (o : ℕ) (ho : o = k.val)
    (inb) (e : Fin 512) (n : Fin 1024) :
    (View.ld x (Rect.unit (s := S4x512x1024) ![o, 0, 0] S1x512x1024.size inb) : Vec Ideal S1x512x1024 .bf16)
        (ix3 0 e n)
      = x (ix3 k e n) := by
  subst ho
  refine congrArg x (funext fun a => Fin.ext ?_)
  rw [Rect.idx_unit_val]
  fin_cases a
  · show k.val + 0 = k.val; omega
  · show 0 + e.val = e.val; omega
  · show 0 + n.val = n.val; omega

/-- The one store's piece, read at an entry. -/
theorem canon_at (P : S1x512x1024.Idx → Elt Ideal .f32) (r : Fin 512) (d : Fin 1024) :
    View.canon [(⟨r0_0, P⟩ : View.Piece (Elt Ideal) S1x512x1024 .f32)] (ix3 0 r d) = P (ix3 0 r d) := by
  have : (ix3 (0 : Fin 1) r d : S1x512x1024.Idx) = r0_0.emb (ix3 0 r d : S1x512x1024.Idx) := by
    funext a
    refine Fin.ext ?_
    rw [Rect.emb_apply]
    fin_cases a
    · show 0 = 0 + 1 * 0; omega
    · show r.val = 0 + 1 * r.val; omega
    · show d.val = 0 + 1 * d.val; omega
  have h := View.canon_cons_emb r0_0 P [] (ix3 0 r d : S1x512x1024.Idx)
  rw [← this] at h
  exact h

theorem zeros_at (i : S512x1024.Idx) : (k0_pay4 (F := Ideal)) i = (0 : EReal) := by
  show Scalar.ofBits (F := Ideal) .f32 0x00000000#32 = (0 : EReal)
  simp

theorem row_at (x : Vec Ideal S1x512x1024 .f32) (r : Fin 512) (d : Fin 1024) :
    k0_pay2 x (ix2 r d) = x (ix3 0 r d) := by
  pointwise [k0_pay2]

theorem mixed_at (o : Vec Ideal S1x512x512 .bf16) (r e : Fin 512) :
    k0_pay6 o (ix2 r e) = o (ix3 0 r e) := by
  pointwise [k0_pay6]

variable (x0 : Vec Ideal S1x512x1024 .f32) (x1 x2 x3 x4 : Vec Ideal S1x512x512 .bf16)
  (x5 : Vec Ideal S1x1024 .f32) (x6 : Vec Ideal S1024x4096 .bf16) (x7 : Vec Ideal S1x4096 .f32)
  (x8 : Vec Ideal S4x512x1024 .bf16) (x9 : Vec Ideal S1024x1024 .bf16)

/-- The four mixed rows of a block's row. -/
def mixedRows (r : Fin 512) (k : Fin 4) (e : Fin 512) : EReal :=
  match k with
  | 0 => x1 (ix3 0 r e)
  | 1 => x2 (ix3 0 r e)
  | 2 => x3 (ix3 0 r e)
  | 3 => x4 (ix3 0 r e)

/-- The logit of branch `k`, from the loaded parts. -/
theorem logit_eq (k : Fin 4) (w : Vec Ideal S1024x1024 .bf16) (b : Vec Ideal S1x1024 .f32)
    (hw : ∀ j n, w (ix2 j n) = x6 (ix2 j (gcol k n))) (hb : ∀ n, b (ix2 0 n) = x7 (ix2 0 (gcol k n)))
    (r : Fin 512) (n : Fin 1024) :
    Ideal.logistic (logit (k0_pay3 x0 x5) w b r n)
      = gate (fun i => x0 (ix3 0 r i)) (fun i => x5 (ix2 0 i)) (fun j n => x6 (ix2 j n))
          (fun k n => x7 (ix2 0 (gcol k n))) k n := by
  simp only [logit, gate, normed_at, hw, hb]

/-- The entry a block stores is the merge of its rows. -/
theorem out_at (r : Fin 512) (d : Fin 1024) :
    out0_10 x0 x1 x2 x3 x4 x5 x6 x7 x8 x9 (ix3 0 r d)
      = output (fun i => x0 (ix3 0 r i)) (fun i => x5 (ix2 0 i)) (fun j n => x6 (ix2 j n))
          (fun k n => x7 (ix2 0 (gcol k n))) (mixedRows x1 x2 x3 x4 r) (fun k e n => x8 (ix3 k e n))
          (fun n d => x9 (ix2 n d)) d := by
  have l0 : View.ld (Val := Elt Ideal) (e' := .f32) x0 r0_0 = x0 :=
    View.ld_unit_zero (S := S1x512x1024) (by funext a; fin_cases a <;> rfl) _ _
  have l5 : View.ld (Val := Elt Ideal) (e' := .f32) x5 r0_1 = x5 :=
    View.ld_unit_zero (S := S1x1024) (by funext a; fin_cases a <;> rfl) _ _
  have lo : ∀ o : Vec Ideal S1x512x512 .bf16, View.ld (Val := Elt Ideal) (e' := .bf16) o r0_4 = o := fun o =>
    View.ld_unit_zero (S := S1x512x512) (by funext a; fin_cases a <;> rfl) _ _
  have l9 : View.ld (Val := Elt Ideal) (e' := .bf16) x9 r0_15 = x9 :=
    View.ld_unit_zero (S := S1024x1024) (by funext a; fin_cases a <;> rfl) _ _
  unfold_out out0_10
  rw [l0, l5, l9, lo x1, lo x2, lo x3, lo x4]
  refine (canon_at _ r d).trans ?_
  rw [sum_at, row_at, last_at]
  simp only [half_gate_at, Cert.Hgrn.half_tanh, two_at, zeros_at, zero_add, first_gate_at, mixed_at]
  unfold output merged branch
  refine congrArg (x0 (ix3 0 r d) + ·) (Finset.sum_congr rfl fun n _ => congrArg (· * x9 (ix2 n d)) ?_)
  have g0 := logit_eq x0 x5 x6 x7 0 (View.ld x6 r0_2) (View.ld x7 r0_3) (ld_wm x6 0 0 rfl _)
    (ld_mb x7 0 0 rfl _) r n
  have g1 := logit_eq x0 x5 x6 x7 1 (View.ld x6 r0_6) (View.ld x7 r0_7) (ld_wm x6 1 1024 rfl _)
    (ld_mb x7 1 1024 rfl _) r n
  have g2 := logit_eq x0 x5 x6 x7 2 (View.ld x6 r0_9) (View.ld x7 r0_10) (ld_wm x6 2 2048 rfl _)
    (ld_mb x7 2 2048 rfl _) r n
  have g3 := logit_eq x0 x5 x6 x7 3 (View.ld x6 r0_12) (View.ld x7 r0_13) (ld_wm x6 3 3072 rfl _)
    (ld_mb x7 3 3072 rfl _) r n
  rw [g0, g1, g2, g3]
  have h0 : ∀ e, (View.ld x8 r0_5 : Vec Ideal S1x512x1024 .bf16) (ix3 0 e n) = x8 (ix3 0 e n) := fun e => ld_wb x8 0 _ rfl _ e n
  have h1 : ∀ e, (View.ld x8 r0_8 : Vec Ideal S1x512x1024 .bf16) (ix3 0 e n) = x8 (ix3 1 e n) := fun e => ld_wb x8 1 _ rfl _ e n
  have h2 : ∀ e, (View.ld x8 r0_11 : Vec Ideal S1x512x1024 .bf16) (ix3 0 e n) = x8 (ix3 2 e n) := fun e => ld_wb x8 2 _ rfl _ e n
  have h3 : ∀ e, (View.ld x8 r0_14 : Vec Ideal S1x512x1024 .bf16) (ix3 0 e n) = x8 (ix3 3 e n) := fun e => ld_wb x8 3 _ rfl _ e n
  simp only [h0, h1, h2, h3, mixedRows]

end Cert.Kernel2Ideal.Merge
-- ==== Proof.MergeHeads.lean ====
module

public import proofs.«01_k».proof.Proof.MergeSpec
public import proofs.«01_k».proof.Proof.Gen.Kernel2Ideal.Value
public import Idealize.ShloMosaic.Lib.Pipeline.ValueKit

/-! # The order of the heads

The second mixer's result and the rows of its projection are put in the same other order of heads
before the merge: the order's table, and what the reordered arrays read. -/

@[expose] public section

set_option maxRecDepth 16384

noncomputable section

namespace Cert.Kernel2Ideal.Merge

open Cert.Kernel2Ideal Cert.Kernel2Ideal.Gen Idealize.ShloMosaic Idealize.ShloMosaic.TcCoe
  Idealize.SL.Sem Cert.Merge

/-- The head stored at place `h`. -/
def headAt : Fin 8 → Fin 8 := ![0, 4, 1, 5, 2, 6, 3, 7]

/-- The column stored at place `c`: the same column of the head stored there. -/
def colAt (c : Fin 512) : Fin 512 :=
  ⟨64 * (headAt ⟨c.val / 64, by omega⟩).val + c.val % 64, by
    have := (headAt ⟨c.val / 64, by omega⟩).isLt; omega⟩

theorem headAt_injective : Function.Injective headAt := by
  intro a b; revert a b; decide

theorem colAt_bijective : Function.Bijective colAt := by
  refine Finite.injective_iff_bijective.mp fun a b h => ?_
  have hv : 64 * (headAt ⟨a.val / 64, by omega⟩).val + a.val % 64
      = 64 * (headAt ⟨b.val / 64, by omega⟩).val + b.val % 64 := congrArg Fin.val h
  have hh : headAt ⟨a.val / 64, by omega⟩ = headAt ⟨b.val / 64, by omega⟩ := Fin.ext (by omega)
  have hd : a.val / 64 = b.val / 64 := congrArg Fin.val (headAt_injective hh)
  exact Fin.ext (by omega)

/-- A sum over the reordered columns is the sum over the columns. -/
theorem sum_colAt (f : Fin 512 → EReal) : ∑ e : Fin 512, f (colAt e) = ∑ e : Fin 512, f e :=
  Function.Bijective.sum_comp colAt_bijective f

/-- A table of the order, with negative entries counted from the end as the program does. -/
abbrev order (l : Fin 8 → BitVec 32) : IVec S8x1 32 :=
  broadcastInDim S8x1 ![0] bcast_S8_S8x1_0
    (select (cmpi .slt (fun i => l (S8.rowMajor i)) (broadcastInDim S8 ![] bcast_S_S8 (constantI S_ 32 0#32)))
      (addi (fun i => l (S8.rowMajor i)) (broadcastInDim S8 ![] bcast_S_S8 (constantI S_ 32 8#32)))
      (fun i => l (S8.rowMajor i)))

theorem order_at (h : Fin 8) : (order lit0 (ix2 h 0)).toInt.toNat = (headAt h).val := by
  revert h
  decide +kernel

theorem order_at' (h : Fin 8) : (order lit1 (ix2 h 0)).toInt.toNat = (headAt h).val := by
  revert h
  decide +kernel

/-- A gather along the heads of a result reads the head its table names. -/
theorem gather_result {α : Type} (o : S32x2048x8x64.Idx → α) (idx : IVec S8x1 32) (b : Fin 32) (r : Fin 2048)
    (h h' : Fin 8) (d : Fin 64) (hi : (idx (ix2 h 0)).toInt.toNat = h'.val) :
    Host.gather gather_S32x2048x8x64_S8x1_S32x2048x8x64_013_2_n_n_2_1_322048164 o idx (ix4 b r h d)
      = o (ix4 b r h' d) := by
  refine congrArg o (funext fun a => Fin.ext ?_)
  show GatherDims.start _ (ix4 b r h d) idx a + GatherDims.batchCoord _ (ix4 b r h d) a
    + GatherDims.offCoord _ (ix4 b r h d) a = _
  rw [GatherDims.batchCoord_eq_zero _ _ _ List.not_mem_nil]
  have hsi : ∀ c, (GatherDims.siIdx gather_S32x2048x8x64_S8x1_S32x2048x8x64_013_2_n_n_2_1_322048164 (ix4 b r h d) c)
      = ix2 h 0 := by
    intro c
    have hc : c.val = 0 := by have h1 : c.val < 1 := c.isLt; omega
    obtain ⟨c, hlt⟩ := c
    obtain rfl : c = 0 := hc
    funext a; fin_cases a <;> rfl
  have hs : GatherDims.start gather_S32x2048x8x64_S8x1_S32x2048x8x64_013_2_n_n_2_1_322048164 (ix4 b r h d) idx (2 : Fin 4) = h'.val := by
    unfold GatherDims.start
    rw [dif_pos (by decide), hsi, hi]
    exact Nat.min_eq_left (by show h'.val ≤ 7; omega)
  fin_cases a
  · show 0 + 0 + b.val = b.val; omega
  · show 0 + 0 + r.val = r.val; omega
  · show _ + 0 + 0 = h'.val
    exact hs
  · show 0 + 0 + d.val = d.val; omega

/-- A gather along the heads of a projection's columns reads the head its table names. -/
theorem gather_weight {α : Type} (o : S1024x8x64.Idx → α) (idx : IVec S8x1 32) (n : Fin 1024)
    (h h' : Fin 8) (d : Fin 64) (hi : (idx (ix2 h 0)).toInt.toNat = h'.val) :
    Host.gather gather_S1024x8x64_S8x1_S1024x8x64_02_1_n_n_1_1_1024164 o idx (ix3 n h d)
      = o (ix3 n h' d) := by
  refine congrArg o (funext fun a => Fin.ext ?_)
  show GatherDims.start _ (ix3 n h d) idx a + GatherDims.batchCoord _ (ix3 n h d) a
    + GatherDims.offCoord _ (ix3 n h d) a = _
  rw [GatherDims.batchCoord_eq_zero _ _ _ List.not_mem_nil]
  have hsi : ∀ c, (GatherDims.siIdx gather_S1024x8x64_S8x1_S1024x8x64_02_1_n_n_1_1_1024164 (ix3 n h d) c)
      = ix2 h 0 := by
    intro c
    have hc : c.val = 0 := by have h1 : c.val < 1 := c.isLt; omega
    obtain ⟨c, hlt⟩ := c
    obtain rfl : c = 0 := hc
    funext a; fin_cases a <;> rfl
  have hs : GatherDims.start gather_S1024x8x64_S8x1_S1024x8x64_02_1_n_n_1_1_1024164 (ix3 n h d) idx (1 : Fin 3) = h'.val := by
    unfold GatherDims.start
    rw [dif_pos (by decide), hsi, hi]
    exact Nat.min_eq_left (by show h'.val ≤ 7; omega)
  fin_cases a
  · show 0 + 0 + n.val = n.val; omega
  · show _ + 0 + 0 = h'.val
    exact hs
  · show 0 + 0 + d.val = d.val; omega

end Cert.Kernel2Ideal.Merge
-- ==== Proof.MergeArray.lean ====
module

public import proofs.«01_k».proof.Proof.MergeBlock
public import proofs.«01_k».proof.Proof.MergeHeads
public import Idealize.ShloMosaic.Lib.Claim

/-! # What the merge's result holds

The arrays the grid reads, from the arguments, and the whole result: the merge of every token. -/

@[expose] public section

set_option maxRecDepth 16384

noncomputable section

namespace Cert.Kernel2Ideal.Merge

open Cert.Kernel2Ideal Cert.Kernel2Ideal.Gen Idealize.ShloMosaic Idealize.ShloMosaic.TcCoe
  Idealize.SL.Sem Cert.Merge

/-- The reordered result, at a column. -/
theorem reordered_result (o : FVec Ideal S32x2048x512 .bf16) (b : Fin 32) (r : Fin 2048) (e : Fin 512) :
    shapeCast S32x2048x512 (Host.gather gather_S32x2048x8x64_S8x1_S32x2048x8x64_013_2_n_n_2_1_322048164
        (shapeCast S32x2048x8x64 o shapeCasts_S32x2048x512_S32x2048x8x64) (order lit0))
        shapeCasts_S32x2048x8x64_S32x2048x512 (ix3 b r e)
      = o (ix3 b r (colAt e)) := by
  refine (shapeCast_apply _ _ (ix3 b r e) (ix4 b r ⟨e.val / 64, by omega⟩ ⟨e.val % 64, by omega⟩ : S32x2048x8x64.Idx) (by
    rw [Shape.rowMajor_val_three, Shape.rowMajor_val_four]
    show ((b.val * 2048 + r.val) * 8 + e.val / 64) * 64 + e.val % 64 = (b.val * 2048 + r.val) * 512 + e.val
    omega)).trans ?_
  rw [gather_result _ (order lit0) b r _ (headAt ⟨e.val / 64, by omega⟩) _ (order_at _)]
  refine (shapeCast_apply _ _ _ (ix3 b r (colAt e) : S32x2048x512.Idx) (by
    rw [Shape.rowMajor_val_three, Shape.rowMajor_val_four]
    show (b.val * 2048 + r.val) * 512 + (64 * (headAt ⟨e.val / 64, _⟩).val + e.val % 64)
      = ((b.val * 2048 + r.val) * 8 + (headAt ⟨e.val / 64, _⟩).val) * 64 + e.val % 64
    omega))

/-- The reordered projection, at a row. -/
theorem reordered_weight (w : FVec Ideal S512x1024 .f32) (e : Fin 512) (n : Fin 1024) :
    transpose S512x1024 [1, 0] (shapeCast S1024x512 (Host.gather gather_S1024x8x64_S8x1_S1024x8x64_02_1_n_n_1_1_1024164
        (shapeCast S1024x8x64 (transpose S1024x512 [1, 0] w transposes_S512x1024_S1024x512_1_0)
          shapeCasts_S1024x512_S1024x8x64) (order lit1))
        shapeCasts_S1024x8x64_S1024x512) transposes_S1024x512_S512x1024_1_0 (ix2 e n)
      = w (ix2 (colAt e) n) := by
  have h1 : ∀ v : FVec Ideal S1024x512 .f32,
      transpose S512x1024 [1, 0] v transposes_S1024x512_S512x1024_1_0 (ix2 e n) = v (ix2 n e) := fun v => by
    pointwise
  have h2 : ∀ q : Fin 512, transpose S1024x512 [1, 0] w transposes_S512x1024_S1024x512_1_0 (ix2 n q) = w (ix2 q n) :=
    fun q => by pointwise
  rw [h1]
  refine (shapeCast_apply _ _ (ix2 n e) (ix3 n ⟨e.val / 64, by omega⟩ ⟨e.val % 64, by omega⟩ : S1024x8x64.Idx) (by
    rw [Shape.rowMajor_val_two, Shape.rowMajor_val_three]
    show (n.val * 8 + e.val / 64) * 64 + e.val % 64 = n.val * 512 + e.val
    omega)).trans ?_
  rw [gather_weight _ (order lit1) n _ (headAt ⟨e.val / 64, by omega⟩) _ (order_at' _)]
  refine (shapeCast_apply _ _ _ (ix2 n (colAt e) : S1024x512.Idx) (by
    rw [Shape.rowMajor_val_two, Shape.rowMajor_val_three]
    show n.val * 512 + (64 * (headAt ⟨e.val / 64, _⟩).val + e.val % 64)
      = (n.val * 8 + (headAt ⟨e.val / 64, _⟩).val) * 64 + e.val % 64
    omega)).trans ?_
  exact h2 _

variable (m : (ℓ : Loc nD τ sig) → Buf (Elt Ideal) ℓ)

/-- The input of sequence `b`. -/
def inX (c : Dev nD) (b : Fin 32) : Fin 2048 → Fin 1024 → EReal :=
  fun r j => (m ((c : Thread nD τ).loc main_arg0) : FVec Ideal S32x2048x1024 .f32) (ix3 b r j)

/-- The four mixed results of sequence `b`. -/
def inO (c : Dev nD) (b : Fin 32) (r : Fin 2048) (k : Fin 4) (e : Fin 512) : EReal :=
  match k with
  | 0 => (m ((c : Thread nD τ).loc main_arg1) : FVec Ideal S32x2048x512 .bf16) (ix3 b r e)
  | 1 => (m ((c : Thread nD τ).loc main_arg2) : FVec Ideal S32x2048x512 .bf16) (ix3 b r e)
  | 2 => (m ((c : Thread nD τ).loc main_arg3) : FVec Ideal S32x2048x512 .bf16) (ix3 b r e)
  | 3 => (m ((c : Thread nD τ).loc main_arg4) : FVec Ideal S32x2048x512 .bf16) (ix3 b r e)

/-- The norm's weight. -/
def inG (c : Dev nD) : Fin 1024 → EReal :=
  fun j => (m ((c : Thread nD τ).loc main_arg5) : FVec Ideal S1024 .f32) (ix1 j)

/-- The gates' matrix. -/
def inWm (c : Dev nD) : Fin 1024 → Fin 4096 → EReal :=
  fun j n => (m ((c : Thread nD τ).loc main_arg6) : FVec Ideal S1024x4096 .f32) (ix2 j n)

/-- The gates' shift. -/
def inMb (c : Dev nD) : Fin 4 → Fin 1024 → EReal :=
  fun k n => (m ((c : Thread nD τ).loc main_arg7) : FVec Ideal S4x1024 .f32) (ix2 k n)

/-- The branches' matrices. -/
def inWb (c : Dev nD) : Fin 4 → Fin 512 → Fin 1024 → EReal :=
  fun k e n => (m ((c : Thread nD τ).loc main_arg8) : FVec Ideal S4x512x1024 .f32) (ix3 k e n)

/-- The last matrix. -/
def inWo (c : Dev nD) : Fin 1024 → Fin 1024 → EReal :=
  fun n d => (m ((c : Thread nD τ).loc main_arg9) : FVec Ideal S1024x1024 .f32) (ix2 n d)

theorem V_main_v0 (c : Dev nD) : (V m c main_v0 : FVec Ideal S1x1024 .f32)
    = shapeCast S1x1024 (m ((c : Thread nD τ).loc main_arg5) : FVec Ideal S1024 .f32) shapeCasts_S1024_S1x1024 := by
  unfold V; after_results; try rfl

theorem V_main_v35 (c : Dev nD) (i : S1024x4096.Idx) : (V m c main_v35 : FVec Ideal S1024x4096 .bf16) i
    = (m ((c : Thread nD τ).loc main_arg6) : FVec Ideal S1024x4096 .f32) i := by
  unfold V; after_results; try rfl

theorem V_main_v36 (c : Dev nD) : (V m c main_v36 : FVec Ideal S1x4096 .f32)
    = shapeCast S1x4096 (m ((c : Thread nD τ).loc main_arg7) : FVec Ideal S4x1024 .f32) shapeCasts_S4x1024_S1x4096 := by
  unfold V; after_results; try rfl

theorem V_main_v37 (c : Dev nD) (i : S1024x1024.Idx) : (V m c main_v37 : FVec Ideal S1024x1024 .bf16) i
    = (m ((c : Thread nD τ).loc main_arg9) : FVec Ideal S1024x1024 .f32) i := by
  unfold V; after_results; try rfl

theorem V_main_v9 (c : Dev nD) : (V m c main_v9 : FVec Ideal S32x2048x512 .bf16)
    = shapeCast S32x2048x512 (Host.gather gather_S32x2048x8x64_S8x1_S32x2048x8x64_013_2_n_n_2_1_322048164
        (shapeCast S32x2048x8x64 (m ((c : Thread nD τ).loc main_arg2) : FVec Ideal S32x2048x512 .bf16)
          shapeCasts_S32x2048x512_S32x2048x8x64) (order lit0))
        shapeCasts_S32x2048x8x64_S32x2048x512 := by
  unfold V; after_results; try rfl

/-- Four matrices laid one after the other. -/
abbrev stack (v0 v1 v2 v3 : FVec Ideal S512x1024 .f32) : FVec Ideal S4x512x1024 .f32 :=
  concatenate S4x512x1024 0 [⟨S1x512x1024, broadcastInDim S1x512x1024 ![1, 2] bcast_S512x1024_S1x512x1024_1_2 v0⟩,
    ⟨S1x512x1024, broadcastInDim S1x512x1024 ![1, 2] bcast_S512x1024_S1x512x1024_1_2 v1⟩,
    ⟨S1x512x1024, broadcastInDim S1x512x1024 ![1, 2] bcast_S512x1024_S1x512x1024_1_2 v2⟩,
    ⟨S1x512x1024, broadcastInDim S1x512x1024 ![1, 2] bcast_S512x1024_S1x512x1024_1_2 v3⟩]
    concatenates_S1x512x1024_S1x512x1024_S1x512x1024_S1x512x1024_S4x512x1024_d0

section
variable (v0 v1 v2 v3 : FVec Ideal S512x1024 .f32) (e : Fin 512) (n : Fin 1024)

theorem stack_0 : stack v0 v1 v2 v3 (ix3 0 e n) = v0 (ix2 e n) := by
  pointwise [stack]

theorem stack_1 : stack v0 v1 v2 v3 (ix3 1 e n) = v1 (ix2 e n) := by
  pointwise [stack]

theorem stack_2 : stack v0 v1 v2 v3 (ix3 2 e n) = v2 (ix2 e n) := by
  pointwise [stack]

theorem stack_3 : stack v0 v1 v2 v3 (ix3 3 e n) = v3 (ix2 e n) := by
  pointwise [stack]
end

/-- One of the four projections. -/
abbrev oneWb (w : FVec Ideal S4x512x1024 .f32) (k : Fin 4) (hs : S4x512x1024.Slices ![k.val, 0, 0] S1x512x1024) :
    FVec Ideal S512x1024 .f32 :=
  shapeCast S512x1024 (extractStridedSlice S1x512x1024 ![k.val, 0, 0] w hs) shapeCasts_S1x512x1024_S512x1024

theorem oneWb_at (w : FVec Ideal S4x512x1024 .f32) (k : Fin 4) (hs) (e : Fin 512) (n : Fin 1024) :
    oneWb w k hs (ix2 e n) = w (ix3 k e n) := by
  pointwise [oneWb]

/-- A projection with its rows in the other order of heads. -/
abbrev reorder (w : FVec Ideal S512x1024 .f32) : FVec Ideal S512x1024 .f32 :=
  transpose S512x1024 [1, 0] (shapeCast S1024x512 (Host.gather gather_S1024x8x64_S8x1_S1024x8x64_02_1_n_n_1_1_1024164
        (shapeCast S1024x8x64 (transpose S1024x512 [1, 0] w transposes_S512x1024_S1024x512_1_0)
          shapeCasts_S1024x512_S1024x8x64) (order lit1))
        shapeCasts_S1024x8x64_S1024x512) transposes_S1024x512_S512x1024_1_0

set_option maxHeartbeats 4000000 in
theorem V_main_v34 (c : Dev nD) (i : S4x512x1024.Idx) : (V m c main_v34 : FVec Ideal S4x512x1024 .bf16) i
    = stack (oneWb (m ((c : Thread nD τ).loc main_arg8)) 0 slices_S4x512x1024_S1x512x1024_0_0_0)
        (reorder (oneWb (m ((c : Thread nD τ).loc main_arg8)) 1 slices_S4x512x1024_S1x512x1024_1_0_0))
        (oneWb (m ((c : Thread nD τ).loc main_arg8)) 2 slices_S4x512x1024_S1x512x1024_2_0_0)
        (oneWb (m ((c : Thread nD τ).loc main_arg8)) 3 slices_S4x512x1024_S1x512x1024_3_0_0) i := by
  unfold V; after_results; rfl

/-- The blocks' places, at every grid point. -/
theorem places : ∀ t : Fin cfg0.N, win0_0.index t = ![t.val / 4, t.val % 4, 0]
    ∧ win0_1.index t = ![t.val / 4, t.val % 4, 0] ∧ win0_2.index t = ![t.val / 4, t.val % 4, 0]
    ∧ win0_3.index t = ![t.val / 4, t.val % 4, 0] ∧ win0_4.index t = ![t.val / 4, t.val % 4, 0]
    ∧ win0_5.index t = ![0, 0] ∧ win0_6.index t = ![0, 0] ∧ win0_7.index t = ![0, 0]
    ∧ win0_8.index t = ![0, 0, 0] ∧ win0_9.index t = ![0, 0]
    ∧ win0_10.index t = ![t.val / 4, t.val % 4, 0] :=
  (by decide +kernel : ∀ t : Fin grid0.N, _)

theorem lt_points (t : Fin cfg0.N) : t.val < 128 := lt_of_lt_of_eq t.isLt N_0

/-- The sequence a grid point works on. -/
def seqOf (t : Fin cfg0.N) : Fin 32 := ⟨t.val / 4, by have := lt_points t; omega⟩

/-- The token of a point's row. -/
def tokOf (t : Fin cfg0.N) (r : Fin 512) : Fin 2048 := ⟨512 * (t.val % 4) + r.val, by omega⟩

section
variable (c : Dev nD) (t : Fin cfg0.N) (r : Fin 512)

theorem block_x (j : Fin 1024) : (iblk m c 0 t : FVec Ideal S1x512x1024 .f32) (ix3 0 r j)
    = inX m c (seqOf t) (tokOf t r) j := by
  unfold inX seqOf tokOf
  blk_ext [iblk, V, places t]

theorem block_o0 (e : Fin 512) : (iblk m c 1 t : FVec Ideal S1x512x512 .bf16) (ix3 0 r e)
    = inO m c (seqOf t) (tokOf t r) 0 e := by
  unfold inO seqOf tokOf
  blk_ext [iblk, V, places t]

theorem block_o1 (e : Fin 512) : (iblk m c 2 t : FVec Ideal S1x512x512 .bf16) (ix3 0 r e)
    = inO m c (seqOf t) (tokOf t r) 1 (colAt e) := by
  have h : (iblk m c 2 t : FVec Ideal S1x512x512 .bf16) (ix3 0 r e)
      = (V m c main_v9 : FVec Ideal S32x2048x512 .bf16) (ix3 (seqOf t) (tokOf t r) e) := by
    unfold seqOf tokOf
    blk_ext [iblk, places t]
  rw [h, V_main_v9, reordered_result]
  rfl

theorem block_o2 (e : Fin 512) : (iblk m c 3 t : FVec Ideal S1x512x512 .bf16) (ix3 0 r e)
    = inO m c (seqOf t) (tokOf t r) 2 e := by
  unfold inO seqOf tokOf
  blk_ext [iblk, V, places t]

theorem block_o3 (e : Fin 512) : (iblk m c 4 t : FVec Ideal S1x512x512 .bf16) (ix3 0 r e)
    = inO m c (seqOf t) (tokOf t r) 3 e := by
  unfold inO seqOf tokOf
  blk_ext [iblk, V, places t]

theorem block_g (j : Fin 1024) : (iblk m c 5 t : FVec Ideal S1x1024 .f32) (ix2 0 j) = inG m c j := by
  have h : (iblk m c 5 t : FVec Ideal S1x1024 .f32) (ix2 0 j) = (V m c main_v0 : FVec Ideal S1x1024 .f32) (ix2 0 j) := by
    blk_ext [iblk, places t]
  rw [h, V_main_v0]
  pointwise
  rfl

theorem block_wm (j : Fin 1024) (n : Fin 4096) : (iblk m c 6 t : FVec Ideal S1024x4096 .bf16) (ix2 j n) = inWm m c j n := by
  have h : (iblk m c 6 t : FVec Ideal S1024x4096 .bf16) (ix2 j n) = (V m c main_v35 : FVec Ideal S1024x4096 .bf16) (ix2 j n) := by
    blk_ext [iblk, places t]
  rw [h, V_main_v35]
  rfl

theorem block_mb (k : Fin 4) (n : Fin 1024) : (iblk m c 7 t : FVec Ideal S1x4096 .f32) (ix2 0 (gcol k n)) = inMb m c k n := by
  have h : (iblk m c 7 t : FVec Ideal S1x4096 .f32) (ix2 0 (gcol k n)) = (V m c main_v36 : FVec Ideal S1x4096 .f32) (ix2 0 (gcol k n)) := by
    blk_ext [iblk, places t]
  rw [h, V_main_v36]
  refine (shapeCast_apply _ _ _ (ix2 k n : S4x1024.Idx) (by
    rw [Shape.rowMajor_val_two, Shape.rowMajor_val_two]
    show k.val * 1024 + n.val = 0 * 4096 + (1024 * k.val + n.val)
    omega)).trans ?_
  rfl

theorem block_wo (n d : Fin 1024) : (iblk m c 9 t : FVec Ideal S1024x1024 .bf16) (ix2 n d) = inWo m c n d := by
  have h : (iblk m c 9 t : FVec Ideal S1024x1024 .bf16) (ix2 n d) = (V m c main_v37 : FVec Ideal S1024x1024 .bf16) (ix2 n d) := by
    blk_ext [iblk, places t]
  rw [h, V_main_v37]
  rfl

theorem block_wb (k : Fin 4) (e : Fin 512) (n : Fin 1024) : (iblk m c 8 t : FVec Ideal S4x512x1024 .bf16) (ix3 k e n)
    = (V m c main_v34 : FVec Ideal S4x512x1024 .bf16) (ix3 k e n) := by
  blk_ext [iblk, places t]

theorem block_w0 (e : Fin 512) (n : Fin 1024) : (iblk m c 8 t : FVec Ideal S4x512x1024 .bf16) (ix3 0 e n) = inWb m c 0 e n := by
  rw [block_wb, V_main_v34, stack_0, oneWb_at]
  rfl

theorem block_w1 (e : Fin 512) (n : Fin 1024) : (iblk m c 8 t : FVec Ideal S4x512x1024 .bf16) (ix3 1 e n) = inWb m c 1 (colAt e) n := by
  rw [block_wb, V_main_v34, stack_1]
  refine (reordered_weight _ e n).trans ?_
  rw [oneWb_at]
  rfl

theorem block_w2 (e : Fin 512) (n : Fin 1024) : (iblk m c 8 t : FVec Ideal S4x512x1024 .bf16) (ix3 2 e n) = inWb m c 2 e n := by
  rw [block_wb, V_main_v34, stack_2, oneWb_at]
  rfl

theorem block_w3 (e : Fin 512) (n : Fin 1024) : (iblk m c 8 t : FVec Ideal S4x512x1024 .bf16) (ix3 3 e n) = inWb m c 3 e n := by
  rw [block_wb, V_main_v34, stack_3, oneWb_at]
  rfl

/-- The merge of a block's row, from the arguments. -/
theorem block_after (d : Fin 1024) :
    out0_10 (iblk m c 0 t) (iblk m c 1 t) (iblk m c 2 t) (iblk m c 3 t) (iblk m c 4 t) (iblk m c 5 t) (iblk m c 6 t)
        (iblk m c 7 t) (iblk m c 8 t) (iblk m c 9 t) (ix3 0 r d)
      = output (inX m c (seqOf t) (tokOf t r)) (inG m c) (inWm m c) (inMb m c) (inO m c (seqOf t) (tokOf t r))
          (inWb m c) (inWo m c) d := by
  rw [out_at]
  have hx : (fun i => (iblk m c 0 t : FVec Ideal S1x512x1024 .f32) (ix3 0 r i)) = inX m c (seqOf t) (tokOf t r) :=
    funext fun i => block_x m c t r i
  have hg : (fun i => (iblk m c 5 t : FVec Ideal S1x1024 .f32) (ix2 0 i)) = inG m c := funext fun i => block_g m c t i
  have hm : (fun j n => (iblk m c 6 t : FVec Ideal S1024x4096 .bf16) (ix2 j n)) = inWm m c :=
    funext fun j => funext fun n => block_wm m c t j n
  have hb : (fun k n => (iblk m c 7 t : FVec Ideal S1x4096 .f32) (ix2 0 (gcol k n))) = inMb m c :=
    funext fun k => funext fun n => block_mb m c t k n
  have ho : (fun n d => (iblk m c 9 t : FVec Ideal S1024x1024 .bf16) (ix2 n d)) = inWo m c :=
    funext fun n => funext fun d => block_wo m c t n d
  rw [hx, hg, hm, hb, ho]
  unfold output merged branch
  simp only [mixedRows, block_o0, block_o1, block_o2, block_o3, block_w0, block_w1, block_w2, block_w3]
  have hsum : ∀ n, ∑ e : Fin 512, inO m c (seqOf t) (tokOf t r) 1 (colAt e) * inWb m c 1 (colAt e) n
      = ∑ e : Fin 512, inO m c (seqOf t) (tokOf t r) 1 e * inWb m c 1 e n := fun n =>
    sum_colAt fun e => inO m c (seqOf t) (tokOf t r) 1 e * inWb m c 1 e n
  simp only [hsum]
end

theorem flush_all : ∀ t : Fin cfg0.N, (cfg0.win 10).flush t = true :=
  (by decide +kernel : ∀ t : Fin grid0.N, win0_10.flush t = true)

/-- The kernel's result, at sequence `b`, row `r` and column `d`. -/
theorem array_at (c : Dev nD) (b : Fin 32) (r : Fin 2048) (d : Fin 1024) :
    ((dats m 0 c).arrAt 10 cfg0.N : FVec Ideal S32x2048x1024 .f32) (ix3 b r d)
      = output (inX m c b r) (inG m c) (inWm m c) (inMb m c) (inO m c b r) (inWb m c) (inWo m c) d := by
  have hlt : 4 * b.val + r.val / 512 < cfg0.N := lt_of_lt_of_eq (by omega) N_0.symm
  have hs : seqOf ⟨4 * b.val + r.val / 512, hlt⟩ = b :=
    Fin.ext (by show (4 * b.val + r.val / 512) / 4 = b.val; omega)
  have hr : tokOf ⟨4 * b.val + r.val / 512, hlt⟩ ⟨r.val % 512, by omega⟩ = r :=
    Fin.ext (by show 512 * ((4 * b.val + r.val / 512) % 4) + r.val % 512 = r.val; omega)
  have hb := congrFun (Value.blocks10 m c ⟨4 * b.val + r.val / 512, hlt⟩ (flush_all _))
    (ix3 0 ⟨r.val % 512, by omega⟩ d : S1x512x1024.Idx)
  rw [Value.flushed10] at hb
  have hk := block_after m c ⟨4 * b.val + r.val / 512, hlt⟩ ⟨r.val % 512, by omega⟩ d
  rw [hs, hr] at hk
  refine Eq.trans (Eq.symm ?_) (hb.trans (Eq.trans ?_ hk))
  · generalize (dats m 0 c).arrAt 10 cfg0.N = A
    have hp := (places ⟨4 * b.val + r.val / 512, hlt⟩).2.2.2.2.2.2.2.2.2.2
    refine congrArg A (funext fun a => Fin.ext ?_)
    refine (Pipeline.Window.rect_emb_val win0_10 ⟨4 * b.val + r.val / 512, hlt⟩ _ a).trans ?_
    rw [hp]
    fin_cases a
    · show (4 * b.val + r.val / 512) / 4 * 1 + 0 = b.val; omega
    · show (4 * b.val + r.val / 512) % 4 * 512 + r.val % 512 = r.val; omega
    · show 0 * 1024 + d.val = d.val; omega
  · rfl

end Cert.Kernel2Ideal.Merge
-- ==== Proof.MergeRef.lean ====
module

public import proofs.«01_k».proof.Proof.MergeSpec
public import proofs.«01_k».proof.Proof.Gen.Reference2Ideal.Run
public import Idealize.ShloMosaic.Lib.Claim

/-! # What the reference of the merge holds -/

@[expose] public section

set_option maxRecDepth 16384

noncomputable section

namespace Cert.Reference2Ideal.Merge

open Cert.Reference2Ideal Cert.Reference2Ideal.Gen Cert.Reference2Ideal.Value Idealize.ShloMosaic Idealize.ShloMosaic.TcCoe
  Idealize.SL.Sem Cert.Merge

section
variable (x : FVec Ideal S32x2048x1024 .f32) (g : FVec Ideal S1024 .f32) (wm : FVec Ideal S1024x4096 .f32)
  (mb : FVec Ideal S4x1024 .f32) (wb : FVec Ideal S4x512x1024 .f32) (o : FVec Ideal S32x2048x512 .bf16)

/-- The normed rows. -/
abbrev norms : FVec Ideal S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))

theorem norms_at (b : Fin 32) (r : Fin 2048) (j : Fin 1024) :
    norms x g (ix3 b r j) = normed (fun i => x (ix3 b r i)) (fun i => g (ix1 i)) j := by
  pointwise [norms]
  rfl

/-- The logits of all the gates. -/
abbrev logits : FVec Ideal S32x2048x4096 .f32 :=
  Host.dotGeneral dot_S32x2048x1024_S1024x4096_S32x2048x4096_2_0_01_1_n_n none (norms x g) wm

theorem logits_at (b : Fin 32) (r : Fin 2048) (n : Fin 4096) :
    logits x g wm (ix3 b r n) = ∑ j : Fin 1024, norms x g (ix3 b r j) * wm (ix2 j n) := by
  generalize hn : norms x g = nx
  unfold logits
  rw [hn]
  pointwise [dot_S32x2048x1024_S1024x4096_S32x2048x4096_2_0_01_1_n_n]

/-- A gate from its logits and its shift. -/
abbrev gateOf (l s : FVec Ideal S32x2048x1024 .f32) : FVec Ideal S32x2048x1024 .f32 :=
  Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (addf l s))))

theorem gateOf_at (l s : FVec Ideal S32x2048x1024 .f32) (i : S32x2048x1024.Idx) :
    gateOf l s i = Ideal.logistic (l i + s i) := by
  pointwise [gateOf]
  rfl

/-- A projection of a mixed result. -/
abbrev proj (w : FVec Ideal S512x1024 .f32) : FVec Ideal S32x2048x1024 .f32 :=
  Host.dotGeneral dot_S32x2048x512_S512x1024_S32x2048x1024_2_0_01_1_n_n none (extf .f32 o bitsLt_bf16_f32) w

theorem proj_at (w : FVec Ideal S512x1024 .f32) (b : Fin 32) (r : Fin 2048) (n : Fin 1024) :
    proj o w (ix3 b r n) = ∑ e : Fin 512, o (ix3 b r e) * w (ix2 e n) := by
  pointwise [proj, dot_S32x2048x512_S512x1024_S32x2048x1024_2_0_01_1_n_n]

/-- A shift's row, at every token. -/
abbrev shiftOf (s : FVec Ideal S1024 .f32) : FVec Ideal S32x2048x1024 .f32 :=
  broadcastInDim S32x2048x1024 ![0, 1, 2] bcast_S1x1x1024_S32x2048x1024_0_1_2 (broadcastInDim S1x1x1024 ![2] bcast_S1024_S1x1x1024_2 s)

theorem shiftOf_at (s : FVec Ideal S1024 .f32) (b : Fin 32) (r : Fin 2048) (n : Fin 1024) :
    shiftOf s (ix3 b r n) = s (ix1 n) := by
  pointwise [shiftOf]

/-- What branch 0 adds. -/
abbrev part0 : FVec Ideal S32x2048x1024 .f32 :=
  mulf (gateOf (extractStridedSlice S32x2048x1024 ![0, 0, 0] (logits x g wm) slices_S32x2048x4096_S32x2048x1024_0_0_0) (shiftOf (shapeCast _ (extractStridedSlice S1x1024 ![0, 0] mb slices_S4x1024_S1x1024_0_0) shapeCasts_S1x1024_S1024))) (proj o (shapeCast _ (extractStridedSlice S1x512x1024 ![0, 0, 0] wb slices_S4x512x1024_S1x512x1024_0_0_0) shapeCasts_S1x512x1024_S512x1024))

theorem part0_at (O : Fin 4 → Fin 512 → EReal) (b : Fin 32) (r : Fin 2048) (n : Fin 1024)
    (hO : ∀ e, O 0 e = o (ix3 b r e)) :
    part0 x g wm mb wb o (ix3 b r n)
      = branch (fun i => x (ix3 b r i)) (fun i => g (ix1 i)) (fun j n => wm (ix2 j n)) (fun k n => mb (ix2 k n))
          O (fun k e n => wb (ix3 k e n)) 0 n := by
  have hl : extractStridedSlice S32x2048x1024 ![0, 0, 0] (logits x g wm) slices_S32x2048x4096_S32x2048x1024_0_0_0 (ix3 b r n)
      = logits x g wm (ix3 b r (gcol 0 n)) := by
    generalize logits x g wm = l
    pointwise
    exact congrArg l (congrArg (ix3 b r) (Fin.ext (by show n.val = 1024 * 0 + n.val; omega)))
  have hs : (shapeCast S1024 (extractStridedSlice S1x1024 ![0, 0] mb slices_S4x1024_S1x1024_0_0) shapeCasts_S1x1024_S1024) (ix1 n)
      = mb (ix2 0 n) := by
    pointwise
  have hw : ∀ e : Fin 512, (shapeCast S512x1024 (extractStridedSlice S1x512x1024 ![0, 0, 0] wb slices_S4x512x1024_S1x512x1024_0_0_0) shapeCasts_S1x512x1024_S512x1024) (ix2 e n)
      = wb (ix3 0 e n) := fun e => by
    pointwise
  show gateOf _ _ (ix3 b r n) * proj o _ (ix3 b r n) = _
  rw [gateOf_at, proj_at, shiftOf_at, hl, hs, logits_at]
  unfold branch gate
  simp only [norms_at, hw, hO]

/-- What branch 1 adds. -/
abbrev part1 : FVec Ideal S32x2048x1024 .f32 :=
  mulf (gateOf (extractStridedSlice S32x2048x1024 ![0, 0, 1024] (logits x g wm) slices_S32x2048x4096_S32x2048x1024_0_0_1024) (shiftOf (shapeCast _ (extractStridedSlice S1x1024 ![1, 0] mb slices_S4x1024_S1x1024_1_0) shapeCasts_S1x1024_S1024))) (proj o (shapeCast _ (extractStridedSlice S1x512x1024 ![1, 0, 0] wb slices_S4x512x1024_S1x512x1024_1_0_0) shapeCasts_S1x512x1024_S512x1024))

theorem part1_at (O : Fin 4 → Fin 512 → EReal) (b : Fin 32) (r : Fin 2048) (n : Fin 1024)
    (hO : ∀ e, O 1 e = o (ix3 b r e)) :
    part1 x g wm mb wb o (ix3 b r n)
      = branch (fun i => x (ix3 b r i)) (fun i => g (ix1 i)) (fun j n => wm (ix2 j n)) (fun k n => mb (ix2 k n))
          O (fun k e n => wb (ix3 k e n)) 1 n := by
  have hl : extractStridedSlice S32x2048x1024 ![0, 0, 1024] (logits x g wm) slices_S32x2048x4096_S32x2048x1024_0_0_1024 (ix3 b r n)
      = logits x g wm (ix3 b r (gcol 1 n)) := by
    generalize logits x g wm = l
    pointwise
    exact congrArg l (congrArg (ix3 b r) (Fin.ext (by show 1024 + n.val = 1024 * 1 + n.val; omega)))
  have hs : (shapeCast S1024 (extractStridedSlice S1x1024 ![1, 0] mb slices_S4x1024_S1x1024_1_0) shapeCasts_S1x1024_S1024) (ix1 n)
      = mb (ix2 1 n) := by
    pointwise
  have hw : ∀ e : Fin 512, (shapeCast S512x1024 (extractStridedSlice S1x512x1024 ![1, 0, 0] wb slices_S4x512x1024_S1x512x1024_1_0_0) shapeCasts_S1x512x1024_S512x1024) (ix2 e n)
      = wb (ix3 1 e n) := fun e => by
    pointwise
  show gateOf _ _ (ix3 b r n) * proj o _ (ix3 b r n) = _
  rw [gateOf_at, proj_at, shiftOf_at, hl, hs, logits_at]
  unfold branch gate
  simp only [norms_at, hw, hO]

/-- What branch 2 adds. -/
abbrev part2 : FVec Ideal S32x2048x1024 .f32 :=
  mulf (gateOf (extractStridedSlice S32x2048x1024 ![0, 0, 2048] (logits x g wm) slices_S32x2048x4096_S32x2048x1024_0_0_2048) (shiftOf (shapeCast _ (extractStridedSlice S1x1024 ![2, 0] mb slices_S4x1024_S1x1024_2_0) shapeCasts_S1x1024_S1024))) (proj o (shapeCast _ (extractStridedSlice S1x512x1024 ![2, 0, 0] wb slices_S4x512x1024_S1x512x1024_2_0_0) shapeCasts_S1x512x1024_S512x1024))

theorem part2_at (O : Fin 4 → Fin 512 → EReal) (b : Fin 32) (r : Fin 2048) (n : Fin 1024)
    (hO : ∀ e, O 2 e = o (ix3 b r e)) :
    part2 x g wm mb wb o (ix3 b r n)
      = branch (fun i => x (ix3 b r i)) (fun i => g (ix1 i)) (fun j n => wm (ix2 j n)) (fun k n => mb (ix2 k n))
          O (fun k e n => wb (ix3 k e n)) 2 n := by
  have hl : extractStridedSlice S32x2048x1024 ![0, 0, 2048] (logits x g wm) slices_S32x2048x4096_S32x2048x1024_0_0_2048 (ix3 b r n)
      = logits x g wm (ix3 b r (gcol 2 n)) := by
    generalize logits x g wm = l
    pointwise
    exact congrArg l (congrArg (ix3 b r) (Fin.ext (by show 2048 + n.val = 1024 * 2 + n.val; omega)))
  have hs : (shapeCast S1024 (extractStridedSlice S1x1024 ![2, 0] mb slices_S4x1024_S1x1024_2_0) shapeCasts_S1x1024_S1024) (ix1 n)
      = mb (ix2 2 n) := by
    pointwise
  have hw : ∀ e : Fin 512, (shapeCast S512x1024 (extractStridedSlice S1x512x1024 ![2, 0, 0] wb slices_S4x512x1024_S1x512x1024_2_0_0) shapeCasts_S1x512x1024_S512x1024) (ix2 e n)
      = wb (ix3 2 e n) := fun e => by
    pointwise
  show gateOf _ _ (ix3 b r n) * proj o _ (ix3 b r n) = _
  rw [gateOf_at, proj_at, shiftOf_at, hl, hs, logits_at]
  unfold branch gate
  simp only [norms_at, hw, hO]

/-- What branch 3 adds. -/
abbrev part3 : FVec Ideal S32x2048x1024 .f32 :=
  mulf (gateOf (extractStridedSlice S32x2048x1024 ![0, 0, 3072] (logits x g wm) slices_S32x2048x4096_S32x2048x1024_0_0_3072) (shiftOf (shapeCast _ (extractStridedSlice S1x1024 ![3, 0] mb slices_S4x1024_S1x1024_3_0) shapeCasts_S1x1024_S1024))) (proj o (shapeCast _ (extractStridedSlice S1x512x1024 ![3, 0, 0] wb slices_S4x512x1024_S1x512x1024_3_0_0) shapeCasts_S1x512x1024_S512x1024))

theorem part3_at (O : Fin 4 → Fin 512 → EReal) (b : Fin 32) (r : Fin 2048) (n : Fin 1024)
    (hO : ∀ e, O 3 e = o (ix3 b r e)) :
    part3 x g wm mb wb o (ix3 b r n)
      = branch (fun i => x (ix3 b r i)) (fun i => g (ix1 i)) (fun j n => wm (ix2 j n)) (fun k n => mb (ix2 k n))
          O (fun k e n => wb (ix3 k e n)) 3 n := by
  have hl : extractStridedSlice S32x2048x1024 ![0, 0, 3072] (logits x g wm) slices_S32x2048x4096_S32x2048x1024_0_0_3072 (ix3 b r n)
      = logits x g wm (ix3 b r (gcol 3 n)) := by
    generalize logits x g wm = l
    pointwise
    exact congrArg l (congrArg (ix3 b r) (Fin.ext (by show 3072 + n.val = 1024 * 3 + n.val; omega)))
  have hs : (shapeCast S1024 (extractStridedSlice S1x1024 ![3, 0] mb slices_S4x1024_S1x1024_3_0) shapeCasts_S1x1024_S1024) (ix1 n)
      = mb (ix2 3 n) := by
    pointwise
  have hw : ∀ e : Fin 512, (shapeCast S512x1024 (extractStridedSlice S1x512x1024 ![3, 0, 0] wb slices_S4x512x1024_S1x512x1024_3_0_0) shapeCasts_S1x512x1024_S512x1024) (ix2 e n)
      = wb (ix3 3 e n) := fun e => by
    pointwise
  show gateOf _ _ (ix3 b r n) * proj o _ (ix3 b r n) = _
  rw [gateOf_at, proj_at, shiftOf_at, hl, hs, logits_at]
  unfold branch gate
  simp only [norms_at, hw, hO]
end

variable (m : (ℓ : Loc nD τ sig) → Buf (Elt Ideal) ℓ)

/-- The input of sequence `b`. -/
def refX (c : Dev nD) (b : Fin 32) : Fin 2048 → Fin 1024 → EReal :=
  fun r j => (m ((c.tc : Thread nD τ).loc main_arg0) : FVec Ideal S32x2048x1024 .f32) (ix3 b r j)

/-- The four mixed results of sequence `b`. -/
def refO (c : Dev nD) (b : Fin 32) (r : Fin 2048) (k : Fin 4) (e : Fin 512) : EReal :=
  match k with
  | 0 => (m ((c.tc : Thread nD τ).loc main_arg1) : FVec Ideal S32x2048x512 .bf16) (ix3 b r e)
  | 1 => (m ((c.tc : Thread nD τ).loc main_arg2) : FVec Ideal S32x2048x512 .bf16) (ix3 b r e)
  | 2 => (m ((c.tc : Thread nD τ).loc main_arg3) : FVec Ideal S32x2048x512 .bf16) (ix3 b r e)
  | 3 => (m ((c.tc : Thread nD τ).loc main_arg4) : FVec Ideal S32x2048x512 .bf16) (ix3 b r e)

/-- The norm's weight. -/
def refG (c : Dev nD) : Fin 1024 → EReal :=
  fun j => (m ((c.tc : Thread nD τ).loc main_arg5) : FVec Ideal S1024 .f32) (ix1 j)

/-- The gates' matrix. -/
def refWm (c : Dev nD) : Fin 1024 → Fin 4096 → EReal :=
  fun j n => (m ((c.tc : Thread nD τ).loc main_arg6) : FVec Ideal S1024x4096 .f32) (ix2 j n)

/-- The gates' shift. -/
def refMb (c : Dev nD) : Fin 4 → Fin 1024 → EReal :=
  fun k n => (m ((c.tc : Thread nD τ).loc main_arg7) : FVec Ideal S4x1024 .f32) (ix2 k n)

/-- The branches' matrices. -/
def refWb (c : Dev nD) : Fin 4 → Fin 512 → Fin 1024 → EReal :=
  fun k e n => (m ((c.tc : Thread nD τ).loc main_arg8) : FVec Ideal S4x512x1024 .f32) (ix3 k e n)

/-- The last matrix. -/
def refWo (c : Dev nD) : Fin 1024 → Fin 1024 → EReal :=
  fun n d => (m ((c.tc : Thread nD τ).loc main_arg9) : FVec Ideal S1024x1024 .f32) (ix2 n d)

/-- The last product and the input, from the four parts. -/
theorem final_at (x p0 p1 p2 p3 : FVec Ideal S32x2048x1024 .f32) (wo : FVec Ideal S1024x1024 .f32)
    (b : Fin 32) (r : Fin 2048) (d : Fin 1024) :
    addf x (Host.dotGeneral dot_S32x2048x1024_S1024x1024_S32x2048x1024_2_0_01_1_n_n none
        (addf (addf (addf (addf (broadcastInDim S32x2048x1024 ![] bcast_S_S32x2048x1024 (constant (F := Ideal) S_ .f32 0x00000000#32)) p0) p1) p2) p3) wo)
        (ix3 b r d)
      = x (ix3 b r d) + ∑ n : Fin 1024, (p0 (ix3 b r n) + p1 (ix3 b r n) + p2 (ix3 b r n) + p3 (ix3 b r n)) * wo (ix2 n d) := by
  pointwise [dot_S32x2048x1024_S1024x1024_S32x2048x1024_2_0_01_1_n_n]

/-- The reference's result, at sequence `b`, row `r` and column `d`. -/
theorem result_at (c : Dev nD) (b : Fin 32) (r : Fin 2048) (d : Fin 1024) :
    (res_main_v88 m c : FVec Ideal S32x2048x1024 .f32) (ix3 b r d)
      = output (refX m c b r) (refG m c) (refWm m c) (refMb m c) (refO m c b r) (refWb m c) (refWo m c) d := by
  unfold res_main_v88
  refine (final_at (m ((c.tc : Thread nD τ).loc main_arg0))
    (part0 (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg1)))
    (part1 (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg2)))
    (part2 (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg3)))
    (part3 (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg4)))
    (m ((c.tc : Thread nD τ).loc main_arg9)) b r d).trans ?_
  unfold output merged
  refine congrArg (refX m c b r d + ·) (Finset.sum_congr rfl fun n _ => congrArg (· * refWo m c n d) ?_)
  have h0 := part0_at (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg1)) (refO m c b r) b r n (fun _ => rfl)
  have h1 := part1_at (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg2)) (refO m c b r) b r n (fun _ => rfl)
  have h2 := part2_at (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg3)) (refO m c b r) b r n (fun _ => rfl)
  have h3 := part3_at (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg4)) (refO m c b r) b r n (fun _ => rfl)
  rw [h0, h1, h2, h3]
  rfl

end Cert.Reference2Ideal.Merge
-- ==== Proof.MergeEquation.lean ====
module

public import proofs.«01_k».proof.Proof.MergeArray
public import proofs.«01_k».proof.Proof.MergeRef

/-! # Kernel and reference of the merge hold the same result -/

@[expose] public section

set_option maxRecDepth 16384

noncomputable section

namespace Cert.Merge

open Idealize.ShloMosaic Idealize.ShloMosaic.TcCoe Idealize.SL.Sem

/-- From the same arguments the kernel's array and the reference's array are equal. -/
theorem equation
    (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2)
      = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3)
      = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4)
      = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5)
      = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6)
      = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7)
      = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8)
      = m ((c.tc : Thread Cert.Kernel2Ideal.nD Cert.Kernel2Ideal.τ).loc Cert.Kernel2Ideal.main_arg8))
    (h9 : m' ((c.tc : Thread Cert.Reference2Ideal.nD Cert.Reference2Ideal.τ).loc Cert.Reference2Ideal.main_arg9)
      = m ((c.tc : Thread Cert.Kernel2Ideal.nD Cert.Kernel2Ideal.τ).loc Cert.Kernel2Ideal.main_arg9)) :
    (Cert.Reference2Ideal.Value.res_main_v88 m' c : FVec Ideal Cert.Kernel2Ideal.S32x2048x1024 .f32)
      = ((Cert.Kernel2Ideal.Gen.dats m 0 c).arrAt 10 Cert.Kernel2Ideal.cfg0.N
        : FVec Ideal Cert.Kernel2Ideal.S32x2048x1024 .f32) := by
  funext i
  rw [eq_ix3 i]
  refine (Cert.Reference2Ideal.Merge.result_at m' c _ _ _).trans
    (Eq.trans ?_ (Cert.Kernel2Ideal.Merge.array_at m c _ _ _).symm)
  have e0 : ∀ b, Cert.Reference2Ideal.Merge.refX m' c b = Cert.Kernel2Ideal.Merge.inX m c b := fun b => by
    unfold Cert.Reference2Ideal.Merge.refX Cert.Kernel2Ideal.Merge.inX
    rw [h0]
  have eg : Cert.Reference2Ideal.Merge.refG m' c = Cert.Kernel2Ideal.Merge.inG m c := by
    unfold Cert.Reference2Ideal.Merge.refG Cert.Kernel2Ideal.Merge.inG
    rw [h5]
  have em : Cert.Reference2Ideal.Merge.refWm m' c = Cert.Kernel2Ideal.Merge.inWm m c := by
    unfold Cert.Reference2Ideal.Merge.refWm Cert.Kernel2Ideal.Merge.inWm
    rw [h6]
  have eb : Cert.Reference2Ideal.Merge.refMb m' c = Cert.Kernel2Ideal.Merge.inMb m c := by
    unfold Cert.Reference2Ideal.Merge.refMb Cert.Kernel2Ideal.Merge.inMb
    rw [h7]
  have ew : Cert.Reference2Ideal.Merge.refWb m' c = Cert.Kernel2Ideal.Merge.inWb m c := by
    unfold Cert.Reference2Ideal.Merge.refWb Cert.Kernel2Ideal.Merge.inWb
    rw [h8]
  have eo : Cert.Reference2Ideal.Merge.refWo m' c = Cert.Kernel2Ideal.Merge.inWo m c := by
    unfold Cert.Reference2Ideal.Merge.refWo Cert.Kernel2Ideal.Merge.inWo
    rw [h9]
  have eO : ∀ b r, Cert.Reference2Ideal.Merge.refO m' c b r = Cert.Kernel2Ideal.Merge.inO m c b r := fun b r => by
    funext k e
    unfold Cert.Reference2Ideal.Merge.refO Cert.Kernel2Ideal.Merge.inO
    rw [h1, h2, h3, h4]
    fin_cases k <;> rfl
  have same : ∀ (b : Fin 32) (r : Fin 2048) (d : Fin 1024),
      output (Cert.Reference2Ideal.Merge.refX m' c b r) (Cert.Reference2Ideal.Merge.refG m' c) (Cert.Reference2Ideal.Merge.refWm m' c) (Cert.Reference2Ideal.Merge.refMb m' c) (Cert.Reference2Ideal.Merge.refO m' c b r)
        (Cert.Reference2Ideal.Merge.refWb m' c) (Cert.Reference2Ideal.Merge.refWo m' c) d
      = output (Cert.Kernel2Ideal.Merge.inX m c b r) (Cert.Kernel2Ideal.Merge.inG m c) (Cert.Kernel2Ideal.Merge.inWm m c) (Cert.Kernel2Ideal.Merge.inMb m c) (Cert.Kernel2Ideal.Merge.inO m c b r)
        (Cert.Kernel2Ideal.Merge.inWb m c) (Cert.Kernel2Ideal.Merge.inWo m c) d := fun b r d => by
    rw [e0, eg, em, eb, ew, eo, eO]
  exact same _ _ _

end Cert.Merge
-- ==== Proof.RetHead.lean ====
module

public import proofs.«01_k».proof.Proof.Gen.Kernel3Ideal.Skeleton

/-! # One head of the retention kernel's body, for any head

The kernel's body repeats the same operations for each of its four heads.  Two heads share a block of
128 key columns; a head's queries are masked to its own 64 of them.  Here the operations are written
once, with the head `h`, the half `i` of the tile's rows (256 rows each) and the chunk `n` (64 rows
each) as variables. -/

@[expose] public section

set_option maxRecDepth 16384

noncomputable section

namespace Cert.Kernel3Ideal.Ret

open Cert.Kernel3Ideal Cert.Kernel3Ideal.Gen Idealize.ShloMosaic Idealize.SL.Sem

variable {F : FTy → Type} [FloatOps F]

theorem slices_part (i : Fin 2) (h : Fin 4) :
    S512x512.Slices ![256 * i.val, 128 * h.val] S256x128 := by
  revert i h; decide

theorem slices_pair (i : Fin 2) (h : Fin 4) :
    S512x256.Slices ![256 * i.val, 128 * (h.val / 2)] S256x128 := by
  revert i h; decide

theorem slices_queries (h : Fin 4) : S512x256.Slices ![0, 128 * (h.val / 2)] S512x128 := by
  revert h; decide

theorem slices_half (i : Fin 2) : S512x128.Slices ![256 * i.val, 0] S256x128 := by
  revert i; decide

theorem slices_chunk (k : Fin 4) : S256x128.Slices ![64 * k.val, 0] S64x128 := by
  revert k; decide

theorem slices_kv (n : Fin 8) : S128x1024.Slices ![0, 128 * n.val] S128x128 := by
  revert n; decide

theorem slices_diag (k : Fin 4) : S256x512.Slices ![64 * k.val, 128 * k.val] S64x128 := by
  revert k; decide

theorem slices_gate (h : Fin 4) : S512x1536.Slices ![0, 1024 + 128 * h.val] S512x128 := by
  revert h; decide

theorem slices_row (h : Fin 4) : S1x512.Slices ![0, 128 * h.val] S1x128 := by
  revert h; decide

theorem slices_cols (h : Fin 4) : S512x512.Slices ![0, 128 * h.val] S512x128 := by
  revert h; decide

/-- Half `i` of the rows and head `h` of the value columns. -/
def part {α : Type} (y : S512x512.Idx → α) (i : Fin 2) (h : Fin 4) : S256x128.Idx → α :=
  extractStridedSlice S256x128 ![256 * i.val, 128 * h.val] y (slices_part i h)

/-- Half `i` of the rows and the key columns of head `h` and its neighbour. -/
def pair {α : Type} (y : S512x256.Idx → α) (i : Fin 2) (h : Fin 4) : S256x128.Idx → α :=
  extractStridedSlice S256x128 ![256 * i.val, 128 * (h.val / 2)] y (slices_pair i h)

/-- Half `i` of the rows. -/
def rows {α : Type} (y : S512x128.Idx → α) (i : Fin 2) : S256x128.Idx → α :=
  extractStridedSlice S256x128 ![256 * i.val, 0] y (slices_half i)

/-- The columns of head `h` in its block: the first half for an even head, the second for an odd. -/
def mask (first : IVec S512x128 1) (h : Fin 4) : IVec S512x128 1 :=
  ![first, xori first (constantI S512x128 1 1#1), first, xori first (constantI S512x128 1 1#1)] h

/-- The queries of head `h`, zero in the columns of its neighbour. -/
def masked (first : IVec S512x128 1) (q : FVec F S512x256 .f32) (h : Fin 4) :
    FVec F S512x128 .bf16 :=
  truncf .bf16 (select (mask first h)
    (extractStridedSlice S512x128 ![0, 128 * (h.val / 2)] q (slices_queries h))
    (broadcast S512x128 (Scalar.ofBits .f32 0x00000000#32))) bitsLt_bf16_f32

/-- What half `i` of the rows takes from its own chunks: the decayed scores times the values. -/
def intra (qm : FVec F S512x128 .bf16) (k : FVec F S512x256 .bf16) (v : FVec F S512x512 .bf16)
    (dm : Vec F S1x256x256 .f32) (i : Fin 2) (h : Fin 4) : FVec F S256x128 .f32 :=
  matmul dot_S256x256_S256x128_S256x128_1_0_0_1_n_n none
    (truncf .bf16 (mulf
      (matmul dot_S256x128_S256x128_S256x256_1_1_0_0_n_n none (rows qm i) (pair k i h)
        (constant S256x256 .f32 0x00000000#32))
      (shapeCast S256x256 dm shapeCasts_S1x256x256_S256x256)) bitsLt_bf16_f32)
    (part v i h) (constant S256x128 .f32 0x00000000#32)

/-- Rows of chunk `k` of a half. -/
def chunk (y : FVec F S256x128 .bf16) (k : Fin 4) : FVec F S64x128 .bf16 :=
  extractStridedSlice S64x128 ![64 * k.val, 0] y (slices_chunk k)

/-- A block of zeros. -/
def zeros : FVec F S64x128 .bf16 := broadcast S64x128 (Scalar.ofBits .bf16 0x0000#16)

/-- The four chunks of a half put on the diagonal of a matrix of zeros. -/
def blockDiag (y : FVec F S256x128 .bf16) : FVec F S256x512 .bf16 :=
  concatenate S256x512 0
    [⟨S64x512, concatenate S64x512 1 [⟨S64x128, chunk y 0⟩, ⟨S64x128, zeros⟩, ⟨S64x128, zeros⟩,
        ⟨S64x128, zeros⟩] concatenates_S64x128_S64x128_S64x128_S64x128_S64x512_d1⟩,
     ⟨S64x512, concatenate S64x512 1 [⟨S64x128, zeros⟩, ⟨S64x128, chunk y 1⟩, ⟨S64x128, zeros⟩,
        ⟨S64x128, zeros⟩] concatenates_S64x128_S64x128_S64x128_S64x128_S64x512_d1⟩,
     ⟨S64x512, concatenate S64x512 1 [⟨S64x128, zeros⟩, ⟨S64x128, zeros⟩, ⟨S64x128, chunk y 2⟩,
        ⟨S64x128, zeros⟩] concatenates_S64x128_S64x128_S64x128_S64x128_S64x512_d1⟩,
     ⟨S64x512, concatenate S64x512 1 [⟨S64x128, zeros⟩, ⟨S64x128, zeros⟩, ⟨S64x128, zeros⟩,
        ⟨S64x128, chunk y 3⟩] concatenates_S64x128_S64x128_S64x128_S64x128_S64x512_d1⟩]
    concatenates_S64x512_S64x512_S64x512_S64x512_S256x512_d0

/-- The updates of the four chunks of half `i`, side by side. -/
def kvHalf (kd : FVec F S512x256 .bf16) (v : FVec F S512x512 .bf16) (i : Fin 2) (h : Fin 4) :
    FVec F S128x512 .f32 :=
  matmul dot_S256x128_S256x512_S128x512_0_0_1_1_n_n none (pair kd i h)
    (blockDiag (part v i h)) (constant S128x512 .f32 0x00000000#32)

/-- The updates of the eight chunks of the tile, side by side. -/
def kvAll (kd : FVec F S512x256 .bf16) (v : FVec F S512x512 .bf16) (h : Fin 4) :
    FVec F S128x1024 .f32 :=
  concatenate S128x1024 1 [⟨S128x512, kvHalf kd v 0 h⟩, ⟨S128x512, kvHalf kd v 1 h⟩]
    concatenates_S128x512_S128x512_S128x1024_d1

/-- One chunk's step of the state of head `h`: the decayed state plus the chunk's update. -/
def stepState (dec : FVec F S1x512 .f32) (kv : FVec F S128x1024 .f32) (h : Fin 4) (n : Fin 8)
    (st : FVec F S128x128 .f32) : FVec F S128x128 .f32 :=
  addf (mulf st (broadcastTo S128x128
      (extractStridedSlice S1x128 ![0, 128 * h.val] dec (slices_row h))
      broadcasts_S1x128_S128x128))
    (extractStridedSlice S128x128 ![0, 128 * n.val] kv (slices_kv n))

/-- The state of head `h` after the first `n` chunks of the tile. -/
def stateAt (dec : FVec F S1x512 .f32) (kv : FVec F S128x1024 .f32) (h : Fin 4)
    (st : FVec F S128x128 .f32) : ℕ → FVec F S128x128 .f32
  | 0 => st
  | n + 1 => stepState dec kv h ⟨n % 8, Nat.mod_lt n (by decide)⟩ (stateAt dec kv h st n)

/-- What half `i` of the rows takes from the states its chunks start from. -/
def interHalf (qm : FVec F S512x128 .bf16) (i : Fin 2)
    (s0 s1 s2 s3 : FVec F S128x128 .f32) : FVec F S256x128 .f32 :=
  let y := matmul dot_S256x128_S128x512_S256x512_1_0_0_1_n_n none (rows qm i)
    (concatenate S128x512 1 [⟨S128x128, truncf .bf16 s0 bitsLt_bf16_f32⟩,
      ⟨S128x128, truncf .bf16 s1 bitsLt_bf16_f32⟩, ⟨S128x128, truncf .bf16 s2 bitsLt_bf16_f32⟩,
      ⟨S128x128, truncf .bf16 s3 bitsLt_bf16_f32⟩]
      concatenates_S128x128_S128x128_S128x128_S128x128_S128x512_d1)
    (constant S256x512 .f32 0x00000000#32)
  concatenate S256x128 0
    [⟨S64x128, extractStridedSlice S64x128 ![64 * (0 : Fin 4).val, 128 * (0 : Fin 4).val] y (slices_diag 0)⟩,
     ⟨S64x128, extractStridedSlice S64x128 ![64 * (1 : Fin 4).val, 128 * (1 : Fin 4).val] y (slices_diag 1)⟩,
     ⟨S64x128, extractStridedSlice S64x128 ![64 * (2 : Fin 4).val, 128 * (2 : Fin 4).val] y (slices_diag 2)⟩,
     ⟨S64x128, extractStridedSlice S64x128 ![64 * (3 : Fin 4).val, 128 * (3 : Fin 4).val] y (slices_diag 3)⟩]
    concatenates_S64x128_S64x128_S64x128_S64x128_S256x128_d0

/-- The rows of head `h` before its norm: from the own chunk and from the states. -/
def mixed (qm : FVec F S512x128 .bf16) (k : FVec F S512x256 .bf16) (v : FVec F S512x512 .bf16)
    (dm : Vec F S1x256x256 .f32) (qd : FVec F S512x512 .f32) (dec : FVec F S1x512 .f32)
    (kv : FVec F S128x1024 .f32) (h : Fin 4) (st : FVec F S128x128 .f32) : FVec F S512x128 .f32 :=
  addf
    (concatenate S512x128 0 [⟨S256x128, intra qm k v dm 0 h⟩, ⟨S256x128, intra qm k v dm 1 h⟩]
      concatenates_S256x128_S256x128_S512x128_d0)
    (mulf (concatenate S512x128 0
      [⟨S256x128, interHalf qm 0 (stateAt dec kv h st 0) (stateAt dec kv h st 1)
          (stateAt dec kv h st 2) (stateAt dec kv h st 3)⟩,
       ⟨S256x128, interHalf qm 1 (stateAt dec kv h st 4) (stateAt dec kv h st 5)
          (stateAt dec kv h st 6) (stateAt dec kv h st 7)⟩]
      concatenates_S256x128_S256x128_S512x128_d0)
      (extractStridedSlice S512x128 ![0, 128 * h.val] qd (slices_cols h)))

/-- A row's mean, as a column. -/
def mean (o : FVec F S512x128 .f32) : FVec F S512x1 .f32 :=
  divf (shapeCast S512x1
      (multiReduction .add [1] S512 o 0x00000000#32 reduces_S512x128_S512
        (.inl rfl) rfl) shapeCasts_S512_S512x1)
    (broadcast S512x1 (Scalar.ofBits .f32 0x43000000#32))

/-- The rows without their means. -/
def centre (o : FVec F S512x128 .f32) : FVec F S512x128 .f32 :=
  subf o (broadcastTo S512x128 (mean o) broadcasts_S512x1_S512x128)

/-- The head's norm, its weight and the gate. -/
def gated (u : FVec F S512x1536 .f32) (ng : FVec F S1x512 .f32) (h : Fin 4)
    (o : FVec F S512x128 .f32) : FVec F S1x512x128 .bf16 :=
  let z := extractStridedSlice S512x128 ![0, 1024 + 128 * h.val] u (slices_gate h)
  let half : FVec F S512x128 .f32 := broadcast S512x128 (Scalar.ofBits .f32 0x3F000000#32)
  shapeCast S1x512x128
    (truncf .bf16
      (mulf
        (mulf
          (mulf (centre o) (broadcastTo S512x128
            (rsqrt (addf (mean (mulf (centre o) (centre o)))
              (broadcast S512x1 (Scalar.ofBits .f32 0x358637BD#32))))
            broadcasts_S512x1_S512x128))
          (broadcastTo S512x128 (extractStridedSlice S1x128 ![0, 128 * h.val] ng (slices_row h))
            broadcasts_S1x128_S512x128))
        (mulf z (addf (mulf half (tanh (mulf half z))) half))) bitsLt_bf16_f32)
    shapeCasts_S512x128_S1x512x128

/-- The loaded state as a matrix. -/
def unpack (s : Vec F S1x128x128 .f32) : FVec F S128x128 .f32 :=
  shapeCast S128x128 s shapeCasts_S1x128x128_S128x128

/-! ## The tile's own values -/

/-- The tile's projection. -/
abbrev tU (x : Vec F S1x512x1024 .f32) (g : Vec F S1x1024 .f32) (w : Vec F S1024x1536 .bf16) :
    FVec F S512x1536 .f32 := k0_pay2 x g w

/-- The masked queries. -/
abbrev tQ (x : Vec F S1x512x1024 .f32) (g : Vec F S1x1024 .f32) (w : Vec F S1024x1536 .bf16)
    (h : Fin 4) : FVec F S512x128 .bf16 := masked k0_pay8 (k0_pay3 x g w) h

/-- The keys. -/
abbrev tK (x : Vec F S1x512x1024 .f32) (g : Vec F S1x1024 .f32) (w : Vec F S1024x1536 .bf16) :
    FVec F S512x256 .bf16 := k0_pay5 x g w

/-- The decayed keys. -/
abbrev tKd (x : Vec F S1x512x1024 .f32) (g : Vec F S1x1024 .f32) (w : Vec F S1024x1536 .bf16)
    (kd : Vec F S512x256 .f32) : FVec F S512x256 .bf16 := k0_pay6 x g w kd

/-- The values. -/
abbrev tV (x : Vec F S1x512x1024 .f32) (g : Vec F S1x1024 .f32) (w : Vec F S1024x1536 .bf16) :
    FVec F S512x512 .bf16 := k0_pay7 x g w

/-- The state head `h` stores, from the tile's inputs and the state it loads. -/
def tileState (x : Vec F S1x512x1024 .f32) (g : Vec F S1x1024 .f32) (w : Vec F S1024x1536 .bf16)
    (kd : Vec F S512x256 .f32) (cd : Vec F S1x512 .f32) (h : Fin 4) (s : Vec F S1x128x128 .f32) :
    FVec F S1x128x128 .f32 :=
  shapeCast S1x128x128
    (stateAt (k0_pay10 cd) (kvAll (tKd x g w kd) (tV x g w) h) h (unpack s) 8)
    shapeCasts_S128x128_S1x128x128

/-- The block head `h` stores, from the tile's inputs and the state it loads. -/
def tileOut (x : Vec F S1x512x1024 .f32) (g : Vec F S1x1024 .f32) (w : Vec F S1024x1536 .bf16)
    (dm : Vec F S1x256x256 .f32) (kd : Vec F S512x256 .f32) (qd : Vec F S512x512 .f32)
    (cd ng : Vec F S1x512 .f32) (h : Fin 4) (s : Vec F S1x128x128 .f32) :
    FVec F S1x512x128 .bf16 :=
  gated (tU x g w) (k0_pay11 ng) h
    (mixed (tQ x g w h) (tK x g w) (tV x g w) dm (k0_pay9 qd) (k0_pay10 cd)
      (kvAll (tKd x g w kd) (tV x g w) h) h (unpack s))

end Cert.Kernel3Ideal.Ret
-- ==== Proof.RetStore.lean ====
module

public import proofs.«01_k».proof.Proof.RetHead
public import proofs.«01_k».proof.Proof.Gen.Kernel3Ideal.Frame
public import Idealize.ShloMosaic.Lib.Pipeline.ValueKit
public import Idealize.ShloMosaic.Lib.Pointwise

/-! # What one grid point stores

The state buffer after a grid point holds, for each head, the head's state after the tile's chunks;
the output block holds, in the head's columns, the head's rows. -/

@[expose] public section

set_option maxRecDepth 16384

noncomputable section

namespace Cert.Kernel3Ideal.Ret

open Cert.Kernel3Ideal Cert.Kernel3Ideal.Gen Idealize.ShloMosaic Idealize.ShloMosaic.TcCoe Idealize.SL.Sem

variable {F : FTy → Type} [FloatOps F]

theorem inb_state (h : Fin 4) (a : Fin 3) :
    (![h.val, 0, 0] : Fin 3 → ℕ) a + S1x128x128.size a ≤ S4x128x128.size a := by
  revert h a; decide

theorem inb_out (h : Fin 4) (a : Fin 3) :
    (![0, 0, 128 * h.val] : Fin 3 → ℕ) a + S1x512x128.size a ≤ S1x512x512.size a := by
  revert h a; decide

/-- Head `h`'s part of the state buffer. -/
abbrev stateRect (h : Fin 4) : Rect S4x128x128 := Rect.unit ![h.val, 0, 0] S1x128x128.size (inb_state h)

/-- Head `h`'s columns of the output block. -/
abbrev outRect (h : Fin 4) : Rect S1x512x512 :=
  Rect.unit ![0, 0, 128 * h.val] S1x512x128.size (inb_out h)

/-- Head `h`'s state in a state buffer. -/
def headOf (xs : Vec F S4x128x128 .f32) (h : Fin 4) : Vec F S1x128x128 .f32 :=
  fun x => xs (ix3 h (x 1 : Fin 128) (x 2 : Fin 128))

/-- The state buffer of zeros. -/
def zeroState : Vec F S4x128x128 .f32 := fun _ => Scalar.ofBits .f32 0x00000000#32

theorem fin_one_val (k : Fin 1) : k.val = 0 := by omega

/-- A load of head `h`'s part reads that head's state. -/
theorem ld_state (xs : Vec F S4x128x128 .f32) (h : Fin 4) :
    View.ld (Val := Elt F) (e' := .f32) xs (stateRect h) = headOf xs h := by
  funext x
  refine congrArg xs (funext fun a => Fin.ext ?_)
  rw [Rect.idx_unit_val]
  have h0 : (x 0 : Fin 1).val = 0 := fin_one_val (x 0)
  fin_cases a
  · show h.val + (x 0 : Fin 1).val = h.val; omega
  · show 0 + (x 1 : Fin 128).val = (x 1 : Fin 128).val; omega
  · show 0 + (x 2 : Fin 128).val = (x 2 : Fin 128).val; omega

theorem inb_decay (h : Fin 4) (a : Fin 3) :
    (![h.val, 0, 0] : Fin 3 → ℕ) a + S1x256x256.size a ≤ S4x256x256.size a := by
  revert h a; decide

/-- Head `h`'s part of the table of decays. -/
abbrev decayRect (h : Fin 4) : Rect S4x256x256 := Rect.unit ![h.val, 0, 0] S1x256x256.size (inb_decay h)

/-- Head `h`'s decays in the table. -/
def decayOf (dm : Vec F S4x256x256 .f32) (h : Fin 4) : Vec F S1x256x256 .f32 :=
  fun x => dm (ix3 h (x 1 : Fin 256) (x 2 : Fin 256))

/-- A load of head `h`'s decays. -/
theorem ld_decay (xs : Vec F S4x256x256 .f32) (h : Fin 4) :
    View.ld (Val := Elt F) (e' := .f32) xs (decayRect h) = decayOf xs h := by
  funext x
  refine congrArg xs (funext fun a => Fin.ext ?_)
  rw [Rect.idx_unit_val]
  have h0 : (x 0 : Fin 1).val = 0 := fin_one_val (x 0)
  fin_cases a
  · show h.val + (x 0 : Fin 1).val = h.val; omega
  · show 0 + (x 1 : Fin 256).val = (x 1 : Fin 256).val; omega
  · show 0 + (x 2 : Fin 256).val = (x 2 : Fin 256).val; omega

theorem not_mem_state {h h' : Fin 4} (hne : h ≠ h') (p q : Fin 128) :
    (ix3 h' p q : S4x128x128.Idx) ∉ (stateRect h).set := by
  intro hm
  have := (Rect.mem_set_unit.mp hm) 0
  have h1 : h.val ≤ h'.val ∧ h'.val < h.val + 1 := this
  exact hne (Fin.ext (by omega))

theorem canon_state_skip {h h' : Fin 4} (hne : h ≠ h') (P : S1x128x128.Idx → Elt F .f32)
    (L : List (View.Piece (Elt F) S4x128x128 .f32)) (p q : Fin 128) :
    View.canon ((⟨stateRect h, P⟩ : View.Piece (Elt F) S4x128x128 .f32) :: L) (ix3 h' p q)
      = View.canon L (ix3 h' p q) :=
  View.canon_cons_of_not_mem _ _ (not_mem_state hne p q)

theorem canon_state_hit (h : Fin 4) (P : S1x128x128.Idx → Elt F .f32)
    (L : List (View.Piece (Elt F) S4x128x128 .f32)) (p q : Fin 128) :
    View.canon ((⟨stateRect h, P⟩ : View.Piece (Elt F) S4x128x128 .f32) :: L) (ix3 h p q)
      = P (ix3 0 p q) := by
  have : (ix3 h p q : S4x128x128.Idx) = (stateRect h).emb (ix3 0 p q : S1x128x128.Idx) := by
    funext a
    refine Fin.ext ?_
    rw [Rect.emb_apply]
    fin_cases a
    · show h.val = h.val + 1 * 0; omega
    · show p.val = 0 + 1 * p.val; omega
    · show q.val = 0 + 1 * q.val; omega
  rw [this]
  exact View.canon_cons_emb (stateRect h) P L _

/-- Every head is one of the four. -/
theorem head_cases (h : Fin 4) : h = 0 ∨ h = 1 ∨ h = 2 ∨ h = 3 := by
  revert h; decide

/-- The four heads' stores, the last first, read at an index of head `h`. -/
theorem canon_state (P : Fin 4 → S1x128x128.Idx → Elt F .f32)
    (L : List (View.Piece (Elt F) S4x128x128 .f32)) (h : Fin 4) (p q : Fin 128) :
    View.canon ((⟨stateRect 3, P 3⟩ : View.Piece (Elt F) S4x128x128 .f32) :: ⟨stateRect 2, P 2⟩ ::
      ⟨stateRect 1, P 1⟩ :: ⟨stateRect 0, P 0⟩ :: L) (ix3 h p q) = P h (ix3 0 p q) := by
  rcases head_cases h with rfl | rfl | rfl | rfl
  · rw [canon_state_skip (by decide), canon_state_skip (by decide), canon_state_skip (by decide)]
    exact canon_state_hit 0 _ _ p q
  · rw [canon_state_skip (by decide), canon_state_skip (by decide)]
    exact canon_state_hit 1 _ _ p q
  · rw [canon_state_skip (by decide)]
    exact canon_state_hit 2 _ _ p q
  · exact canon_state_hit 3 _ _ p q

theorem not_mem_out {h h' : Fin 4} (hne : h ≠ h') (r : Fin 512) (d : Fin 128) (n : Fin 512)
    (hn : n.val = 128 * h'.val + d.val) : (ix3 (0 : Fin 1) r n : S1x512x512.Idx) ∉ (outRect h).set := by
  intro hm
  have := (Rect.mem_set_unit.mp hm) 2
  have h1 : 128 * h.val ≤ n.val ∧ n.val < 128 * h.val + 128 := this
  exact hne (Fin.ext (by omega))

theorem canon_out_skip {h h' : Fin 4} (hne : h ≠ h') (P : S1x512x128.Idx → Elt F .bf16)
    (L : List (View.Piece (Elt F) S1x512x512 .bf16)) (r : Fin 512) (d : Fin 128)
    (n : Fin 512) (hn : n.val = 128 * h'.val + d.val) :
    View.canon ((⟨outRect h, P⟩ : View.Piece (Elt F) S1x512x512 .bf16) :: L) (ix3 0 r n)
      = View.canon L (ix3 0 r n) :=
  View.canon_cons_of_not_mem _ _ (not_mem_out hne r d n hn)

theorem canon_out_hit (h : Fin 4) (P : S1x512x128.Idx → Elt F .bf16)
    (L : List (View.Piece (Elt F) S1x512x512 .bf16)) (r : Fin 512) (d : Fin 128)
    (n : Fin 512) (hn : n.val = 128 * h.val + d.val) :
    View.canon ((⟨outRect h, P⟩ : View.Piece (Elt F) S1x512x512 .bf16) :: L) (ix3 0 r n)
      = P (ix3 0 r d) := by
  have : (ix3 (0 : Fin 1) r n : S1x512x512.Idx) = (outRect h).emb (ix3 0 r d : S1x512x128.Idx) := by
    funext a
    refine Fin.ext ?_
    rw [Rect.emb_apply]
    fin_cases a
    · show 0 = 0 + 1 * 0; omega
    · show r.val = 0 + 1 * r.val; omega
    · show n.val = 128 * h.val + 1 * d.val; omega
  rw [this]
  exact View.canon_cons_emb (outRect h) P L _

/-- The four heads' stores of the output block, the last first, read at a column of head `h`. -/
theorem canon_out (P : Fin 4 → S1x512x128.Idx → Elt F .bf16) (h : Fin 4) (r : Fin 512) (d : Fin 128)
    (n : Fin 512) (hn : n.val = 128 * h.val + d.val) :
    View.canon [(⟨outRect 3, P 3⟩ : View.Piece (Elt F) S1x512x512 .bf16), ⟨outRect 2, P 2⟩,
      ⟨outRect 1, P 1⟩, ⟨outRect 0, P 0⟩] (ix3 0 r n) = P h (ix3 0 r d) := by
  rcases head_cases h with rfl | rfl | rfl | rfl
  · rw [canon_out_skip (by decide) _ _ r d n hn, canon_out_skip (by decide) _ _ r d n hn,
      canon_out_skip (by decide) _ _ r d n hn]
    exact canon_out_hit 0 _ _ r d n hn
  · rw [canon_out_skip (by decide) _ _ r d n hn, canon_out_skip (by decide) _ _ r d n hn]
    exact canon_out_hit 1 _ _ r d n hn
  · rw [canon_out_skip (by decide) _ _ r d n hn]
    exact canon_out_hit 2 _ _ r d n hn
  · exact canon_out_hit 3 _ _ r d n hn

section Point

variable (c : Dev nD) (i : grid0.Coords)
  (arg2 : Memref sig .tc .vmem S1x512x1024 .f32) (harg2 : arg2.IsWhole)
  (arg3 : Memref sig .tc .vmem S1x1024 .f32) (harg3 : arg3.IsWhole)
  (arg4 : Memref sig .tc .vmem S1024x1536 .bf16) (harg4 : arg4.IsWhole)
  (arg5 : Memref sig .tc .vmem S4x256x256 .f32) (harg5 : arg5.IsWhole)
  (arg6 : Memref sig .tc .vmem S512x256 .f32) (harg6 : arg6.IsWhole)
  (arg7 : Memref sig .tc .vmem S512x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512x512 .bf16) (harg10 : arg10.IsWhole)
  (arg11 : Memref sig .tc .vmem S4x128x128 .f32) (harg11 : arg11.IsWhole)
  (x : Vec F S1x512x1024 .f32) (g : Vec F S1x1024 .f32) (w : Vec F S1024x1536 .bf16)
  (dm : Vec F S4x256x256 .f32) (kd : Vec F S512x256 .f32) (qd : Vec F S512x512 .f32)
  (cd ng : Vec F S1x512 .f32) (xs : Vec F S4x128x128 .f32)

theorem load_x : View.readAt (Elt F) arg2.view
    (Rect.unit ![0, 0, 0] S1x512x1024.size inb_S1x512x1024_S1x512x1024_0_0_0).toLoadRect
    (harg2.unread x) = x := by
  rw [View.readAt_eq_ld, harg2.read_unread]
  exact View.ld_unit_zero (S := S1x512x1024) (by funext a; fin_cases a <;> rfl) _ _

theorem load_g : View.readAt (Elt F) arg3.view
    (Rect.unit ![0, 0] S1x1024.size inb_S1x1024_S1x1024_0_0).toLoadRect (harg3.unread g) = g := by
  rw [View.readAt_eq_ld, harg3.read_unread]
  exact View.ld_unit_zero (S := S1x1024) (by funext a; fin_cases a <;> rfl) _ _

theorem load_w : View.readAt (Elt F) arg4.view
    (Rect.unit ![0, 0] S1024x1536.size inb_S1024x1536_S1024x1536_0_0).toLoadRect (harg4.unread w) = w := by
  rw [View.readAt_eq_ld, harg4.read_unread]
  exact View.ld_unit_zero (S := S1024x1536) (by funext a; fin_cases a <;> rfl) _ _

theorem load_kd : View.readAt (Elt F) arg6.view
    (Rect.unit ![0, 0] S512x256.size inb_S512x256_S512x256_0_0).toLoadRect (harg6.unread kd) = kd := by
  rw [View.readAt_eq_ld, harg6.read_unread]
  exact View.ld_unit_zero (S := S512x256) (by funext a; fin_cases a <;> rfl) _ _

theorem load_qd : View.readAt (Elt F) arg7.view
    (Rect.unit ![0, 0] S512x512.size inb_S512x512_S512x512_0_0).toLoadRect (harg7.unread qd) = qd := by
  rw [View.readAt_eq_ld, harg7.read_unread]
  exact View.ld_unit_zero (S := S512x512) (by funext a; fin_cases a <;> rfl) _ _

theorem load_row (lb : Vec F S1x512 .f32) (arg : Memref sig .tc .vmem S1x512 .f32)
    (harg : arg.IsWhole) : View.readAt (Elt F) arg.view
    (Rect.unit ![0, 0] S1x512.size inb_S1x512_S1x512_0_0).toLoadRect (harg.unread lb) = lb := by
  rw [View.readAt_eq_ld, harg.read_unread]
  exact View.ld_unit_zero (S := S1x512) (by funext a; fin_cases a <;> rfl) _ _

theorem load_state (h : Fin 4) : View.readAt (Elt F) arg11.view (stateRect h).toLoadRect
    (harg11.unread xs) = headOf xs h := by
  rw [View.readAt_eq_ld, harg11.read_unread]
  exact ld_state xs h

theorem load_dm (h : Fin 4) : View.readAt (Elt F) arg5.view (decayRect h).toLoadRect
    (harg5.unread dm) = decayOf dm h := by
  rw [View.readAt_eq_ld, harg5.read_unread]
  exact ld_decay dm h

/-- The state's pieces of a point that starts from the state `xs`. -/
theorem pieces_B (hc) :
    (kernelRun0_B c i arg2 harg2 arg3 harg3 arg4 harg4 arg5 harg5 arg6 harg6 arg7 harg7
      arg8 harg8 arg9 harg9 arg10 harg10 arg11 harg11 hc
      x g w dm kd qd cd ng xs).2.1
    = [⟨stateRect 3, tileState x g w kd cd 3 (headOf xs 3)⟩, ⟨stateRect 2, tileState x g w kd cd 2 (headOf xs 2)⟩,
       ⟨stateRect 1, tileState x g w kd cd 1 (headOf xs 1)⟩, ⟨stateRect 0, tileState x g w kd cd 0 (headOf xs 0)⟩] := by
  have e := load_state arg11 harg11 xs
  rw [← e 0, ← e 1, ← e 2, ← e 3]
  conv_rhs => rw [← load_x arg2 harg2 x, ← load_g arg3 harg3 g, ← load_w arg4 harg4 w,
    ← load_kd arg6 harg6 kd, ← load_row cd arg8 harg8]
  rfl

/-- The output's pieces of a point that starts from the state `xs`. -/
theorem pieces_out_B (hc) :
    (kernelRun0_B c i arg2 harg2 arg3 harg3 arg4 harg4 arg5 harg5 arg6 harg6 arg7 harg7
      arg8 harg8 arg9 harg9 arg10 harg10 arg11 harg11 hc
      x g w dm kd qd cd ng xs).1
    = [⟨outRect 3, tileOut x g w (decayOf dm 3) kd qd cd ng 3 (headOf xs 3)⟩, ⟨outRect 2, tileOut x g w (decayOf dm 2) kd qd cd ng 2 (headOf xs 2)⟩,
       ⟨outRect 1, tileOut x g w (decayOf dm 1) kd qd cd ng 1 (headOf xs 1)⟩, ⟨outRect 0, tileOut x g w (decayOf dm 0) kd qd cd ng 0 (headOf xs 0)⟩] := by
  have e := load_state arg11 harg11 xs
  rw [← e 0, ← e 1, ← e 2, ← e 3]
  have d := load_dm arg5 harg5 dm
  rw [← d 0, ← d 1, ← d 2, ← d 3]
  conv_rhs => rw [← load_x arg2 harg2 x, ← load_g arg3 harg3 g, ← load_w arg4 harg4 w,
    ← load_kd arg6 harg6 kd, ← load_qd arg7 harg7 qd, ← load_row cd arg8 harg8,
    ← load_row ng arg9 harg9]
  rfl

/-- The state a point leaves, from the state `xs` it starts from. -/
theorem sout_B (hc) (h : Fin 4) (p q : Fin 128) :
    sout0_B_0 c i arg2 harg2 arg3 harg3 arg4 harg4 arg5 harg5 arg6 harg6 arg7 harg7
      arg8 harg8 arg9 harg9 arg10 harg10 arg11 harg11 hc
      x g w dm kd qd cd ng xs (ix3 h p q) = tileState x g w kd cd h (headOf xs h) (ix3 0 p q) := by
  unfold sout0_B_0
  rw [View.read_writes_eq_canon _ _ _ (scover0_B_0 c i arg2 harg2 arg3 harg3 arg4 harg4 arg5 harg5 arg6 harg6 arg7 harg7
      arg8 harg8 arg9 harg9 arg10 harg10 arg11 harg11 hc x g w dm kd qd cd ng xs), pieces_B]
  exact canon_state (fun h => tileState x g w kd cd h (headOf xs h)) [] h p q

/-- The output block a point leaves, from the state `xs` it starts from. -/
theorem out_B (hc) (h : Fin 4) (r : Fin 512) (d : Fin 128) (n : Fin 512)
    (hn : n.val = 128 * h.val + d.val) :
    out0_B_8 c i arg2 harg2 arg3 harg3 arg4 harg4 arg5 harg5 arg6 harg6 arg7 harg7
      arg8 harg8 arg9 harg9 arg10 harg10 arg11 harg11 hc
      x g w dm kd qd cd ng xs (ix3 0 r n) = tileOut x g w (decayOf dm h) kd qd cd ng h (headOf xs h) (ix3 0 r d) := by
  unfold out0_B_8
  rw [View.read_writes_eq_canon _ _ _ (cover0_B_8 c i arg2 harg2 arg3 harg3 arg4 harg4 arg5 harg5 arg6 harg6 arg7 harg7
      arg8 harg8 arg9 harg9 arg10 harg10 arg11 harg11 hc x g w dm kd qd cd ng xs), pieces_out_B]
  exact canon_out (fun h => tileOut x g w (decayOf dm h) kd qd cd ng h (headOf xs h)) h r d n hn

/-! ### A point that clears the state first -/

/-- The clearing store. -/
abbrev clear : View.Piece (Elt F) S4x128x128 .f32 :=
  ⟨Rect.unit ![0, 0, 0] S4x128x128.size inb_S4x128x128_S4x128x128_0_0_0, k0_pay1⟩

theorem canon_clear (y : S4x128x128.Idx) : View.canon [clear (F := F)] y = zeroState y := by
  rw [View.canon_unit_zero (S := S4x128x128) (by funext a; fin_cases a <;> rfl)]
  rfl

/-- Reading head `h`'s part after the clearing and the stores of earlier heads reads zeros. -/
theorem readCov_clear (L : List (View.Piece (Elt F) S4x128x128 .f32)) (h : Fin 4)
    (hcov : ∀ y, ∃ p ∈ L, y ∈ p.1.set)
    (hL : ∀ p q : Fin 128, View.canon L (ix3 h p q) = zeroState (ix3 h p q)) :
    arg11.view.readCov L (stateRect h).toLoadRect = headOf zeroState h := by
  unfold View.readCov
  rw [View.readAt_eq_ld, View.read_writes_eq_canon _ _ _ hcov]
  refine (ld_state _ h).trans ?_
  funext y
  exact hL (y 1) (y 2)

theorem clear_covers (L : List (View.Piece (Elt F) S4x128x128 .f32)) (hL : clear ∈ L)
    (y : S4x128x128.Idx) : ∃ p ∈ L, y ∈ p.1.set :=
  ⟨clear, hL, View.mem_set_unit_zero (by funext a; fin_cases a <;> rfl)
    inb_S4x128x128_S4x128x128_0_0_0 y⟩

/-- The state's pieces after the first `k` heads of a point that clears the state. -/
def clearPieces : ℕ → List (View.Piece (Elt F) S4x128x128 .f32)
  | 0 => [clear]
  | k + 1 => ⟨stateRect ⟨k % 4, Nat.mod_lt k (by decide)⟩,
      tileState x g w kd cd ⟨k % 4, Nat.mod_lt k (by decide)⟩
        (arg11.view.readCov (clearPieces k)
          (stateRect ⟨k % 4, Nat.mod_lt k (by decide)⟩).toLoadRect)⟩ :: clearPieces k

theorem clear_mem (k : ℕ) : clear ∈ clearPieces arg11 x g w kd cd k := by
  induction k with
  | zero => exact List.mem_singleton_self _
  | succ k ih => exact List.mem_cons_of_mem _ ih

/-- Before head `h` stores, its part is zero. -/
theorem canon_clearPieces (k : ℕ) (h : Fin 4) (hk : k ≤ h.val) (p q : Fin 128) :
    View.canon (clearPieces arg11 x g w kd cd k) (ix3 h p q) = zeroState (ix3 h p q) := by
  induction k with
  | zero => exact canon_clear _
  | succ k ih =>
    refine (canon_state_skip (fun e => ?_) _ _ p q).trans (ih (by omega))
    have := congrArg Fin.val e
    have hm : k % 4 = h.val := this
    have := h.isLt
    omega

theorem readCov_clearPieces (h : Fin 4) :
    arg11.view.readCov (clearPieces arg11 x g w kd cd h.val) (stateRect h).toLoadRect
      = headOf zeroState h :=
  readCov_clear arg11 _ h (clear_covers _ (clear_mem arg11 x g w kd cd _))
    (canon_clearPieces arg11 x g w kd cd h.val h le_rfl)

/-- The state's pieces of a point that clears the state. -/
theorem pieces_A (hc) :
    (kernelRun0_A c i arg2 harg2 arg3 harg3 arg4 harg4 arg5 harg5 arg6 harg6 arg7 harg7
      arg8 harg8 arg9 harg9 arg10 harg10 arg11 harg11 hc
      x g w dm kd qd cd ng).2.1
    = [⟨stateRect 3, tileState x g w kd cd 3 (headOf zeroState 3)⟩,
       ⟨stateRect 2, tileState x g w kd cd 2 (headOf zeroState 2)⟩,
       ⟨stateRect 1, tileState x g w kd cd 1 (headOf zeroState 1)⟩,
       ⟨stateRect 0, tileState x g w kd cd 0 (headOf zeroState 0)⟩, clear] := by
  have e := readCov_clearPieces arg11 x g w kd cd
  rw [← e 0, ← e 1, ← e 2, ← e 3]
  conv_rhs => rw [← load_x arg2 harg2 x, ← load_g arg3 harg3 g, ← load_w arg4 harg4 w,
    ← load_kd arg6 harg6 kd, ← load_row cd arg8 harg8]
  rfl

/-- The output's pieces of a point that clears the state. -/
theorem pieces_out_A (hc) :
    (kernelRun0_A c i arg2 harg2 arg3 harg3 arg4 harg4 arg5 harg5 arg6 harg6 arg7 harg7
      arg8 harg8 arg9 harg9 arg10 harg10 arg11 harg11 hc
      x g w dm kd qd cd ng).1
    = [⟨outRect 3, tileOut x g w (decayOf dm 3) kd qd cd ng 3 (headOf zeroState 3)⟩,
       ⟨outRect 2, tileOut x g w (decayOf dm 2) kd qd cd ng 2 (headOf zeroState 2)⟩,
       ⟨outRect 1, tileOut x g w (decayOf dm 1) kd qd cd ng 1 (headOf zeroState 1)⟩,
       ⟨outRect 0, tileOut x g w (decayOf dm 0) kd qd cd ng 0 (headOf zeroState 0)⟩] := by
  have e := readCov_clearPieces arg11 x g w kd cd
  rw [← e 0, ← e 1, ← e 2, ← e 3]
  have d := load_dm arg5 harg5 dm
  rw [← d 0, ← d 1, ← d 2, ← d 3]
  conv_rhs => rw [← load_x arg2 harg2 x, ← load_g arg3 harg3 g, ← load_w arg4 harg4 w,
    ← load_kd arg6 harg6 kd, ← load_qd arg7 harg7 qd, ← load_row cd arg8 harg8,
    ← load_row ng arg9 harg9]
  rfl

/-- The state a point that clears it leaves. -/
theorem sout_A (hc) (h : Fin 4) (p q : Fin 128) :
    sout0_A_0 c i arg2 harg2 arg3 harg3 arg4 harg4 arg5 harg5 arg6 harg6 arg7 harg7
      arg8 harg8 arg9 harg9 arg10 harg10 arg11 harg11 hc
      x g w dm kd qd cd ng (ix3 h p q) = tileState x g w kd cd h (headOf zeroState h) (ix3 0 p q) := by
  unfold sout0_A_0
  rw [View.read_writes_eq_canon _ _ _ (scover0_A_0 c i arg2 harg2 arg3 harg3 arg4 harg4 arg5 harg5 arg6 harg6 arg7 harg7
      arg8 harg8 arg9 harg9 arg10 harg10 arg11 harg11 hc x g w dm kd qd cd ng), pieces_A]
  exact canon_state (fun h => tileState x g w kd cd h (headOf zeroState h)) [clear] h p q

/-- The output block a point that clears the state leaves. -/
theorem out_A (hc) (h : Fin 4) (r : Fin 512) (d : Fin 128) (n : Fin 512)
    (hn : n.val = 128 * h.val + d.val) :
    out0_A_8 c i arg2 harg2 arg3 harg3 arg4 harg4 arg5 harg5 arg6 harg6 arg7 harg7
      arg8 harg8 arg9 harg9 arg10 harg10 arg11 harg11 hc
      x g w dm kd qd cd ng (ix3 0 r n) = tileOut x g w (decayOf dm h) kd qd cd ng h (headOf zeroState h) (ix3 0 r d) := by
  unfold out0_A_8
  rw [View.read_writes_eq_canon _ _ _ (cover0_A_8 c i arg2 harg2 arg3 harg3 arg4 harg4 arg5 harg5 arg6 harg6 arg7 harg7
      arg8 harg8 arg9 harg9 arg10 harg10 arg11 harg11 hc x g w dm kd qd cd ng), pieces_out_A]
  exact canon_out (fun h => tileOut x g w (decayOf dm h) kd qd cd ng h (headOf zeroState h)) h r d n hn

end Point

end Cert.Kernel3Ideal.Ret
-- ==== Proof.RetSpec.lean ====
module

public import proofs.«01_k».proof.Proof.Spec

/-! # The retention's mathematics

The retention with one fixed decay per head, in chunks of 64 tokens, over the extended reals.  Every
definition is stated from the projected rows of one chunk (`Chunk`), so that the kernel (which walks
the sequence tile by tile) and the reference (which holds all of it) are read against the same
terms. -/

@[expose] public section

noncomputable section

namespace Cert.Ret

open Idealize.ShloMosaic

/-- The projected rows of one chunk: 64 tokens, 1536 columns (queries, keys, values, gates). -/
abbrev Chunk := Fin 64 → Fin 1536 → EReal

/-- The column of query entry `e` of head `h`. -/
def qcol (h : Fin 4) (e : Fin 64) : Fin 1536 := ⟨64 * h.val + e.val, by omega⟩

/-- The column of key entry `e` of head `h`. -/
def kcol (h : Fin 4) (e : Fin 64) : Fin 1536 := ⟨256 + (64 * h.val + e.val), by omega⟩

/-- The column of value entry `p` of head `h`. -/
def vcol (h : Fin 4) (p : Fin 128) : Fin 1536 := ⟨512 + (128 * h.val + p.val), by omega⟩

/-- The column of gate entry `p` of head `h`. -/
def zcol (h : Fin 4) (p : Fin 128) : Fin 1536 := ⟨1024 + (128 * h.val + p.val), by omega⟩

/-- Column `p` of head `h` in the result. -/
def hcol (h : Fin 4) (p : Fin 128) : Fin 512 := ⟨128 * h.val + p.val, by omega⟩

/-- The number of a token, or of a head, as an extended real. -/
def num (n : ℕ) : EReal := ((n : ℝ) : EReal)

/-- The logarithm of head `h`'s decay: `log (1 - 2^(-5-h))`, the power by an exponential. -/
def logDecay (h : Fin 4) : EReal :=
  Ideal.log1p (-(Ideal.exp (Ideal.ofBits .f32 0x3F317218#32
    * (Ideal.ofBits .f32 0xC0A00000#32 - num h.val))))

/-- The decay from token `s` to token `t` of a chunk, zero when `s` is later. -/
def within (h : Fin 4) (t s : Fin 64) : EReal :=
  if s ≤ t then Ideal.exp (logDecay h * max (num t.val - num s.val) 0) else 0

/-- The decay from token `s` to the end of the chunk. -/
def toEnd (h : Fin 4) (s : Fin 64) : EReal :=
  Ideal.exp (logDecay h * (Ideal.ofBits .f32 0x427C0000#32 - num s.val))

/-- The decay from before the chunk to token `t`. -/
def fromStart (h : Fin 4) (t : Fin 64) : EReal :=
  Ideal.exp (logDecay h * (num t.val + Ideal.ofBits .f32 0x3F800000#32))

/-- The decay of a whole chunk. -/
def whole (h : Fin 4) : EReal := Ideal.exp (logDecay h * Ideal.ofBits .f32 0x42800000#32)

variable (u : Chunk)

/-- The scaled query. -/
def query (h : Fin 4) (t : Fin 64) (e : Fin 64) : EReal :=
  u t (qcol h e) * Ideal.ofBits .f32 0x3E000000#32

/-- What a token takes from its own chunk. -/
def own (h : Fin 4) (t : Fin 64) (p : Fin 128) : EReal :=
  ∑ s : Fin 64, ((∑ e : Fin 64, query u h t e * u s (kcol h e)) * within h t s) * u s (vcol h p)

/-- The chunk's update of the state, at key entry `e` and value entry `p` of head `h`. -/
def update (h : Fin 4) (e : Fin 64) (p : Fin 128) : EReal :=
  ∑ s : Fin 64, (u s (kcol h e) * toEnd h s) * u s (vcol h p)

/-- The state before chunk `n` of a sequence of chunks. -/
def state (us : ℕ → Chunk) (h : Fin 4) (e : Fin 64) (p : Fin 128) : ℕ → EReal
  | 0 => 0
  | n + 1 => state us h e p n * whole h + update (us n) h e p

/-- A token's mixed value: from its own chunk and from the state `st`. -/
def mix (st : Fin 64 → Fin 128 → EReal) (h : Fin 4) (t : Fin 64) (p : Fin 128) : EReal :=
  own u h t p + (∑ e : Fin 64, query u h t e * st e p) * fromStart h t

/-- A row without its mean. -/
def centred (o : Fin 128 → EReal) (p : Fin 128) : EReal :=
  o p - Ideal.div (∑ q : Fin 128, o q) (Ideal.ofBits .f32 0x43000000#32)

/-- The head's norm of a row `o`. -/
def headNorm (o : Fin 128 → EReal) (p : Fin 128) : EReal :=
  centred o p * Ideal.rsqrt (Ideal.div (∑ q : Fin 128, centred o q * centred o q)
    (Ideal.ofBits .f32 0x43000000#32) + Ideal.ofBits .f32 0x358637BD#32)

/-- The result at one token: the head's norm, its weight and the gate `z * sigmoid z`. -/
def result (ng : Fin 512 → EReal) (st : Fin 64 → Fin 128 → EReal) (h : Fin 4) (t : Fin 64)
    (p : Fin 128) : EReal :=
  headNorm (mix u st h t) p * ng (hcol h p)
    * (u t (zcol h p) * Ideal.logistic (u t (zcol h p)))

/-- A row's projection: the root mean square norm with its weight, times the matrix. -/
def project (x : Fin 1024 → EReal) (g : Fin 1024 → EReal) (w : Fin 1024 → Fin 1536 → EReal)
    (n : Fin 1536) : EReal :=
  ∑ j : Fin 1024, x j * Ideal.rsqrt (Ideal.div (∑ i : Fin 1024, x i * x i)
      (Ideal.ofBits .f32 0x44800000#32) + Ideal.ofBits .f32 0x358637BD#32) * g j * w j n

/-- The chunks of one sequence: chunk `n` holds the projections of rows `64 n` to `64 n + 63`. -/
def chunks (x : Fin 2048 → Fin 1024 → EReal) (g : Fin 1024 → EReal)
    (w : Fin 1024 → Fin 1536 → EReal) (n : ℕ) : Chunk :=
  fun t k => project (x ⟨(64 * n + t.val) % 2048, Nat.mod_lt _ (by decide)⟩) g w k

/-- The mixer at row `r` and column `d` of a sequence. -/
def mixer (x : Fin 2048 → Fin 1024 → EReal) (g : Fin 1024 → EReal)
    (w : Fin 1024 → Fin 1536 → EReal) (ng : Fin 512 → EReal) (r : Fin 2048) (d : Fin 512) :
    EReal :=
  result (chunks x g w (r.val / 64)) ng
    (fun e p => state (chunks x g w) ⟨d.val / 128, by omega⟩ e p (r.val / 64))
    ⟨d.val / 128, by omega⟩ ⟨r.val % 64, by omega⟩ ⟨d.val % 128, by omega⟩

end Cert.Ret
-- ==== Proof.RetWord.lean ====
module

public import proofs.«01_k».proof.Proof.RetSpec

/-! # Numbers of tokens and heads

Programs count tokens and heads in machine words and turn the words into floats; here those floats
are the numbers of the mathematics, and their differences are compared as the counts are. -/

@[expose] public section

noncomputable section

namespace Cert.Ret

open Idealize.ShloMosaic

/-- The float of a small machine word is its number. -/
theorem word_num (n : ℕ) (hn : n < 2147483648) :
    (FloatOps.sitofp (F := Ideal) FTy.f32 (BitVec.ofNat 32 n) : EReal) = num n := by
  show (((BitVec.ofNat 32 n).toInt : ℝ) : EReal) = num n
  rw [BitVec.toInt_eq_toNat_of_lt (by rw [BitVec.toNat_ofNat]; omega), BitVec.toNat_ofNat,
    Nat.mod_eq_of_lt (by omega)]
  simp only [num, Int.cast_natCast]

theorem num_sub (a b : ℕ) : num a - num b = (((a : ℝ) - (b : ℝ) : ℝ) : EReal) := by
  simp only [num, EReal.coe_sub]

/-- A difference of two counts is not negative exactly when the second is no larger. -/
theorem num_sub_nonneg (a b : ℕ) : 0 ≤ num a - num b ↔ b ≤ a := by
  rw [num_sub, ← EReal.coe_zero, EReal.coe_le_coe_iff, sub_nonneg, Nat.cast_le]

/-- A difference of two counts does not change when both move together. -/
theorem num_sub_shift (k a b : ℕ) : num (k + a) - num (k + b) = num a - num b := by
  rw [num_sub, num_sub]
  congr 1
  push_cast
  ring

end Cert.Ret
-- ==== Proof.RetBlocks.lean ====
module

public import proofs.«01_k».proof.Proof.RetHead
public import proofs.«01_k».proof.Proof.RetSpec

/-! # What the blocks of one head of the retention compute -/

@[expose] public section

set_option maxRecDepth 16384

noncomputable section

namespace Cert.Kernel3Ideal.Ret

open Cert.Kernel3Ideal Cert.Kernel3Ideal.Gen Idealize.ShloMosaic Idealize.SL.Sem Cert.Ret

/-- Row `t` of chunk `c` of a tile. -/
def row (c : Fin 8) (t : Fin 64) : Fin 512 := ⟨64 * c.val + t.val, by omega⟩

/-- Row `s` of chunk `k` of a half. -/
def hrow (k : Fin 4) (s : Fin 64) : Fin 256 := ⟨64 * k.val + s.val, by omega⟩

/-- Chunk `k` of half `i`. -/
def half (i : Fin 2) (k : Fin 4) : Fin 8 := ⟨4 * i.val + k.val, by omega⟩

/-- Key entry `e` of head `h` among the key columns. -/
def key (h : Fin 4) (e : Fin 64) : Fin 256 := ⟨64 * h.val + e.val, by omega⟩

/-- Key entry `e` of head `h` in the block it shares with its neighbour. -/
def lane (h : Fin 4) (e : Fin 64) : Fin 128 := ⟨64 * (h.val % 2) + e.val, by omega⟩

/-- A sum over the rows of a half, chunk by chunk. -/
theorem sum_half (f : Fin 256 → EReal) : ∑ x, f x = ∑ k : Fin 4, ∑ s : Fin 64, f (hrow k s) := by
  rw [← Fintype.sum_prod_type']
  refine (Fintype.sum_equiv (finProdFinEquiv (m := 4) (n := 64)) _ _ fun x => ?_).symm
  congr 1
  apply Fin.ext
  simp [hrow, finProdFinEquiv]
  omega

/-- A sum over a block's columns of what is zero outside head `h`'s. -/
theorem sum_lanes (h : Fin 4) (f : Fin 128 → EReal)
    (hz : ∀ x : Fin 128, x.val / 64 ≠ h.val % 2 → f x = 0) :
    ∑ x, f x = ∑ e : Fin 64, f (lane h e) := by
  have e2 : ∑ x, f x = ∑ k : Fin 2, ∑ s : Fin 64, f ⟨64 * k.val + s.val, by omega⟩ := by
    rw [← Fintype.sum_prod_type']
    refine (Fintype.sum_equiv (finProdFinEquiv (m := 2) (n := 64)) _ _ fun x => ?_).symm
    congr 1
    apply Fin.ext
    simp [finProdFinEquiv]
    omega
  rw [e2, Finset.sum_eq_single (⟨h.val % 2, by omega⟩ : Fin 2)]
  · rfl
  · intro k _ hk
    refine Finset.sum_eq_zero fun s _ => hz _ ?_
    intro e
    exact hk (Fin.ext (by show k.val = h.val % 2; simp only [] at e; omega))
  · intro h
    exact absurd (Finset.mem_univ _) h

theorem four_cases (k : Fin 4) : k = 0 ∨ k = 1 ∨ k = 2 ∨ k = 3 := by
  revert k; decide

theorem cmp_first : ∀ x : Fin 128, IntOp.cmpi .slt (BitVec.ofNat 32 x.val) 64#32
    = if x.val / 64 = 0 then 1#1 else 0#1 := by decide +kernel

theorem flip_first : ∀ x : Fin 128, IntOp.xori (if x.val / 64 = 0 then 1#1 else 0#1) 1#1
    = if x.val / 64 = 1 then 1#1 else 0#1 := by decide +kernel

/-- The columns below the middle of a block. -/
theorem first_at (r : Fin 512) (x : Fin 128) :
    (k0_pay8 : IVec S512x128 1) (ix2 r x) = if x.val / 64 = 0 then 1#1 else 0#1 := by
  pointwise [k0_pay8]
  exact cmp_first x

/-- A head's own columns. -/
theorem mask_at (h : Fin 4) (r : Fin 512) (x : Fin 128) :
    mask k0_pay8 h (ix2 r x) = if x.val / 64 = h.val % 2 then 1#1 else 0#1 := by
  have ho : xori k0_pay8 (constantI S512x128 1 1#1) (ix2 r x)
      = if x.val / 64 = 1 then 1#1 else 0#1 := by
    pointwise
    rw [first_at]
    exact flip_first x
  rcases four_cases h with rfl | rfl | rfl | rfl
  · exact first_at r x
  · exact ho
  · exact first_at r x
  · exact ho

/-- The masked queries. -/
theorem masked_at (q : FVec Ideal S512x256 .f32) (h : Fin 4) (r : Fin 512) (x : Fin 128) :
    masked k0_pay8 q h (ix2 r x)
      = if x.val / 64 = h.val % 2 then q (ix2 r ⟨128 * (h.val / 2) + x.val, by omega⟩)
        else (0 : EReal) := by
  pointwise [masked]
  rw [mask_at]
  split
  · rfl
  · rfl

theorem masked_lane (q : FVec Ideal S512x256 .f32) (h : Fin 4) (r : Fin 512) (e : Fin 64) :
    masked k0_pay8 q h (ix2 r (lane h e)) = q (ix2 r (key h e)) := by
  rw [masked_at, if_pos (by show (64 * (h.val % 2) + e.val) / 64 = _; omega)]
  congr 2
  exact Fin.ext (by show 128 * (h.val / 2) + (64 * (h.val % 2) + e.val) = 64 * h.val + e.val; omega)

theorem masked_other (q : FVec Ideal S512x256 .f32) (h : Fin 4) (r : Fin 512) (x : Fin 128)
    (hx : x.val / 64 ≠ h.val % 2) : masked k0_pay8 q h (ix2 r x) = (0 : EReal) := by
  rw [masked_at, if_neg hx]

/-- The rows of a half. -/
theorem rows_at (y : FVec Ideal S512x128 .bf16) (i : Fin 2) (k : Fin 4) (t : Fin 64) (x : Fin 128) :
    rows y i (ix2 (hrow k t) x) = y (ix2 (row (half i k) t) x) := by
  pointwise [rows]
  congr 2
  exact Fin.ext (by show 256 * i.val + (64 * k.val + t.val) = 64 * (4 * i.val + k.val) + t.val; omega)

theorem pair_at (y : FVec Ideal S512x256 .bf16) (i : Fin 2) (h : Fin 4) (k : Fin 4) (t : Fin 64)
    (e : Fin 64) :
    pair y i h (ix2 (hrow k t) (lane h e)) = y (ix2 (row (half i k) t) (key h e)) := by
  pointwise [pair]
  congr 2
  · exact Fin.ext (by show 256 * i.val + (64 * k.val + t.val) = 64 * (4 * i.val + k.val) + t.val; omega)
  · exact Fin.ext (by show 128 * (h.val / 2) + (64 * (h.val % 2) + e.val) = 64 * h.val + e.val; omega)

theorem part_at (y : FVec Ideal S512x512 .bf16) (i : Fin 2) (h : Fin 4) (k : Fin 4) (t : Fin 64)
    (p : Fin 128) :
    part y i h (ix2 (hrow k t) p) = y (ix2 (row (half i k) t) (hcol h p)) := by
  pointwise [part]
  congr 2
  exact Fin.ext (by show 256 * i.val + (64 * k.val + t.val) = 64 * (4 * i.val + k.val) + t.val; omega)

/-- The product of the masked queries with anything sums over the head's own columns. -/
theorem masked_sum (q : FVec Ideal S512x256 .f32) (h : Fin 4) (r : Fin 512) (f : Fin 128 → EReal) :
    ∑ x : Fin 128, masked k0_pay8 q h (ix2 r x) * f x
      = ∑ e : Fin 64, q (ix2 r (key h e)) * f (lane h e) := by
  rw [sum_lanes h _ (fun x hx => by rw [masked_other q h r x hx, zero_mul])]
  simp only [masked_lane]

/-- What a row takes from its own chunk, when the decays vanish between different chunks. -/
theorem intra_at (q : FVec Ideal S512x256 .f32) (kb : FVec Ideal S512x256 .bf16)
    (v : FVec Ideal S512x512 .bf16) (dm : Vec Ideal S1x256x256 .f32) (i : Fin 2) (h : Fin 4)
    (D : Fin 64 → Fin 64 → EReal)
    (hd : ∀ (k j : Fin 4) (t s : Fin 64),
      dm (ix3 0 (hrow k t) (hrow j s)) = if k = j then D t s else (0 : EReal))
    (k : Fin 4) (t : Fin 64) (d : Fin 128) :
    intra (masked k0_pay8 q h) kb v dm i h (ix2 (hrow k t) d)
      = ∑ s : Fin 64, ((∑ e : Fin 64, q (ix2 (row (half i k) t) (key h e))
          * kb (ix2 (row (half i k) s) (key h e))) * D t s)
            * v (ix2 (row (half i k) s) (hcol h d)) := by
  have hs : ∀ j s, ∑ x : Fin 128, rows (masked k0_pay8 q h) i (ix2 (hrow k t) x)
        * pair kb i h (ix2 (hrow j s) x)
      = ∑ e : Fin 64, q (ix2 (row (half i k) t) (key h e))
          * kb (ix2 (row (half i j) s) (key h e)) := by
    intro j s
    simp only [rows_at]
    rw [masked_sum]
    simp only [pair_at]
  pointwise [intra, dot_S256x256_S256x128_S256x128_1_0_0_1_n_n, dot_S256x128_S256x128_S256x256_1_1_0_0_n_n]
  rw [sum_half, Finset.sum_eq_single k]
  · refine Finset.sum_congr rfl fun s _ => ?_
    rw [hs, hd, if_pos rfl, part_at]
  · intro j _ hj
    refine Finset.sum_eq_zero fun s _ => ?_
    rw [hd, if_neg (Ne.symm hj), mul_zero, zero_mul]
  · intro h
    exact absurd (Finset.mem_univ k) h

set_option maxHeartbeats 2000000 in
/-- The matrix with the four chunks on its diagonal. -/
theorem blockDiag_at (y : FVec Ideal S256x128 .bf16) (k j : Fin 4) (s : Fin 64) (q : Fin 128)
    (h : 128 * j.val + q.val < 512) :
    blockDiag y (ix2 (hrow k s) ⟨128 * j.val + q.val, h⟩)
      = if k = j then y (ix2 (hrow k s) q) else (0 : EReal) := by
  rcases four_cases k with rfl | rfl | rfl | rfl <;> rcases four_cases j with rfl | rfl | rfl | rfl <;>
    pointwise [blockDiag, chunk, zeros, hrow]
  all_goals
    repeat first
      | rw [dif_neg (by omega)]
      | rw [dif_pos (by omega)]
  all_goals first
    | rfl
    | exact congrArg y (congrArg₂ ix2 (Fin.ext (by show _ = _; simp only []; omega))
        (Fin.ext (by show _ = _; simp only []; omega)))

/-- The update of chunk `j` of half `i`. -/
theorem kvHalf_at (kd : FVec Ideal S512x256 .bf16) (v : FVec Ideal S512x512 .bf16) (i : Fin 2)
    (h : Fin 4) (j : Fin 4) (e : Fin 64) (p : Fin 128) (hh : 128 * j.val + p.val < 512) :
    kvHalf kd v i h (ix2 (lane h e) ⟨128 * j.val + p.val, hh⟩)
      = ∑ s : Fin 64, kd (ix2 (row (half i j) s) (key h e)) * v (ix2 (row (half i j) s) (hcol h p)) := by
  pointwise [kvHalf, dot_S256x128_S256x512_S128x512_0_0_1_1_n_n]
  rw [sum_half, Finset.sum_eq_single j]
  · refine Finset.sum_congr rfl fun s _ => ?_
    rw [blockDiag_at, if_pos rfl, pair_at, part_at]
  · intro k _ hk
    refine Finset.sum_eq_zero fun s _ => ?_
    rw [blockDiag_at, if_neg hk, mul_zero]
  · intro h
    exact absurd (Finset.mem_univ j) h

/-- The update of chunk `c`. -/
theorem kvAll_at (kd : FVec Ideal S512x256 .bf16) (v : FVec Ideal S512x512 .bf16) (h : Fin 4)
    (c : Fin 8) (e : Fin 64) (p : Fin 128) (hh : 128 * c.val + p.val < 1024) :
    kvAll kd v h (ix2 (lane h e) ⟨128 * c.val + p.val, hh⟩)
      = ∑ s : Fin 64, kd (ix2 (row c s) (key h e)) * v (ix2 (row c s) (hcol h p)) := by
  pointwise [kvAll]
  split
  · rename_i h1
    have hc : c.val < 4 := by omega
    have e1 : c = half 0 ⟨c.val, hc⟩ := Fin.ext (by show c.val = 4 * 0 + c.val; omega)
    have := kvHalf_at kd v 0 h ⟨c.val, hc⟩ e p (by show 128 * c.val + p.val < 512; omega)
    rw [← e1] at this
    exact this
  · rename_i h1
    have hc : c.val - 4 < 4 := by omega
    have e1 : c = half 1 ⟨c.val - 4, hc⟩ := Fin.ext (by show c.val = 4 * 1 + (c.val - 4); omega)
    have e2 : 128 * c.val + p.val - 512 = 128 * (c.val - 4) + p.val := by omega
    simp only [e2]
    have := kvHalf_at kd v 1 h ⟨c.val - 4, hc⟩ e p (by show 128 * (c.val - 4) + p.val < 512; omega)
    rw [← e1] at this
    exact this

/-- One chunk's step of the state. -/
theorem stepState_at (dec : FVec Ideal S1x512 .f32) (kv : FVec Ideal S128x1024 .f32) (h : Fin 4)
    (n : Fin 8) (st : FVec Ideal S128x128 .f32) (x p : Fin 128) :
    stepState dec kv h n st (ix2 x p)
      = st (ix2 x p) * dec (ix2 0 (hcol h p)) + kv (ix2 x ⟨128 * n.val + p.val, by omega⟩) := by
  pointwise [stepState]
  rfl

/-- The state a chunk starts from, by the chunk's place in its half. -/
def pick (s0 s1 s2 s3 : FVec Ideal S128x128 .f32) : Fin 4 → FVec Ideal S128x128 .f32 :=
  ![s0, s1, s2, s3]

/-- The four states side by side. -/
theorem states_at (s0 s1 s2 s3 : FVec Ideal S128x128 .f32) (k : Fin 4) (x p : Fin 128)
    (h : 128 * k.val + p.val < 512) :
    (concatenate S128x512 1 [⟨S128x128, truncf .bf16 s0 bitsLt_bf16_f32⟩,
      ⟨S128x128, truncf .bf16 s1 bitsLt_bf16_f32⟩, ⟨S128x128, truncf .bf16 s2 bitsLt_bf16_f32⟩,
      ⟨S128x128, truncf .bf16 s3 bitsLt_bf16_f32⟩]
      concatenates_S128x128_S128x128_S128x128_S128x128_S128x512_d1 : FVec Ideal S128x512 .bf16)
        (ix2 x ⟨128 * k.val + p.val, h⟩) = pick s0 s1 s2 s3 k (ix2 x p) := by
  rcases four_cases k with rfl | rfl | rfl | rfl <;> pointwise [pick]
  all_goals
    repeat first
      | rw [dif_neg (by omega)]
      | rw [dif_pos (by omega)]
  all_goals first
    | rfl
    | exact congrArg s2 (congrArg (ix2 x) (Fin.ext (by show _ = _; simp only []; omega)))
    | exact congrArg s3 (congrArg (ix2 x) (Fin.ext (by show _ = _; simp only []; omega)))

set_option maxHeartbeats 2000000 in
/-- What a row takes from the state its chunk starts from. -/
theorem interHalf_at (q : FVec Ideal S512x256 .f32) (i : Fin 2) (h : Fin 4)
    (s0 s1 s2 s3 : FVec Ideal S128x128 .f32) (k : Fin 4) (t : Fin 64) (p : Fin 128) :
    interHalf (masked k0_pay8 q h) i s0 s1 s2 s3 (ix2 (hrow k t) p)
      = ∑ e : Fin 64, q (ix2 (row (half i k) t) (key h e)) * pick s0 s1 s2 s3 k (ix2 (lane h e) p) := by
  have hm : (matmul dot_S256x128_S128x512_S256x512_1_0_0_1_n_n none (rows (masked k0_pay8 q h) i)
      (concatenate S128x512 1 [⟨S128x128, truncf .bf16 s0 bitsLt_bf16_f32⟩,
        ⟨S128x128, truncf .bf16 s1 bitsLt_bf16_f32⟩, ⟨S128x128, truncf .bf16 s2 bitsLt_bf16_f32⟩,
        ⟨S128x128, truncf .bf16 s3 bitsLt_bf16_f32⟩]
        concatenates_S128x128_S128x128_S128x128_S128x128_S128x512_d1)
      (constant S256x512 .f32 0x00000000#32) : FVec Ideal S256x512 .f32)
        (ix2 (hrow k t) ⟨128 * k.val + p.val, by omega⟩)
      = ∑ e : Fin 64, q (ix2 (row (half i k) t) (key h e)) * pick s0 s1 s2 s3 k (ix2 (lane h e) p) := by
    generalize hy : (concatenate S128x512 1 [⟨S128x128, truncf .bf16 s0 bitsLt_bf16_f32⟩,
        ⟨S128x128, truncf .bf16 s1 bitsLt_bf16_f32⟩, ⟨S128x128, truncf .bf16 s2 bitsLt_bf16_f32⟩,
        ⟨S128x128, truncf .bf16 s3 bitsLt_bf16_f32⟩]
        concatenates_S128x128_S128x128_S128x128_S128x128_S128x512_d1 : FVec Ideal S128x512 .bf16) = y
    pointwise [dot_S256x128_S128x512_S256x512_1_0_0_1_n_n]
    simp only [rows_at]
    rw [masked_sum]
    refine Finset.sum_congr rfl fun e _ => ?_
    rw [← hy, states_at]
  rw [← hm]
  unfold interHalf
  generalize (matmul dot_S256x128_S128x512_S256x512_1_0_0_1_n_n none (rows (masked k0_pay8 q h) i)
      (concatenate S128x512 1 [⟨S128x128, truncf .bf16 s0 bitsLt_bf16_f32⟩,
        ⟨S128x128, truncf .bf16 s1 bitsLt_bf16_f32⟩, ⟨S128x128, truncf .bf16 s2 bitsLt_bf16_f32⟩,
        ⟨S128x128, truncf .bf16 s3 bitsLt_bf16_f32⟩]
        concatenates_S128x128_S128x128_S128x128_S128x128_S128x512_d1)
      (constant S256x512 .f32 0x00000000#32) : FVec Ideal S256x512 .f32) = y
  rcases four_cases k with rfl | rfl | rfl | rfl <;> pointwise [hrow]
  all_goals
    repeat first
      | rw [dif_neg (by omega)]
      | rw [dif_pos (by omega)]
  all_goals first
    | rfl
    | exact congrArg y (congrArg₂ ix2 (Fin.ext (by show _ = _; simp only []; omega))
        (Fin.ext (by show _ = _; simp only []; try omega)))

/-- The half of a chunk and its place in it. -/
theorem half_cases (c : Fin 8) : ∃ i k, c = half i k := by revert c; decide

/-- A row of the mixed values: from the own chunk and from the state the chunk starts from. -/
theorem mixed_at (q : FVec Ideal S512x256 .f32) (kb : FVec Ideal S512x256 .bf16)
    (v : FVec Ideal S512x512 .bf16) (dm : Vec Ideal S1x256x256 .f32) (qd : FVec Ideal S512x512 .f32)
    (dec : FVec Ideal S1x512 .f32) (kv : FVec Ideal S128x1024 .f32) (h : Fin 4)
    (st : FVec Ideal S128x128 .f32) (D : Fin 64 → Fin 64 → EReal)
    (hd : ∀ (k j : Fin 4) (t s : Fin 64),
      dm (ix3 0 (hrow k t) (hrow j s)) = if k = j then D t s else (0 : EReal))
    (c : Fin 8) (t : Fin 64) (p : Fin 128) :
    mixed (masked k0_pay8 q h) kb v dm qd dec kv h st (ix2 (row c t) p)
      = (∑ s : Fin 64, ((∑ e : Fin 64, q (ix2 (row c t) (key h e)) * kb (ix2 (row c s) (key h e)))
            * D t s) * v (ix2 (row c s) (hcol h p)))
        + (∑ e : Fin 64, q (ix2 (row c t) (key h e))
            * stateAt dec kv h st c.val (ix2 (lane h e) p)) * qd (ix2 (row c t) (hcol h p)) := by
  obtain ⟨i, k, rfl⟩ := half_cases c
  rw [← intra_at q kb v dm i h D hd k t p]
  rcases (by omega : i.val = 0 ∨ i.val = 1) with e | e
  · obtain rfl : i = 0 := Fin.ext e
    have hr : row (half 0 k) t = ⟨(hrow k t).val, by omega⟩ :=
      Fin.ext (by show 64 * (4 * 0 + k.val) + t.val = 64 * k.val + t.val; omega)
    have hi := interHalf_at q 0 h (stateAt dec kv h st 0) (stateAt dec kv h st 1)
      (stateAt dec kv h st 2) (stateAt dec kv h st 3) k t p
    have hp : pick (stateAt dec kv h st 0) (stateAt dec kv h st 1) (stateAt dec kv h st 2)
        (stateAt dec kv h st 3) k = stateAt dec kv h st (half 0 k).val := by
      rcases four_cases k with rfl | rfl | rfl | rfl <;> rfl
    rw [hp] at hi
    rw [← hi, hr]
    pointwise [mixed]
    try rfl
  · obtain rfl : i = 1 := Fin.ext e
    have hr : row (half 1 k) t = ⟨256 + (hrow k t).val, by omega⟩ :=
      Fin.ext (by show 64 * (4 * 1 + k.val) + t.val = 256 + (64 * k.val + t.val); omega)
    have hi := interHalf_at q 1 h (stateAt dec kv h st 4) (stateAt dec kv h st 5)
      (stateAt dec kv h st 6) (stateAt dec kv h st 7) k t p
    have hp : pick (stateAt dec kv h st 4) (stateAt dec kv h st 5) (stateAt dec kv h st 6)
        (stateAt dec kv h st 7) k = stateAt dec kv h st (half 1 k).val := by
      rcases four_cases k with rfl | rfl | rfl | rfl <;> rfl
    rw [hp] at hi
    rw [← hi, hr]
    pointwise [mixed]
    try rfl

/-- A row without its mean. -/
theorem centre_at (o : FVec Ideal S512x128 .f32) (r : Fin 512) (d : Fin 128) :
    centre o (ix2 r d) = centred (fun q => o (ix2 r q)) d := by
  pointwise [centre, mean]
  rfl

/-- The norm of a head's row, its weight and the gate. -/
theorem gated_at (u : FVec Ideal S512x1536 .f32) (ng : FVec Ideal S1x512 .f32) (h : Fin 4)
    (o : FVec Ideal S512x128 .f32) (r : Fin 512) (d : Fin 128) :
    gated u ng h o (ix3 0 r d)
      = headNorm (fun q => o (ix2 r q)) d * ng (ix2 0 (hcol h d))
        * (u (ix2 r (zcol h d)) * Ideal.logistic (u (ix2 r (zcol h d)))) := by
  pointwise [gated, mean]
  simp only [centre_at]
  rw [Cert.Hgrn.half_tanh]
  have hz : ∀ hh, (⟨1024 + 128 * h.val + d.val, hh⟩ : Fin 1536) = zcol h d :=
    fun hh => Fin.ext (by show 1024 + 128 * h.val + d.val = 1024 + (128 * h.val + d.val); omega)
  simp only [hz]
  rfl

end Cert.Kernel3Ideal.Ret
-- ==== Proof.RetTile.lean ====
module

public import proofs.«01_k».proof.Proof.RetBlocks

/-! # What a tile of the retention leaves

The state a tile leaves and the block it stores, when its eight chunks are chunks `m`, …, `m + 7` of
a sequence and the state it starts from is the state before chunk `m`. -/

@[expose] public section

set_option maxRecDepth 16384

noncomputable section

namespace Cert.Kernel3Ideal.Ret

open Cert.Kernel3Ideal Cert.Kernel3Ideal.Gen Idealize.ShloMosaic Idealize.SL.Sem Cert.Ret

variable (x : Vec Ideal S1x512x1024 .f32) (g : Vec Ideal S1x1024 .f32)
  (w : Vec Ideal S1024x1536 .bf16)

/-- Chunk `c` of the tile's projected rows. -/
def tileChunk (c : Fin 8) : Chunk := fun t n => tU x g w (ix2 (row c t) n)

/-- A one-row array as a function of its column. -/
def rowFn (lb : Vec Ideal S1x512 .f32) : Fin 512 → EReal := fun e => lb (ix2 0 e)

/-- The projected rows. -/
theorem tU_at (r : Fin 512) (n : Fin 1536) :
    tU x g w (ix2 r n) = project (fun j => x (ix3 0 r j)) (fun j => g (ix2 0 j))
      (fun j n => w (ix2 j n)) n := by
  pointwise [k0_pay2, dot_S512x1024_S1024x1536_S512x1536_1_0_0_1_n_n]
  rfl

/-- The scaled queries. -/
theorem tQ_at (c : Fin 8) (t : Fin 64) (h : Fin 4) (e : Fin 64) :
    k0_pay3 x g w (ix2 (row c t) (key h e)) = query (tileChunk x g w c) h t e := by
  pointwise [k0_pay3]
  rfl

/-- The keys. -/
theorem tK_at (c : Fin 8) (t : Fin 64) (h : Fin 4) (e : Fin 64) :
    tK x g w (ix2 (row c t) (key h e)) = tileChunk x g w c t (kcol h e) := by
  pointwise [k0_pay5, k0_pay4]
  rfl

/-- The values. -/
theorem tV_at (c : Fin 8) (t : Fin 64) (h : Fin 4) (p : Fin 128) :
    tV x g w (ix2 (row c t) (hcol h p)) = tileChunk x g w c t (vcol h p) := by
  pointwise [k0_pay7]
  rfl

/-- The decayed keys. -/
theorem tKd_at (kd : Vec Ideal S512x256 .f32) (c : Fin 8) (t : Fin 64) (h : Fin 4) (e : Fin 64) :
    tKd x g w kd (ix2 (row c t) (key h e))
      = tileChunk x g w c t (kcol h e) * kd (ix2 (row c t) (key h e)) := by
  pointwise [k0_pay6, k0_pay4]
  rfl

variable (dm : Vec Ideal S1x256x256 .f32) (kd : Vec Ideal S512x256 .f32)
  (qd : Vec Ideal S512x512 .f32) (cd ng : Vec Ideal S1x512 .f32)
  (us : ℕ → Chunk) (m : ℕ) (hu : ∀ c : Fin 8, tileChunk x g w c = us (m + c.val))
  (h : Fin 4) (s : Vec Ideal S1x128x128 .f32)
  (hkd : ∀ (c : Fin 8) (t e : Fin 64), kd (ix2 (row c t) (key h e)) = toEnd h t)
  (hcd : ∀ p : Fin 128, cd (ix2 0 (hcol h p)) = whole h)
  (hs : ∀ (e : Fin 64) (p : Fin 128), s (ix3 0 (lane h e) p) = state us h e p m)

include hu hkd hcd hs

/-- The state after the first `n` chunks of the tile, in the head's own lanes. -/
theorem tile_stateAt (n : ℕ) (hn : n ≤ 8) (e : Fin 64) (p : Fin 128) :
    stateAt (k0_pay10 cd) (kvAll (tKd x g w kd) (tV x g w) h) h (unpack s) n (ix2 (lane h e) p)
      = state us h e p (m + n) := by
  induction n with
  | zero =>
    rw [Nat.add_zero, ← hs]
    pointwise [stateAt, unpack]
  | succ n ih =>
    have e1 : n % 8 = n := Nat.mod_eq_of_lt (by omega)
    have hc := hu ⟨n, by omega⟩
    have hf : (⟨n % 8, Nat.mod_lt n (by decide)⟩ : Fin 8) = ⟨n, by omega⟩ := Fin.ext e1
    have hcd' : (k0_pay10 cd : FVec Ideal S1x512 .f32) (ix2 0 (hcol h p)) = whole h := by
      rw [← hcd p]
      pointwise [k0_pay10]
    show stepState _ _ h _ (stateAt _ _ h _ n) (ix2 (lane h e) p) = _
    rw [hf, stepState_at, ih (by omega), kvAll_at, hcd']
    simp only [tV_at, tKd_at, hkd, hc]
    rfl

/-- The state the tile leaves, in the head's own lanes. -/
theorem tileState_at (e : Fin 64) (p : Fin 128) :
    tileState x g w kd cd h s (ix3 0 (lane h e) p) = state us h e p (m + 8) := by
  rw [← tile_stateAt x g w kd cd us m hu h s hkd hcd hs 8 le_rfl]
  pointwise [tileState]

/-- The block the tile stores. -/
theorem tileOut_at
    (hd : ∀ (k j : Fin 4) (t s : Fin 64),
      dm (ix3 0 (hrow k t) (hrow j s)) = if k = j then within h t s else (0 : EReal))
    (hqd : ∀ (c : Fin 8) (t : Fin 64) (p : Fin 128),
      qd (ix2 (row c t) (hcol h p)) = fromStart h t)
    (c : Fin 8) (t : Fin 64) (p : Fin 128) :
    tileOut x g w dm kd qd cd ng h s (ix3 0 (row c t) p)
      = result (us (m + c.val)) (rowFn ng)
          (fun e p => state us h e p (m + c.val)) h t p := by
  have hqd' : ∀ q : Fin 128, (k0_pay9 qd : FVec Ideal S512x512 .f32) (ix2 (row c t) (hcol h q))
      = fromStart h t := by
    intro q
    rw [← hqd c t q]
    pointwise [k0_pay9]
  have hm : ∀ q : Fin 128, mixed (tQ x g w h) (tK x g w) (tV x g w) dm (k0_pay9 qd) (k0_pay10 cd)
      (kvAll (tKd x g w kd) (tV x g w) h) h (unpack s) (ix2 (row c t) q)
      = mix (us (m + c.val)) (fun e p => state us h e p (m + c.val)) h t q := by
    intro q
    refine (mixed_at (k0_pay3 x g w) _ _ _ _ _ _ h _ (within h) hd c t q).trans ?_
    simp only [tile_stateAt x g w kd cd us m hu h s hkd hcd hs c.val (by omega), tQ_at, tK_at, tV_at,
      hqd', hu c]
    rfl
  show gated _ _ h _ (ix3 0 (row c t) p) = _
  rw [gated_at]
  simp only [hm]
  rw [← hu c]
  have hng : (k0_pay11 ng : FVec Ideal S1x512 .f32) (ix2 0 (hcol h p)) = rowFn ng (hcol h p) := by
    pointwise [k0_pay11]
    rfl
  rw [hng]
  rfl

end Cert.Kernel3Ideal.Ret
-- ==== Proof.RetTable.lean ====
module

public import proofs.«01_k».proof.Proof.RetWord
public import proofs.«01_k».proof.Proof.RetTile
public import proofs.«01_k».proof.Proof.Gen.Kernel3Ideal.Value

/-! # The retention call's tables

Before the call the host computes four tables of decays from the token and head numbers alone: the
decay from one token of a half tile to another (zero between chunks and forwards), the decay from
each token to the end of its chunk, the one from before the chunk, and the one over a whole chunk.
Each is read here as the term of host operations that computes it, and each entry is shown to be the
decay of the mathematics. -/

@[expose] public section

set_option maxRecDepth 16384

noncomputable section

namespace Cert.Kernel3Ideal.Ret

open Cert.Kernel3Ideal Cert.Kernel3Ideal.Gen Idealize.ShloMosaic Idealize.ShloMosaic.TcCoe
  Idealize.SL.Sem Cert.Ret

variable (m : (ℓ : Loc nD τ sig) → Buf (Elt Ideal) ℓ)

/-! ## The tables as terms of host operations -/

/-- The rounded-down quotients of `a` by 64. -/
def quotT {T : Shape} (bc : S_.BroadcastsInDim T (![] : Fin 0 → Fin T.rank)) (a : IVec T 32) :
    IVec T 32 :=
  select (andi (cmpi .ne (signi a) (broadcastInDim T ![] bc (signi (constantI S_ 32 64#32))))
      (cmpi .ne (Host.remsi a (broadcastInDim T ![] bc (constantI S_ 32 64#32)))
        (broadcastInDim T ![] bc (constantI S_ 32 0#32))))
    (subi (Host.divsi a (broadcastInDim T ![] bc (constantI S_ 32 64#32)))
      (broadcastInDim T ![] bc (constantI S_ 32 1#32)))
    (Host.divsi a (broadcastInDim T ![] bc (constantI S_ 32 64#32)))

/-- The divisor of the remainders: 64, or one if that were zero. -/
def divT : IVec S_ 32 :=
  select (cmpi .eq (constantI S_ 32 64#32) (constantI S_ 32 0#32)) (constantI S_ 32 1#32)
    (constantI S_ 32 64#32)

/-- The non-negative remainders of `a` by the divisor. -/
def remT (a : IVec S512 32) : IVec S512 32 :=
  select (andi (cmpi .ne
        (cmpi .slt (Host.remsi a (broadcastInDim S512 ![] bcast_S_S512 divT))
          (broadcastInDim S512 ![] bcast_S_S512 (constantI S_ 32 0#32)))
        (broadcastInDim S512 ![] bcast_S_S512 (cmpi .slt divT (constantI S_ 32 0#32))))
      (cmpi .ne (Host.remsi a (broadcastInDim S512 ![] bcast_S_S512 divT))
        (broadcastInDim S512 ![] bcast_S_S512 (constantI S_ 32 0#32))))
    (addi (Host.remsi a (broadcastInDim S512 ![] bcast_S_S512 divT))
      (broadcastInDim S512 ![] bcast_S_S512 divT))
    (Host.remsi a (broadcastInDim S512 ![] bcast_S_S512 divT))

/-- The logarithms of the heads' decays. -/
def logT : FVec Ideal S4 .f32 :=
  Host.log1p (F := Ideal) (Host.negf (F := Ideal) (Host.exp (F := Ideal)
    (mulf (F := Ideal) (broadcastInDim S4 ![] bcast_S_S4 (constant S_ FTy.f32 0x3F317218#32))
      (subf (F := Ideal) (broadcastInDim S4 ![] bcast_S_S4 (constant S_ FTy.f32 0xC0A00000#32))
        (sitofp FTy.f32 (iotaInDim S4 32 0))))))

/-- Each token's place in its chunk. -/
def placeT : FVec Ideal S512 .f32 := sitofp FTy.f32 (remT (iotaInDim S512 32 0))

/-- How far each token lies after another. -/
def relT : FVec Ideal S512x512 .f32 :=
  subf (F := Ideal)
    (broadcastInDim S512x512 ![0, 1] bcast_S512x1_S512x512_0_1
      (broadcastInDim S512x1 ![0] bcast_S512_S512x1_0 (sitofp FTy.f32 (iotaInDim S512 32 0))))
    (broadcastInDim S512x512 ![0, 1] bcast_S1x512_S512x512_0_1
      (broadcastInDim S1x512 ![1] bcast_S512_S1x512_1 (sitofp FTy.f32 (iotaInDim S512 32 0))))

/-- Whether two tokens lie in one chunk. -/
def sameT : IVec S512x512 1 :=
  cmpi .eq
    (broadcastInDim S512x512 ![0, 1] bcast_S512x1_S512x512_0_1
      (quotT bcast_S_S512x1 (broadcastInDim S512x1 ![0] bcast_S512_S512x1_0 (iotaInDim S512 32 0))))
    (broadcastInDim S512x512 ![0, 1] bcast_S1x512_S512x512_0_1
      (quotT bcast_S_S1x512 (broadcastInDim S1x512 ![1] bcast_S512_S1x512_1 (iotaInDim S512 32 0))))

/-- The decays between the tokens of a tile. -/
def pairT : FVec Ideal S4x512x512 .f32 :=
  select (broadcastInDim S4x512x512 ![1, 2] bcast_S512x512_S4x512x512_1_2
      (andi (cmpf (F := Ideal) .oge relT
        (broadcastInDim S512x512 ![] bcast_S_S512x512 (constant S_ FTy.f32 0x00000000#32))) sameT))
    (Host.exp (F := Ideal) (mulf (F := Ideal)
      (broadcastInDim S4x512x512 ![0, 1, 2] bcast_S4x1x1_S4x512x512_0_1_2
        (broadcastInDim S4x1x1 ![0] bcast_S4_S4x1x1_0 logT))
      (broadcastInDim S4x512x512 ![0, 1, 2] bcast_S1x512x512_S4x512x512_0_1_2
        (broadcastInDim S1x512x512 ![1, 2] bcast_S512x512_S1x512x512_1_2
          (maximumf (F := Ideal) relT (broadcastInDim S512x512 ![] bcast_S_S512x512
            (constant S_ FTy.f32 0x00000000#32)))))))
    (broadcastInDim S4x512x512 ![] bcast_S_S4x512x512 (constant S_ FTy.f32 0x00000000#32))

/-- The decays of head columns at numbers `n`. -/
def headsT (n : FVec Ideal S512 .f32) : FVec Ideal S512x4 .f32 :=
  Host.exp (F := Ideal) (mulf (F := Ideal)
    (broadcastInDim S512x4 ![0, 1] bcast_S1x4_S512x4_0_1 (broadcastInDim S1x4 ![1] bcast_S4_S1x4_1 logT))
    (broadcastInDim S512x4 ![0, 1] bcast_S512x1_S512x4_0_1
      (broadcastInDim S512x1 ![0] bcast_S512_S512x1_0 n)))

/-- The decays from each token to the end of its chunk, head by head. -/
def endT : FVec Ideal S512x4 .f32 :=
  headsT (subf (F := Ideal) (broadcastInDim S512 ![] bcast_S_S512 (constant S_ FTy.f32 0x427C0000#32))
    placeT)

/-- The decays from before its chunk to each token, head by head. -/
def startT : FVec Ideal S512x4 .f32 :=
  headsT (addf (F := Ideal) placeT
    (broadcastInDim S512 ![] bcast_S_S512 (constant S_ FTy.f32 0x3F800000#32)))

/-- The decays over a whole chunk, head by head. -/
def wholeT : FVec Ideal S4 .f32 :=
  Host.exp (F := Ideal) (mulf (F := Ideal) logT
    (broadcastInDim S4 ![] bcast_S_S4 (constant S_ FTy.f32 0x42800000#32)))

set_option maxHeartbeats 4000000 in
theorem V_pairs (c : Dev nD) : (V m c main_v35 : FVec Ideal S4x256x256 .f32)
    = extractStridedSlice S4x256x256 ![0, 0, 0] pairT slices_S4x512x512_S4x256x256_0_0_0 := by
  unfold V
  simp only [List.flatten_cons, List.flatten_nil, List.append_nil, List.cons_append,
    List.nil_append]
  after_results_simp
  rfl

set_option maxHeartbeats 4000000 in
theorem V_ends (c : Dev nD) : (V m c main_v47 : FVec Ideal S512x256 .f32)
    = shapeCast S512x256 (broadcastInDim S512x4x64 ![0, 1] bcast_S512x4_S512x4x64_0_1 endT)
        shapeCasts_S512x4x64_S512x256 := by
  unfold V
  simp only [List.flatten_cons, List.flatten_nil, List.append_nil, List.cons_append,
    List.nil_append]
  after_results_simp
  rfl

set_option maxHeartbeats 4000000 in
theorem V_starts (c : Dev nD) : (V m c main_v57 : FVec Ideal S512x512 .f32)
    = shapeCast S512x512 (broadcastInDim S512x4x128 ![0, 1] bcast_S512x4_S512x4x128_0_1 startT)
        shapeCasts_S512x4x128_S512x512 := by
  unfold V
  simp only [List.flatten_cons, List.flatten_nil, List.append_nil, List.cons_append,
    List.nil_append]
  after_results_simp
  rfl

set_option maxHeartbeats 4000000 in
theorem V_wholes (c : Dev nD) : (V m c main_v63 : FVec Ideal S1x512 .f32)
    = shapeCast S1x512 (broadcastInDim S1x4x128 ![0, 1] bcast_S1x4_S1x4x128_0_1
        (broadcastInDim S1x4 ![1] bcast_S4_S1x4_1 wholeT)) shapeCasts_S1x4x128_S1x512 := by
  unfold V
  simp only [List.flatten_cons, List.flatten_nil, List.append_nil, List.cons_append,
    List.nil_append]
  after_results_simp
  rfl

/-! ## The tables' entries -/

/-- Token `n`'s place in its chunk, as a word. -/
theorem rem_at : ∀ n : Fin 512,
    remT (iotaInDim S512 32 0) (ix1 n) = BitVec.ofNat 32 (n.val % 64) := by
  decide +kernel

/-- Token `n`'s chunk, as a word, down the rows. -/
theorem quot_row : ∀ n : Fin 512,
    quotT bcast_S_S512x1 (broadcastInDim S512x1 ![0] bcast_S512_S512x1_0 (iotaInDim S512 32 0))
      (ix2 n 0) = BitVec.ofNat 32 (n.val / 64) := by
  decide +kernel

/-- Token `n`'s chunk, as a word, along the columns. -/
theorem quot_col : ∀ n : Fin 512,
    quotT bcast_S_S1x512 (broadcastInDim S1x512 ![1] bcast_S512_S1x512_1 (iotaInDim S512 32 0))
      (ix2 0 n) = BitVec.ofNat 32 (n.val / 64) := by
  decide +kernel

theorem log_at (h : Fin 4) : logT (ix1 h) = logDecay h := by
  pointwise [logT, logDecay]
  rw [word_num h.val (by omega)]

theorem place_at (c : Fin 8) (t : Fin 64) : placeT (ix1 (row c t)) = num t.val := by
  pointwise [placeT]
  rw [rem_at, show (row c t).val % 64 = t.val by show (64 * c.val + t.val) % 64 = _; omega,
    word_num t.val (by omega)]

theorem rel_at (r s : Fin 512) : relT (ix2 r s) = num r.val - num s.val := by
  pointwise [relT]
  rw [word_num r.val (by omega), word_num s.val (by omega)]

/-- Chunks are told apart by their words. -/
theorem chunk_words : ∀ k j : Fin 4,
    IntOp.cmpi .eq (BitVec.ofNat 32 k.val) (BitVec.ofNat 32 j.val) = BitVec.ofBool (decide (k = j)) := by
  decide +kernel

theorem same_at (r s : Fin 512) (k j : Fin 4) (hr : r.val / 64 = k.val) (hs : s.val / 64 = j.val) :
    sameT (ix2 r s) = BitVec.ofBool (decide (k = j)) := by
  pointwise [sameT]
  refine (congrArg₂ (IntOp.cmpi .eq) (quot_row r) (quot_col s)).trans ?_
  rw [hr, hs, chunk_words]

theorem heads_at (n : FVec Ideal S512 .f32) (r : Fin 512) (h : Fin 4) :
    headsT n (ix2 r h) = Ideal.exp (logDecay h * n (ix1 r)) := by
  pointwise [headsT]
  rw [log_at]

theorem end_at (c : Fin 8) (t : Fin 64) (h : Fin 4) : endT (ix2 (row c t) h) = toEnd h t := by
  unfold endT
  rw [heads_at]
  pointwise [toEnd]
  rw [place_at]

theorem start_at (c : Fin 8) (t : Fin 64) (h : Fin 4) :
    startT (ix2 (row c t) h) = fromStart h t := by
  unfold startT
  rw [heads_at]
  pointwise [fromStart]
  rw [place_at]

theorem whole_at (h : Fin 4) : wholeT (ix1 h) = whole h := by
  pointwise [wholeT, whole]
  rw [log_at]

theorem between_at (h k j : Fin 4) (t s : Fin 64) (r r' : Fin 512) (hr : r.val = 64 * k.val + t.val)
    (hr' : r'.val = 64 * j.val + s.val) :
    pairT (ix3 h r r') = if k = j then within h t s else 0 := by
  pointwise [pairT]
  rw [same_at r r' k j (by omega) (by omega), rel_at, log_at]
  by_cases hk : k = j
  · subst hk
    rw [hr, hr', num_sub_shift, if_pos rfl]
    unfold within
    by_cases hs : s ≤ t
    · rw [if_pos hs, decide_eq_true ((num_sub_nonneg t.val s.val).2 hs), decide_eq_true rfl]
      rfl
    · rw [if_neg hs, decide_eq_false (fun h => hs ((num_sub_nonneg t.val s.val).1 h)), decide_eq_true rfl]
      rfl
  · rw [if_neg hk, decide_eq_false hk]
    cases decide (0 ≤ num r.val - num r'.val) <;> rfl

/-! ## The tables the call reads -/

theorem pairs_at (c : Dev nD) (h k j : Fin 4) (t s : Fin 64) :
    (V m c main_v35 : FVec Ideal S4x256x256 .f32) (ix3 h (hrow k t) (hrow j s))
      = if k = j then within h t s else 0 := by
  rw [V_pairs]
  pointwise []
  exact between_at h k j t s _ _ (by show _ = _; simp [hrow]) (by show _ = _; simp [hrow])

theorem ends_at (c : Dev nD) (k : Fin 8) (t : Fin 64) (h : Fin 4) (e : Fin 64) :
    (V m c main_v47 : FVec Ideal S512x256 .f32) (ix2 (row k t) (key h e)) = toEnd h t := by
  rw [V_ends]
  pointwise [key]
  exact end_at k t h

theorem starts_at (c : Dev nD) (k : Fin 8) (t : Fin 64) (h : Fin 4) (p : Fin 128) :
    (V m c main_v57 : FVec Ideal S512x512 .f32) (ix2 (row k t) (hcol h p)) = fromStart h t := by
  rw [V_starts]
  pointwise [hcol]
  exact start_at k t h

theorem wholes_at (c : Dev nD) (h : Fin 4) (p : Fin 128) :
    (V m c main_v63 : FVec Ideal S1x512 .f32) (ix2 0 (hcol h p)) = whole h := by
  rw [V_wholes]
  pointwise [hcol]
  exact whole_at h

end Cert.Kernel3Ideal.Ret
-- ==== Proof.RetArray.lean ====
module

public import proofs.«01_k».proof.Proof.RetStore
public import proofs.«01_k».proof.Proof.RetTable

/-! # The array the retention call leaves

The grid's blocks are placed in the call's arrays, the state is carried from point to point of a
sequence, and the stored blocks together are the mixer of the mathematics. -/

@[expose] public section

set_option maxRecDepth 16384

noncomputable section

namespace Cert.Kernel3Ideal.Ret

open Cert.Kernel3Ideal Cert.Kernel3Ideal.Gen Idealize.ShloMosaic Idealize.ShloMosaic.TcCoe
  Idealize.SL.Sem Cert.Ret
open Idealize.ShloMosaic.Pipeline (Dat)

variable (m : (ℓ : Loc nD τ sig) → Buf (Elt Ideal) ℓ)

/-- The input of sequence `b`. -/
def inX (c : Dev nD) (b : Fin 32) : Fin 2048 → Fin 1024 → EReal :=
  fun r j => (m ((c : Thread nD τ).loc main_arg0) : FVec Ideal S32x2048x1024 .f32) (ix3 b r j)

/-- The norm's weight. -/
def inG (c : Dev nD) : Fin 1024 → EReal :=
  fun j => (m ((c : Thread nD τ).loc main_arg1) : FVec Ideal S1024 .f32) (ix1 j)

/-- The projection's matrix. -/
def inW (c : Dev nD) : Fin 1024 → Fin 1536 → EReal :=
  fun j n => (m ((c : Thread nD τ).loc main_arg2) : FVec Ideal S1024x1536 .f32) (ix2 j n)

/-- The weight of the heads' norm. -/
def inNg (c : Dev nD) : Fin 512 → EReal :=
  fun e => (m ((c : Thread nD τ).loc main_arg3) : FVec Ideal S512 .f32) (ix1 e)

set_option maxHeartbeats 4000000 in
theorem V_main_arg0 (c : Dev nD) : (V m c main_arg0 : FVec Ideal S32x2048x1024 .f32)
    = (m ((c : Thread nD τ).loc main_arg0) : FVec Ideal S32x2048x1024 .f32) := by
  unfold V
  simp only [List.flatten_cons, List.flatten_nil, List.append_nil, List.cons_append,
    List.nil_append]
  after_results_simp

set_option maxHeartbeats 4000000 in
theorem V_main_v0 (c : Dev nD) : (V m c main_v0 : FVec Ideal S1x1024 .f32)
    = shapeCast S1x1024 (m ((c : Thread nD τ).loc main_arg1) : FVec Ideal S1024 .f32) shapeCasts_S1024_S1x1024 := by
  unfold V
  simp only [List.flatten_cons, List.flatten_nil, List.append_nil, List.cons_append,
    List.nil_append]
  after_results_simp
  try rfl

set_option maxHeartbeats 4000000 in
theorem V_main_v64 (c : Dev nD) (i : S1024x1536.Idx) : (V m c main_v64 : FVec Ideal S1024x1536 .bf16) i
    = (m ((c : Thread nD τ).loc main_arg2) : FVec Ideal S1024x1536 .f32) i := by
  unfold V
  simp only [List.flatten_cons, List.flatten_nil, List.append_nil, List.cons_append,
    List.nil_append]
  after_results_simp
  try rfl

set_option maxHeartbeats 4000000 in
theorem V_main_v65 (c : Dev nD) : (V m c main_v65 : FVec Ideal S1x512 .f32)
    = shapeCast S1x512 (m ((c : Thread nD τ).loc main_arg3) : FVec Ideal S512 .f32) shapeCasts_S512_S1x512 := by
  unfold V
  simp only [List.flatten_cons, List.flatten_nil, List.append_nil, List.cons_append,
    List.nil_append]
  after_results_simp
  try rfl

/-- The blocks' places, at every grid point. -/
theorem places : ∀ t : Fin cfg0.N, win0_0.index t = ![t.val / 4, t.val % 4, 0]
    ∧ win0_1.index t = ![0, 0] ∧ win0_2.index t = ![0, 0] ∧ win0_3.index t = ![0, 0, 0]
    ∧ win0_4.index t = ![0, 0] ∧ win0_5.index t = ![0, 0] ∧ win0_6.index t = ![0, 0]
    ∧ win0_7.index t = ![0, 0] :=
  (by decide +kernel : ∀ t : Fin grid0.N, _)

theorem lt_points (t : Fin cfg0.N) : t.val < 128 := lt_of_lt_of_eq t.isLt N_0

/-- The sequence a grid point works on. -/
def seqOf (t : Fin cfg0.N) : Fin 32 := ⟨t.val / 4, by have := lt_points t; omega⟩

/-- The input block of a point. -/
theorem block_x (c : Dev nD) (t : Fin cfg0.N) (r : Fin 512) (j : Fin 1024) :
    (iblk m c 0 t : FVec Ideal S1x512x1024 .f32) (ix3 0 r j)
      = inX m c (seqOf t) ⟨512 * (t.val % 4) + r.val, by omega⟩ j := by
  have h : (iblk m c 0 t : FVec Ideal S1x512x1024 .f32) (ix3 0 r j)
      = (V m c main_arg0 : FVec Ideal S32x2048x1024 .f32)
          (ix3 (seqOf t) ⟨512 * (t.val % 4) + r.val, by omega⟩ j) := by
    unfold seqOf
    blk_ext [iblk, places t]
  rw [h, V_main_arg0]
  rfl

theorem block_g (c : Dev nD) (t : Fin cfg0.N) (j : Fin 1024) :
    (iblk m c 1 t : FVec Ideal S1x1024 .f32) (ix2 0 j) = inG m c j := by
  have h : (iblk m c 1 t : FVec Ideal S1x1024 .f32) (ix2 0 j) = (V m c main_v0 : FVec Ideal S1x1024 .f32) (ix2 0 j) := by
    blk_ext [iblk, places t]
  rw [h, V_main_v0]
  pointwise
  rfl

theorem block_w (c : Dev nD) (t : Fin cfg0.N) (j : Fin 1024) (n : Fin 1536) :
    (iblk m c 2 t : FVec Ideal S1024x1536 .bf16) (ix2 j n) = inW m c j n := by
  have h : (iblk m c 2 t : FVec Ideal S1024x1536 .bf16) (ix2 j n) = (V m c main_v64 : FVec Ideal S1024x1536 .bf16) (ix2 j n) := by
    blk_ext [iblk, places t]
  rw [h, V_main_v64]
  rfl

/-- The block of the decays between the tokens of a half. -/
theorem block_pairs (c : Dev nD) (t : Fin cfg0.N) (h k j : Fin 4) (r s : Fin 64) :
    decayOf (iblk m c 3 t : FVec Ideal S4x256x256 .f32) h (ix3 0 (hrow k r) (hrow j s))
      = if k = j then within h r s else (0 : EReal) := by
  have h : (iblk m c 3 t : FVec Ideal S4x256x256 .f32) (ix3 h (hrow k r) (hrow j s))
      = (V m c main_v35 : FVec Ideal S4x256x256 .f32) (ix3 h (hrow k r) (hrow j s)) := by
    blk_ext [iblk, places t]
  exact h.trans (pairs_at m c _ k j r s)

/-- The block of the decays to the chunk's end. -/
theorem block_ends (c : Dev nD) (t : Fin cfg0.N) (h : Fin 4) (k : Fin 8) (r e : Fin 64) :
    (iblk m c 4 t : FVec Ideal S512x256 .f32) (ix2 (row k r) (key h e)) = toEnd h r := by
  have h' : (iblk m c 4 t : FVec Ideal S512x256 .f32) (ix2 (row k r) (key h e))
      = (V m c main_v47 : FVec Ideal S512x256 .f32) (ix2 (row k r) (key h e)) := by
    blk_ext [iblk, places t]
  exact h'.trans (ends_at m c k r h e)

/-- The block of the decays from the chunk's start. -/
theorem block_starts (c : Dev nD) (t : Fin cfg0.N) (h : Fin 4) (k : Fin 8) (r : Fin 64)
    (p : Fin 128) :
    (iblk m c 5 t : FVec Ideal S512x512 .f32) (ix2 (row k r) (hcol h p)) = fromStart h r := by
  have h' : (iblk m c 5 t : FVec Ideal S512x512 .f32) (ix2 (row k r) (hcol h p))
      = (V m c main_v57 : FVec Ideal S512x512 .f32) (ix2 (row k r) (hcol h p)) := by
    blk_ext [iblk, places t]
  exact h'.trans (starts_at m c k r h p)

/-- The block of the decays over a whole chunk. -/
theorem block_wholes (c : Dev nD) (t : Fin cfg0.N) (h : Fin 4) (p : Fin 128) :
    (iblk m c 6 t : FVec Ideal S1x512 .f32) (ix2 0 (hcol h p)) = whole h := by
  have h' : (iblk m c 6 t : FVec Ideal S1x512 .f32) (ix2 0 (hcol h p))
      = (V m c main_v63 : FVec Ideal S1x512 .f32) (ix2 0 (hcol h p)) := by
    blk_ext [iblk, places t]
  exact h'.trans (wholes_at m c h p)

theorem block_ng (c : Dev nD) (t : Fin cfg0.N) (e : Fin 512) :
    (iblk m c 7 t : FVec Ideal S1x512 .f32) (ix2 0 e) = inNg m c e := by
  have h : (iblk m c 7 t : FVec Ideal S1x512 .f32) (ix2 0 e) = (V m c main_v65 : FVec Ideal S1x512 .f32) (ix2 0 e) := by
    blk_ext [iblk, places t]
  rw [h, V_main_v65]
  pointwise
  rfl

/-- The heads' norm's block is its weight. -/
theorem row_ng (c : Dev nD) (t : Fin cfg0.N) : rowFn (iblk m c 7 t) = inNg m c :=
  funext fun e => block_ng m c t e

/-- The chunks of sequence `b`. -/
abbrev seqChunks (c : Dev nD) (b : Fin 32) : ℕ → Chunk := chunks (inX m c b) (inG m c) (inW m c)

/-- The chunks of a point's tile are chunks of its sequence. -/
theorem tile_chunks (c : Dev nD) (t : Fin cfg0.N) (k : Fin 8) :
    tileChunk (iblk m c 0 t) (iblk m c 1 t) (iblk m c 2 t) k
      = seqChunks m c (seqOf t) (8 * (t.val % 4) + k.val) := by
  funext s n
  refine (tU_at (iblk m c 0 t) (iblk m c 1 t) (iblk m c 2 t) (row k s) n).trans ?_
  have hr : (⟨512 * (t.val % 4) + (row k s).val, by omega⟩ : Fin 2048)
      = ⟨(64 * (8 * (t.val % 4) + k.val) + s.val) % 2048, Nat.mod_lt _ (by decide)⟩ :=
    Fin.ext (by simp only [row]; omega)
  simp only [block_x, block_g, block_w, hr]
  rfl

theorem headOf_zero (h : Fin 4) (p q : Fin 128) :
    headOf (zeroState : Vec Ideal S4x128x128 .f32) h (ix3 0 p q) = (0 : EReal) := by
  show Scalar.ofBits (F := Ideal) .f32 0x00000000#32 = (0 : EReal)
  simp

/-- A point's tile takes the state before it to the state after its last chunk. -/
theorem tile_state (c : Dev nD) (t : Fin cfg0.N) (h : Fin 4) (s : Vec Ideal S1x128x128 .f32)
    (hs : ∀ (e : Fin 64) (p : Fin 128), s (ix3 0 (lane h e) p)
      = state (seqChunks m c (seqOf t)) h e p (8 * (t.val % 4))) (e : Fin 64) (p : Fin 128) :
    tileState (iblk m c 0 t) (iblk m c 1 t) (iblk m c 2 t) (iblk m c 4 t) (iblk m c 6 t) h s
        (ix3 0 (lane h e) p)
      = state (seqChunks m c (seqOf t)) h e p (8 * (t.val % 4) + 8) :=
  tileState_at _ _ _ _ _ (seqChunks m c (seqOf t)) (8 * (t.val % 4)) (tile_chunks m c t) h s
    (block_ends m c t h) (block_wholes m c t h) hs e p

/-- The block a point's tile stores from the state before it. -/
theorem tile_block (c : Dev nD) (t : Fin cfg0.N) (h : Fin 4) (s : Vec Ideal S1x128x128 .f32)
    (hs : ∀ (e : Fin 64) (p : Fin 128), s (ix3 0 (lane h e) p)
      = state (seqChunks m c (seqOf t)) h e p (8 * (t.val % 4))) (k : Fin 8) (r : Fin 64)
    (p : Fin 128) :
    tileOut (iblk m c 0 t) (iblk m c 1 t) (iblk m c 2 t) (decayOf (iblk m c 3 t) h) (iblk m c 4 t)
        (iblk m c 5 t) (iblk m c 6 t) (iblk m c 7 t) h s (ix3 0 (row k r) p)
      = result (seqChunks m c (seqOf t) (8 * (t.val % 4) + k.val)) (inNg m c)
          (fun e p => state (seqChunks m c (seqOf t)) h e p (8 * (t.val % 4) + k.val)) h r p := by
  rw [← row_ng m c t]
  exact tileOut_at _ _ _ _ _ _ _ _ (seqChunks m c (seqOf t)) (8 * (t.val % 4)) (tile_chunks m c t)
    h s (block_ends m c t h) (block_wholes m c t h) hs (block_pairs m c t h) (block_starts m c t h)
    k r p

/-- The state after a grid point: the state after the tile's last chunk. -/
theorem state_after (c : Dev nD) (n : ℕ) (hn : n < cfg0.N) (h : Fin 4) (e : Fin 64) (p : Fin 128) :
    (outsAt0 m c n hn).2 (ix3 h (lane h e) p)
      = state (seqChunks m c (seqOf ⟨n, hn⟩)) h e p (8 * (n % 4) + 8) := by
  induction n generalizing h e p with
  | zero =>
    rw [outsAt0_A m c ⟨0, hn⟩ (Nat.zero_mod _)]
    dsimp only
    rw [sout_A]
    exact tile_state m c ⟨0, hn⟩ h _ (fun e p => headOf_zero h _ p) e p
  | succ n ih =>
    have hN := lt_points ⟨n + 1, hn⟩
    by_cases h0 : (n + 1) % 4 = 0
    · rw [outsAt0_A m c ⟨n + 1, hn⟩ h0]
      dsimp only
      rw [sout_A]
      exact tile_state m c ⟨n + 1, hn⟩ h _
        (fun e p => by
          show _ = state _ h e p (8 * ((n + 1) % 4))
          rw [h0]; exact headOf_zero h _ p) e p
    · rw [outsAt0_B m c ⟨n + 1, hn⟩ h0]
      dsimp only
      rw [sout_B]
      refine tile_state m c ⟨n + 1, hn⟩ h _ (fun e p => ?_) e p
      have hs : seqOf ⟨n + 1, hn⟩ = seqOf ⟨n, Nat.lt_of_succ_lt hn⟩ :=
        Fin.ext (by show (n + 1) / 4 = n / 4; omega)
      have he : 8 * ((n + 1) % 4) = 8 * (n % 4) + 8 := by omega
      show _ = state _ h e p (8 * ((n + 1) % 4))
      rw [hs, he]
      exact ih (Nat.lt_of_succ_lt hn) h e p

/-- The block a grid point stores. -/
theorem block_after (c : Dev nD) (t : Fin cfg0.N) (k : Fin 8) (s : Fin 64) (h : Fin 4)
    (p : Fin 128) :
    (outsAt0 m c t.val t.isLt).1 (ix3 0 (row k s) (hcol h p))
      = result (seqChunks m c (seqOf t) (8 * (t.val % 4) + k.val)) (inNg m c)
          (fun e p => state (seqChunks m c (seqOf t)) h e p (8 * (t.val % 4) + k.val))
          h s p := by
  have hN := lt_points t
  by_cases h0 : t.val % 4 = 0
  · rw [outsAt0_A m c t h0]
    dsimp only
    rw [out_A (hn := rfl)]
    exact tile_block m c t h _ (fun e p => by rw [h0]; exact headOf_zero h _ p) k s p
  · rw [outsAt0_B m c t h0]
    dsimp only
    rw [out_B (hn := rfl)]
    refine tile_block m c t h _ (fun e p => ?_) k s p
    have hlt : t.val - 1 < cfg0.N := Nat.lt_of_le_of_lt (Nat.sub_le _ _) t.isLt
    have hs : seqOf t = seqOf ⟨t.val - 1, hlt⟩ :=
      Fin.ext (by show t.val / 4 = (t.val - 1) / 4; omega)
    have he : 8 * (t.val % 4) = 8 * ((t.val - 1) % 4) + 8 := by omega
    rw [hs, he]
    exact state_after m c (t.val - 1) hlt h e p

/-- The kernel's result, at sequence `b`, row `r` and column `d`. -/
theorem array_at (c : Dev nD) (b : Fin 32) (r : Fin 2048) (d : Fin 512) :
    ((dats m 0 c).arrAt 8 cfg0.N : FVec Ideal S32x2048x512 .bf16) (ix3 b r d)
      = mixer (inX m c b) (inG m c) (inW m c) (inNg m c) r d := by
  rw [Value.final8]
  have hpt : Value.pt8Of (ix3 b r d : S32x2048x512.Idx) = 4 * b.val + r.val / 512 := by
    show 4 * (b.val / 1 - 0) + 1 * (r.val / 512 - 0) + 1 * (d.val / 512 - 0) = _
    omega
  have hlt : 4 * b.val + r.val / 512 < cfg0.N := lt_of_lt_of_eq (by omega) N_0.symm
  unfold Value.G8
  rw [dif_pos (by rw [hpt]; exact hlt), Value.fold0_congr m c _ _ _ (by omega) hpt,
    ← Value.outsAt0_sweep m c (4 * b.val + r.val / 512) hlt]
  have hloc : Value.loc8Of (ix3 b r d : S32x2048x512.Idx)
      = ix3 0 (row ⟨r.val % 512 / 64, by omega⟩ ⟨r.val % 64, by omega⟩)
          (hcol ⟨d.val / 128, by omega⟩ ⟨d.val % 128, by omega⟩) := by
    funext a
    apply Fin.ext
    match a with
    | ⟨0, _⟩ => show b.val % 1 = 0; omega
    | ⟨1, _⟩ => show r.val % 512 = 64 * (r.val % 512 / 64) + r.val % 64; omega
    | ⟨2, _⟩ => show d.val % 512 = 128 * (d.val / 128) + d.val % 128; omega
  rw [hloc]
  refine (block_after m c ⟨_, hlt⟩ _ _ _ _).trans ?_
  have hs : seqOf ⟨4 * b.val + r.val / 512, hlt⟩ = b :=
    Fin.ext (by show (4 * b.val + r.val / 512) / 4 = b.val; omega)
  have hk : 8 * ((4 * b.val + r.val / 512) % 4) + r.val % 512 / 64 = r.val / 64 := by omega
  rw [hs]
  simp only [hk]
  rfl

end Cert.Kernel3Ideal.Ret
-- ==== Proof.RetRefTerms.lean ====
module

public import proofs.«01_k».proof.Proof.Gen.Reference3Ideal.Run
public import Idealize.ShloMosaic.PureOps.Ideal
public import Idealize.ShloMosaic.Lib.Pointwise

/-! # The retention reference's arrays, stage by stage

Each array the reference computes, written as a function of the arrays it is computed from, and the
statement that the program's buffer holds it. -/

@[expose] public section

set_option maxRecDepth 16384

noncomputable section

namespace Cert.Reference3Ideal.Ret

open Cert.Reference3Ideal Cert.Reference3Ideal.Gen Idealize.ShloMosaic Idealize.ShloMosaic.TcCoe
  Idealize.SL.Sem Idealize.ShloMosaic.StableHlo
open Cert.Reference3Ideal.Value (preI bodyI postI condOps)

/-- The projected rows. -/
def projT (x : FVec Ideal S32x2048x1024 .f32) (g : FVec Ideal S1024 .f32)
    (w : FVec Ideal S1024x1536 .f32) : FVec Ideal S32x2048x1536 .f32 :=
  Host.dotGeneral dot_S32x2048x1024_S1024x1536_S32x2048x1536_2_0_01_1_n_n none
    (mulf
      (mulf x
        (broadcastInDim S32x2048x1024 ![0, 1, 2] bcast_S32x2048x1_S32x2048x1024_0_1_2
          (Host.rsqrt
            (addf
              (Host.divf
                (broadcastInDim S32x2048x1 ![0, 1] bcast_S32x2048_S32x2048x1_0_1
                  (Host.reduceAdd (mulf x x) (constant S_ FTy.f32 0x00000000#32)
                    reducesTo_S32x2048x1024_S32x2048_d2 h_S_))
                (broadcastInDim S32x2048x1 ![] bcast_S_S32x2048x1 (constant S_ FTy.f32 0x44800000#32)))
              (broadcastInDim S32x2048x1 ![] bcast_S_S32x2048x1 (constant S_ FTy.f32 0x358637BD#32))))))
      (broadcastInDim S32x2048x1024 ![0, 1, 2] bcast_S1x1x1024_S32x2048x1024_0_1_2
        (broadcastInDim S1x1x1024 ![2] bcast_S1024_S1x1x1024_2 g)))
    w

/-- The logarithms of the heads' decays. -/
def logT : FVec Ideal S4 .f32 :=
  Host.log1p (F := Ideal) (Host.negf (F := Ideal) (Host.exp (F := Ideal)
    (mulf (F := Ideal) (broadcastInDim S4 ![] bcast_S_S4 (constant S_ FTy.f32 0x3F317218#32))
      (subf (F := Ideal) (broadcastInDim S4 ![] bcast_S_S4 (constant S_ FTy.f32 0xC0A00000#32))
        (sitofp FTy.f32 (iotaInDim S4 32 0))))))

/-- The tokens' numbers. -/
def tokT : FVec Ideal S64 .f32 := sitofp FTy.f32 (iotaInDim S64 32 0)

/-- Narrow rows, one per token, as chunks, head by head. -/
def narrow (u : FVec Ideal S32x2048x256 .f32) : FVec Ideal S32x4x32x64x64 .f32 :=
  transpose S32x4x32x64x64 [0, 3, 1, 2, 4] (shapeCast S32x32x64x4x64 u shapeCasts_S32x2048x256_S32x32x64x4x64)
    transposes_S32x32x64x4x64_S32x4x32x64x64_0_3_1_2_4

/-- The scaled queries. -/
def queryT (p : FVec Ideal S32x2048x1536 .f32) : FVec Ideal S32x4x32x64x64 .f32 :=
  mulf (narrow (extractStridedSlice S32x2048x256 ![0, 0, 0] p slices_S32x2048x1536_S32x2048x256_0_0_0))
    (broadcastInDim S32x4x32x64x64 ![] bcast_S_S32x4x32x64x64 (constant S_ FTy.f32 0x3E000000#32))

/-- The keys. -/
def keyT (p : FVec Ideal S32x2048x1536 .f32) : FVec Ideal S32x4x32x64x64 .f32 :=
  narrow (extractStridedSlice S32x2048x256 ![0, 0, 256] p slices_S32x2048x1536_S32x2048x256_0_0_256)

/-- The values. -/
def valueT (p : FVec Ideal S32x2048x1536 .f32) : FVec Ideal S32x4x32x64x128 .f32 :=
  transpose S32x4x32x64x128 [0, 3, 1, 2, 4]
    (shapeCast S32x32x64x4x128
      (extractStridedSlice S32x2048x512 ![0, 0, 512] p slices_S32x2048x1536_S32x2048x512_0_0_512)
      shapeCasts_S32x2048x512_S32x32x64x4x128)
    transposes_S32x32x64x4x128_S32x4x32x64x128_0_3_1_2_4

/-- The gates. -/
def gateT (p : FVec Ideal S32x2048x1536 .f32) : FVec Ideal S32x2048x512 .f32 :=
  extractStridedSlice S32x2048x512 ![0, 0, 1024] p slices_S32x2048x1536_S32x2048x512_0_0_1024

/-- How far each token lies after another. -/
def relT : FVec Ideal S64x64 .f32 :=
  subf (F := Ideal)
    (broadcastInDim S64x64 ![0, 1] bcast_S64x1_S64x64_0_1 (broadcastInDim S64x1 ![0] bcast_S64_S64x1_0 tokT))
    (broadcastInDim S64x64 ![0, 1] bcast_S1x64_S64x64_0_1 (broadcastInDim S1x64 ![1] bcast_S64_S1x64_1 tokT))

/-- The decays between the tokens of a chunk. -/
def withinT : FVec Ideal S4x64x64 .f32 :=
  select (broadcastInDim S4x64x64 ![1, 2] bcast_S64x64_S4x64x64_1_2
      (cmpf (F := Ideal) .oge relT
        (broadcastInDim S64x64 ![] bcast_S_S64x64 (constant S_ FTy.f32 0x00000000#32))))
    (Host.exp (F := Ideal) (mulf (F := Ideal)
      (broadcastInDim S4x64x64 ![0, 1, 2] bcast_S4x1x1_S4x64x64_0_1_2
        (broadcastInDim S4x1x1 ![0] bcast_S4_S4x1x1_0 logT))
      (broadcastInDim S4x64x64 ![0, 1, 2] bcast_S1x64x64_S4x64x64_0_1_2
        (broadcastInDim S1x64x64 ![1, 2] bcast_S64x64_S1x64x64_1_2
          (maximumf (F := Ideal) relT
            (broadcastInDim S64x64 ![] bcast_S_S64x64 (constant S_ FTy.f32 0x00000000#32)))))))
    (broadcastInDim S4x64x64 ![] bcast_S_S4x64x64 (constant S_ FTy.f32 0x00000000#32))

/-- The decays of the heads at the numbers `n`. -/
def headsT (l : FVec Ideal S4 .f32) (n : FVec Ideal S64 .f32) : FVec Ideal S4x64 .f32 :=
  Host.exp (F := Ideal) (mulf (F := Ideal)
    (broadcastInDim S4x64 ![0, 1] bcast_S4x1_S4x64_0_1 (broadcastInDim S4x1 ![0] bcast_S4_S4x1_0 l))
    (broadcastInDim S4x64 ![0, 1] bcast_S1x64_S4x64_0_1 (broadcastInDim S1x64 ![1] bcast_S64_S1x64_1 n)))

/-- The scores of the chunks, decayed. -/
def scoreT (q k : FVec Ideal S32x4x32x64x64 .f32) : FVec Ideal S32x4x32x64x64 .f32 :=
  mulf (Host.dotGeneral dot_S32x4x32x64x64_S32x4x32x64x64_S32x4x32x64x64_4_4_3_3_012_012 none q k)
    (broadcastInDim S32x4x32x64x64 ![0, 1, 2, 3, 4] bcast_S1x4x1x64x64_S32x4x32x64x64_0_1_2_3_4
      (broadcastInDim S1x4x1x64x64 ![1, 3, 4] bcast_S4x64x64_S1x4x1x64x64_1_3_4 withinT))

/-- What each chunk's own rows give. -/
def ownT (q k : FVec Ideal S32x4x32x64x64 .f32) (v : FVec Ideal S32x4x32x64x128 .f32) :
    FVec Ideal S32x4x32x64x128 .f32 :=
  Host.dotGeneral dot_S32x4x32x64x64_S32x4x32x64x128_S32x4x32x64x128_4_3_3_4_012_012 none
    (scoreT q k) v

/-- What each chunk adds to the state, with the chunks first. -/
def updateT (k : FVec Ideal S32x4x32x64x64 .f32) (v : FVec Ideal S32x4x32x64x128 .f32) :
    FVec Ideal S32x32x4x64x128 .f32 :=
  transpose S32x32x4x64x128 [2, 0, 1, 3, 4]
    (Host.dotGeneral dot_S32x4x32x64x64_S32x4x32x64x128_S32x4x32x64x128_3_3_4_4_012_012 none
      (mulf k
        (broadcastInDim S32x4x32x64x64 ![0, 1, 2, 3, 4] bcast_S1x4x1x64x1_S32x4x32x64x64_0_1_2_3_4
          (broadcastInDim S1x4x1x64x1 ![1, 3] bcast_S4x64_S1x4x1x64x1_1_3
            (headsT logT (subf (F := Ideal)
              (broadcastInDim S64 ![] bcast_S_S64 (constant S_ FTy.f32 0x427C0000#32)) tokT)))))
      v)
    transposes_S32x4x32x64x128_S32x32x4x64x128_2_0_1_3_4

/-- How much of the state each chunk keeps, with the chunks first. -/
def decayT : FVec Ideal S32x32x4x64 .f32 :=
  transpose S32x32x4x64 [2, 0, 1, 3]
    (broadcastInDim S32x4x32x64 ![0, 1, 2, 3] bcast_S1x4x1x1_S32x4x32x64_0_1_2_3
      (broadcastInDim S1x4x1x1 ![1] bcast_S4_S1x4x1x1_1
        (Host.exp (F := Ideal) (mulf (F := Ideal) logT
          (broadcastInDim S4 ![] bcast_S_S4 (constant S_ FTy.f32 0x42800000#32))))))
    transposes_S32x4x32x64_S32x32x4x64_2_0_1_3

/-- The zero state. -/
def zeroT : FVec Ideal S32x4x64x128 .f32 :=
  broadcastInDim S32x4x64x128 ![] bcast_S_S32x4x64x128 (constant S_ FTy.f32 0x00000000#32)

variable (V : Valuation τ sig (Elt Ideal))

/-- The projected rows, of the contents before the program. -/
abbrev projV : FVec Ideal S32x2048x1536 .f32 :=
  projT (V (Proc.devRef .tc main_arg0)) (V (Proc.devRef .tc main_arg1)) (V (Proc.devRef .tc main_arg2))

set_option maxHeartbeats 4000000 in
theorem first_query : afterL preI V (Proc.devRef .tc main_v30) = queryT (projV V) := by
  simp only [preI, afterL_cons, afterL_nil]; after_results_simp; rfl
set_option maxHeartbeats 4000000 in
theorem first_own : afterL preI V (Proc.devRef .tc main_v55)
    = ownT (queryT (projV V)) (keyT (projV V)) (valueT (projV V)) := by
  simp only [preI, afterL_cons, afterL_nil]; after_results_simp; rfl
set_option maxHeartbeats 4000000 in
theorem first_update : afterL preI V (Proc.devRef .tc main_v77_1)
    = updateT (keyT (projV V)) (valueT (projV V)) := by
  simp only [preI, afterL_cons, afterL_nil]; after_results_simp; rfl
set_option maxHeartbeats 4000000 in
theorem first_decay : afterL preI V (Proc.devRef .tc main_v77_0) = decayT := by
  simp only [preI, afterL_cons, afterL_nil]; after_results_simp; rfl
set_option maxHeartbeats 4000000 in
theorem first_state : afterL preI V (Proc.devRef .tc main_v77_3) = zeroT := by
  simp only [preI, afterL_cons, afterL_nil]; after_results_simp; rfl
set_option maxHeartbeats 4000000 in
theorem first_gate : afterL preI V (Proc.devRef .tc main_v17) = gateT (projV V) := by
  simp only [preI, afterL_cons, afterL_nil]; after_results_simp; rfl
set_option maxHeartbeats 4000000 in
theorem first_log : afterL preI V (Proc.devRef .tc main_v26) = logT := by
  simp only [preI, afterL_cons, afterL_nil]; after_results_simp; rfl
set_option maxHeartbeats 4000000 in
theorem first_tok : afterL preI V (Proc.devRef .tc main_v18) = tokT := by
  simp only [preI, afterL_cons, afterL_nil]; after_results_simp; rfl

end Cert.Reference3Ideal.Ret
-- ==== Proof.RetRefEntry.lean ====
module

public import proofs.«01_k».proof.Proof.RetRefTerms
public import proofs.«01_k».proof.Proof.RetWord
public import Idealize.ShloMosaic.Lib.Pipeline.ValueKit

/-! # The retention reference's arrays at an entry

Each array of the reference before its loop, at chunk `n`, head `h`, row `t` and column `d`. -/

@[expose] public section

set_option maxRecDepth 16384

noncomputable section

namespace Cert.Reference3Ideal.Ret

open Cert.Reference3Ideal Cert.Reference3Ideal.Gen Idealize.ShloMosaic Idealize.ShloMosaic.TcCoe
  Idealize.SL.Sem Cert.Ret

/-- The projected rows at a row and a column. -/
theorem proj_at (x : FVec Ideal S32x2048x1024 .f32) (g : FVec Ideal S1024 .f32)
    (w : FVec Ideal S1024x1536 .f32) (b : Fin 32) (r : Fin 2048) (k : Fin 1536) :
    projT x g w (ix3 b r k)
      = project (fun j => x (ix3 b r j)) (fun j => g (ix1 j)) (fun j n => w (ix2 j n)) k := by
  pointwise [projT, dot_S32x2048x1024_S1024x1536_S32x2048x1536_2_0_01_1_n_n]
  rfl

/-! ## The decays -/

theorem log_at (h : Fin 4) : logT (ix1 h) = logDecay h := by
  pointwise [logT, logDecay]
  rw [word_num h.val (by omega)]

theorem tok_at (t : Fin 64) : tokT (ix1 t) = num t.val := by
  pointwise [tokT]
  rw [word_num t.val (by omega)]

theorem rel_at (t s : Fin 64) : relT (ix2 t s) = num t.val - num s.val := by
  pointwise [relT]
  rw [tok_at, tok_at]

theorem within_at (h : Fin 4) (t s : Fin 64) : withinT (ix3 h t s) = within h t s := by
  pointwise [withinT]
  rw [rel_at, log_at]
  unfold within
  by_cases hs : s ≤ t
  · rw [if_pos hs, if_pos ((num_sub_nonneg t.val s.val).2 hs)]
  · rw [if_neg hs, if_neg (fun h => hs ((num_sub_nonneg t.val s.val).1 h))]

theorem heads_at (n : FVec Ideal S64 .f32) (h : Fin 4) (t : Fin 64) :
    headsT logT n (ix2 h t) = Ideal.exp (logDecay h * n (ix1 t)) := by
  pointwise [headsT]
  rw [log_at]

/-! ## The chunks -/

section Chunk

variable (p : FVec Ideal S32x2048x1536 .f32)

/-- Chunk `n` of sequence `b`. -/
def chunkOf (b n : Fin 32) : Chunk := fun t k => p (ix3 b ⟨64 * n.val + t.val, by omega⟩ k)

theorem query_at (b : Fin 32) (h : Fin 4) (n : Fin 32) (t e : Fin 64) :
    queryT p (ix5 b h n t e) = query (chunkOf p b n) h t e := by
  pointwise [queryT, narrow, query]
  exact congrArg (· * _) (congrArg p (congrArg₂ (ix3 b)
    (Fin.ext (by show n.val * 64 + t.val = 64 * n.val + t.val; omega))
    (Fin.ext (by simp [qcol]; omega))))

theorem key_at (b : Fin 32) (h : Fin 4) (n : Fin 32) (t e : Fin 64) :
    keyT p (ix5 b h n t e) = chunkOf p b n t (kcol h e) := by
  pointwise [keyT, narrow]
  exact congrArg p (congrArg₂ (ix3 b) (Fin.ext (by show n.val * 64 + t.val = 64 * n.val + t.val; omega))
    (Fin.ext (by simp [kcol]; omega)))

theorem value_at (b : Fin 32) (h : Fin 4) (n : Fin 32) (t : Fin 64) (d : Fin 128) :
    valueT p (ix5 b h n t d) = chunkOf p b n t (vcol h d) := by
  pointwise [valueT]
  exact congrArg p (congrArg₂ (ix3 b) (Fin.ext (by show n.val * 64 + t.val = 64 * n.val + t.val; omega))
    (Fin.ext (by simp [vcol]; omega)))

end Chunk

variable (q k : FVec Ideal S32x4x32x64x64 .f32) (v : FVec Ideal S32x4x32x64x128 .f32)

theorem score_at (b : Fin 32) (h : Fin 4) (n : Fin 32) (t s : Fin 64) :
    scoreT q k (ix5 b h n t s)
      = (∑ e : Fin 64, q (ix5 b h n t e) * k (ix5 b h n s e)) * within h t s := by
  pointwise [scoreT, dot_S32x4x32x64x64_S32x4x32x64x64_S32x4x32x64x64_4_4_3_3_012_012]
  rw [within_at]

theorem own_at (b : Fin 32) (h : Fin 4) (n : Fin 32) (t : Fin 64) (d : Fin 128) :
    ownT q k v (ix5 b h n t d) = ∑ s : Fin 64, scoreT q k (ix5 b h n t s) * v (ix5 b h n s d) := by
  pointwise [ownT, dot_S32x4x32x64x64_S32x4x32x64x128_S32x4x32x64x128_4_3_3_4_012_012]

theorem update_at (b : Fin 32) (h : Fin 4) (n : Fin 32) (e : Fin 64) (d : Fin 128) :
    updateT k v (ix5 n b h e d)
      = ∑ s : Fin 64, k (ix5 b h n s e) * toEnd h s * v (ix5 b h n s d) := by
  pointwise [updateT, dot_S32x4x32x64x64_S32x4x32x64x128_S32x4x32x64x128_3_3_4_4_012_012]
  refine Finset.sum_congr rfl fun s _ => ?_
  rw [heads_at]
  pointwise [toEnd]
  rw [tok_at]

theorem decay_at (b : Fin 32) (h : Fin 4) (n : Fin 32) (e : Fin 64) :
    decayT (ix4 n b h e) = whole h := by
  pointwise [decayT, whole]
  rw [log_at]

theorem zero_at (b : Fin 32) (h : Fin 4) (e : Fin 64) (d : Fin 128) :
    zeroT (ix4 b h e d) = (0 : EReal) := by
  pointwise [zeroT]

end Cert.Reference3Ideal.Ret
-- ==== Proof.RetRefLoop.lean ====
module

public import proofs.«01_k».proof.Proof.RetRefTerms
public import Idealize.ShloMosaic.Lib.DynamicIndex
public import Idealize.ShloMosaic.Lib.Pipeline.Value

/-! # The retention reference's loop over the chunks

The state after some of the loop's steps, at an entry, and the states kept on the way. -/

@[expose] public section

set_option maxRecDepth 16384

noncomputable section

namespace Cert.Reference3Ideal.Ret

open Cert.Reference3Ideal Cert.Reference3Ideal.Gen Idealize.ShloMosaic Idealize.ShloMosaic.TcCoe
  Idealize.SL.Sem Idealize.ShloMosaic.StableHlo
open Cert.Reference3Ideal.Value (STEP step_main_v77_3 step_main_v77_4 step_main_v77_2)

/-- The word of a number below 32, read back signed. -/
theorem word_toInt (k : Fin 32) : (BitVec.ofNat 32 k.val).toInt = (k.val : ℤ) := by
  revert k; decide

/-- The next state, from the decays, the state, the updates and the two places read. -/
def nextT (D : FVec Ideal S32x32x4x64 .f32) (S : FVec Ideal S32x4x64x128 .f32)
    (U : FVec Ideal S32x32x4x64x128 .f32) (s4 : Fin 4 → ℤ) (s5 : Fin 5 → ℤ) :
    FVec Ideal S32x4x64x128 .f32 :=
  addf
    (mulf
      (broadcastInDim S32x4x64x128 ![0, 1, 2, 3] bcast_S32x4x64x1_S32x4x64x128_0_1_2_3
        (broadcastInDim S32x4x64x1 ![0, 1, 2] bcast_S32x4x64_S32x4x64x1_0_1_2
          (shapeCast S32x4x64 (Host.dynamicSlice S1x32x4x64 D s4 sliceFits_S32x32x4x64_S1x32x4x64)
            shapeCasts_S1x32x4x64_S32x4x64)))
      S)
    (shapeCast S32x4x64x128
      (Host.dynamicSlice S1x32x4x64x128 U s5 sliceFits_S32x32x4x64x128_S1x32x4x64x128)
      shapeCasts_S1x32x4x64x128_S32x4x64x128)

/-- The states kept, after one more is written. -/
def keepT (K : FVec Ideal S32x32x4x64x128 .f32) (S : FVec Ideal S32x4x64x128 .f32) (s5 : Fin 5 → ℤ) :
    FVec Ideal S32x32x4x64x128 .f32 :=
  Host.dynamicUpdateSlice K
    (broadcastInDim S1x32x4x64x128 ![1, 2, 3, 4] bcast_S32x4x64x128_S1x32x4x64x128_1_2_3_4 S) s5
    updateFits_S32x32x4x64x128_S1x32x4x64x128

/-- A block of one chunk at chunk `k` lies in the array. -/
theorem fits4 (k : Fin 32) : S32x32x4x64.Slices ![k.val, 0, 0, 0] S1x32x4x64 := by
  revert k; decide
/-- The same for the arrays of five axes. -/
theorem fits5 (k : Fin 32) : S32x32x4x64x128.Slices ![k.val, 0, 0, 0, 0] S1x32x4x64x128 := by
  revert k; decide

/-- The next state at an entry. -/
theorem next_at (D : FVec Ideal S32x32x4x64 .f32) (S : FVec Ideal S32x4x64x128 .f32)
    (U : FVec Ideal S32x32x4x64x128 .f32) (k : Fin 32)
    (s4 : Fin 4 → ℤ) (h4 : ∀ a, s4 a = ((![k.val, 0, 0, 0] : Fin 4 → ℕ) a : ℤ))
    (s5 : Fin 5 → ℤ) (h5 : ∀ a, s5 a = ((![k.val, 0, 0, 0, 0] : Fin 5 → ℕ) a : ℤ))
    (b : Fin 32) (h : Fin 4) (p : Fin 64) (q : Fin 128) :
    nextT D S U s4 s5 (ix4 b h p q)
      = D (ix4 k b h p) * S (ix4 b h p q) + U (ix5 k b h p q) := by
  unfold nextT
  rw [Host.dynamicSlice_eq_extractStridedSlice S1x32x4x64 D s4 ![k.val, 0, 0, 0] _ (fits4 k) h4,
    Host.dynamicSlice_eq_extractStridedSlice S1x32x4x64x128 U s5 ![k.val, 0, 0, 0, 0] _ (fits5 k) h5]
  pointwise

/-- The states kept, at an entry. -/
theorem keep_at (K : FVec Ideal S32x32x4x64x128 .f32) (S : FVec Ideal S32x4x64x128 .f32) (k : Fin 32)
    (s5 : Fin 5 → ℤ) (h5 : ∀ a, s5 a = ((![k.val, 0, 0, 0, 0] : Fin 5 → ℕ) a : ℤ))
    (j b : Fin 32) (h : Fin 4) (p : Fin 64) (q : Fin 128) :
    keepT K S s5 (ix5 j b h p q) = if j = k then S (ix4 b h p q) else K (ix5 j b h p q) := by
  unfold keepT
  rw [Host.dynamicUpdateSlice_eq_updateSlice K _ s5 _ ![k.val, 0, 0, 0, 0]
    (fun a => by
      have hb := (fits5 k).2 a
      rw [h5 a]
      omega) (fits5 k)]
  pointwise
  by_cases e : j = k
  · rw [if_pos e, dif_pos (by rw [e]; omega)]
  · rw [if_neg e, dif_neg (fun hk => e (Fin.ext (by omega)))]

/-- The places that a counter's word picks on the first of four axes. -/
theorem places4 (w : IVec S_ 32) (k : Fin 32) (hw : w = fun _ => BitVec.ofNat 32 k.val) (a : Fin 4) :
    ((![w, constantI S_ 32 0#32, constantI S_ 32 0#32, constantI S_ 32 0#32] : Fin 4 → IVec S_ 32) a
      (Shape.Idx.first h_S_)).toInt = ((![k.val, 0, 0, 0] : Fin 4 → ℕ) a : ℤ) := by
  subst hw
  match a with
  | ⟨0, _⟩ => exact word_toInt k
  | ⟨1, _⟩ => rfl
  | ⟨2, _⟩ => rfl
  | ⟨3, _⟩ => rfl
/-- The places that a counter's word picks on the first of five axes. -/
theorem places5 (w : IVec S_ 32) (k : Fin 32) (hw : w = fun _ => BitVec.ofNat 32 k.val) (a : Fin 5) :
    ((![w, constantI S_ 32 0#32, constantI S_ 32 0#32, constantI S_ 32 0#32, constantI S_ 32 0#32] :
      Fin 5 → IVec S_ 32) a (Shape.Idx.first h_S_)).toInt = ((![k.val, 0, 0, 0, 0] : Fin 5 → ℕ) a : ℤ) := by
  subst hw
  match a with
  | ⟨0, _⟩ => exact word_toInt k
  | ⟨1, _⟩ => rfl
  | ⟨2, _⟩ => rfl
  | ⟨3, _⟩ => rfl
  | ⟨4, _⟩ => rfl

variable (V : Valuation τ sig (Elt Ideal))

/-- The decays, as the loop reads them. -/
abbrev decayV : FVec Ideal S32x32x4x64 .f32 := V (Proc.devRef .tc main_v77_0)
/-- The updates, as the loop reads them. -/
abbrev updateV : FVec Ideal S32x32x4x64x128 .f32 := V (Proc.devRef .tc main_v77_1)
/-- The counter. -/
abbrev countV : IVec S_ 32 := V (Proc.devRef .tc main_v77_2)
/-- The state. -/
abbrev stateV : FVec Ideal S32x4x64x128 .f32 := V (Proc.devRef .tc main_v77_3)
/-- The states kept. -/
abbrev keptV : FVec Ideal S32x32x4x64x128 .f32 := V (Proc.devRef .tc main_v77_4)

/-- One step's new state at an entry: the old one decayed, plus the chunk's update. -/
theorem step_state (k : Fin 32) (hc : countV V = fun _ => BitVec.ofNat 32 k.val)
    (b : Fin 32) (h : Fin 4) (p : Fin 64) (q : Fin 128) :
    (step_main_v77_3 V : FVec Ideal S32x4x64x128 .f32) (ix4 b h p q)
      = decayV V (ix4 k b h p) * stateV V (ix4 b h p q) + updateV V (ix5 k b h p q) := by
  exact next_at (decayV V) (stateV V) (updateV V) k _ (places4 (countV V) k hc) _
    (places5 (countV V) k hc) b h p q

/-- One step's kept states at an entry: at the step's own place the state before it, elsewhere as before. -/
theorem step_kept (k : Fin 32) (hc : countV V = fun _ => BitVec.ofNat 32 k.val)
    (j : Fin 32) (b : Fin 32) (h : Fin 4) (p : Fin 64) (q : Fin 128) :
    (step_main_v77_4 V : FVec Ideal S32x32x4x64x128 .f32) (ix5 j b h p q)
      = if j = k then stateV V (ix4 b h p q) else keptV V (ix5 j b h p q) := by
  exact keep_at (keptV V) (stateV V) k _ (places5 (countV V) k hc) j b h p q

/-- The contents after `n` steps. -/
abbrev after_steps (n : ℕ) : Valuation τ sig (Elt Ideal) := STEP^[n] V

/-- A step more. -/
theorem steps_succ (n : ℕ) : after_steps V (n + 1) = STEP (after_steps V n) :=
  Function.iterate_succ_apply' STEP n V

theorem steps_decay (n : ℕ) : decayV (after_steps V n) = decayV V := by
  induction n with
  | zero => rfl
  | succ n ih => rw [steps_succ]; exact (Value.STEP_main_v77_0 _).trans ih

theorem steps_update (n : ℕ) : updateV (after_steps V n) = updateV V := by
  induction n with
  | zero => rfl
  | succ n ih => rw [steps_succ]; exact (Value.STEP_main_v77_1 _).trans ih

theorem steps_count (h0 : countV V = fun _ => 0#32) (n : ℕ) :
    countV (after_steps V n) = fun _ => BitVec.ofNat 32 n := by
  induction n with
  | zero => exact h0
  | succ n ih =>
    rw [steps_succ]
    refine (Value.STEP_main_v77_2 _).trans ?_
    show (fun i => countV (after_steps V n) i + 1#32) = _
    rw [ih]
    funext _
    exact (BitVec.ofNat_add n 1).symm

/-- The state after `n` steps at an entry, as a recursion over the steps. -/
def stateRec (b : Fin 32) (h : Fin 4) (p : Fin 64) (q : Fin 128) : ℕ → EReal
  | 0 => stateV V (ix4 b h p q)
  | n + 1 => decayV V (ix4 (Fin.ofNat 32 n) b h p) * stateRec b h p q n + updateV V (ix5 (Fin.ofNat 32 n) b h p q)

theorem steps_state (h0 : countV V = fun _ => 0#32) (b : Fin 32) (h : Fin 4) (p : Fin 64) (q : Fin 128) (n : ℕ)
    (hn : n ≤ 32) : stateV (after_steps V n) (ix4 b h p q) = stateRec V b h p q n := by
  induction n with
  | zero => rfl
  | succ n ih =>
    rw [steps_succ]
    have hc : countV (after_steps V n) = fun _ => BitVec.ofNat 32 (Fin.ofNat 32 n).val := by
      rw [steps_count V h0, show (Fin.ofNat 32 n).val = n from Nat.mod_eq_of_lt (by omega)]
    refine (congrFun (Value.STEP_main_v77_3 _) _).trans ((step_state _ (Fin.ofNat 32 n) hc b h p q).trans ?_)
    rw [steps_decay, steps_update, ih (by omega)]
    rfl

/-- The states kept: entry `j` is the state before step `j`. -/
theorem steps_kept (h0 : countV V = fun _ => 0#32) (j b : Fin 32) (h : Fin 4) (p : Fin 64) (q : Fin 128) (n : ℕ)
    (hn : n ≤ 32) (hj : j.val < n) : keptV (after_steps V n) (ix5 j b h p q) = stateRec V b h p q j.val := by
  induction n with
  | zero => omega
  | succ n ih =>
    rw [steps_succ]
    have hm : (Fin.ofNat 32 n).val = n := Nat.mod_eq_of_lt (by omega)
    have hc : countV (after_steps V n) = fun _ => BitVec.ofNat 32 (Fin.ofNat 32 n).val := by
      rw [steps_count V h0, hm]
    refine (congrFun (Value.STEP_main_v77_4 _) _).trans ((step_kept _ (Fin.ofNat 32 n) hc j b h p q).trans ?_)
    by_cases e : j = Fin.ofNat 32 n
    · rw [if_pos e, steps_state V h0 b h p q n (by omega), e, hm]
    · rw [if_neg e]
      exact ih (by omega) (by
        have : j.val ≠ n := fun e' => e (Fin.ext (e'.trans hm.symm))
        omega)

end Cert.Reference3Ideal.Ret
-- ==== Proof.RetRefResult.lean ====
module

public import proofs.«01_k».proof.Proof.RetRefEntry
public import proofs.«01_k».proof.Proof.RetRefLoop

/-! # What the retention reference's result holds

The operations after the loop, and their result at an entry. -/

@[expose] public section

set_option maxRecDepth 16384

noncomputable section

namespace Cert.Reference3Ideal.Ret

open Cert.Reference3Ideal Cert.Reference3Ideal.Gen Idealize.ShloMosaic Idealize.ShloMosaic.TcCoe
  Idealize.SL.Sem Idealize.ShloMosaic.StableHlo Cert.Ret
open Cert.Reference3Ideal.Value (preI bodyI postI condOps STEP atK)

/-- The mixed values: each chunk's own plus what its queries take from the state. -/
def mixT (o : FVec Ideal S32x4x32x64x128 .f32) (q : FVec Ideal S32x4x32x64x64 .f32)
    (K : FVec Ideal S32x32x4x64x128 .f32) (l : FVec Ideal S4 .f32) (n : FVec Ideal S64 .f32) :
    FVec Ideal S32x4x32x64x128 .f32 :=
  addf o
    (mulf
      (Host.dotGeneral dot_S32x4x32x64x64_S32x4x32x64x128_S32x4x32x64x128_4_3_3_4_012_012 none q
        (transpose S32x4x32x64x128 [1, 2, 0, 3, 4] K transposes_S32x32x4x64x128_S32x4x32x64x128_1_2_0_3_4))
      (broadcastInDim S32x4x32x64x128 ![0, 1, 2, 3, 4] bcast_S1x4x1x64x1_S32x4x32x64x128_0_1_2_3_4
        (broadcastInDim S1x4x1x64x1 ![1, 3] bcast_S4x64_S1x4x1x64x1_1_3
          (headsT l (addf (F := Ideal) n
            (broadcastInDim S64 ![] bcast_S_S64 (constant S_ FTy.f32 0x3F800000#32)))))))

/-- The mixed values, one row per token. -/
def tokensT (o : FVec Ideal S32x4x32x64x128 .f32) : FVec Ideal S32x2048x4x128 .f32 :=
  shapeCast S32x2048x4x128
    (transpose S32x32x64x4x128 [0, 2, 3, 1, 4] o transposes_S32x4x32x64x128_S32x32x64x4x128_0_2_3_1_4)
    shapeCasts_S32x32x64x4x128_S32x2048x4x128

/-- The mean of each head's row. -/
def meanT (o : FVec Ideal S32x2048x4x128 .f32) : FVec Ideal S32x2048x4x1 .f32 :=
  Host.divf
    (broadcastInDim S32x2048x4x1 ![0, 1, 2] bcast_S32x2048x4_S32x2048x4x1_0_1_2
      (Host.reduceAdd o (constant S_ FTy.f32 0x00000000#32) reducesTo_S32x2048x4x128_S32x2048x4_d3 h_S_))
    (broadcastInDim S32x2048x4x1 ![] bcast_S_S32x2048x4x1 (constant S_ FTy.f32 0x43000000#32))

/-- Each head's row without its mean. -/
def centredT (o : FVec Ideal S32x2048x4x128 .f32) : FVec Ideal S32x2048x4x128 .f32 :=
  subf o (broadcastInDim S32x2048x4x128 ![0, 1, 2, 3] bcast_S32x2048x4x1_S32x2048x4x128_0_1_2_3 (meanT o))

/-- The heads' norm. -/
def normT (o : FVec Ideal S32x2048x4x128 .f32) : FVec Ideal S32x2048x4x128 .f32 :=
  mulf (centredT o)
    (broadcastInDim S32x2048x4x128 ![0, 1, 2, 3] bcast_S32x2048x4x1_S32x2048x4x128_0_1_2_3
      (Host.rsqrt
        (addf (meanT (mulf (centredT o) (centredT o)))
          (broadcastInDim S32x2048x4x1 ![] bcast_S_S32x2048x4x1 (constant S_ FTy.f32 0x358637BD#32)))))

/-- The logistic function. -/
def sigT (v : FVec Ideal S32x2048x512 .f32) : FVec Ideal S32x2048x512 .f32 :=
  Host.divf (broadcastInDim S32x2048x512 ![] bcast_S_S32x2048x512 (constant S_ FTy.f32 0x3F800000#32))
    (addf (broadcastInDim S32x2048x512 ![] bcast_S_S32x2048x512 (constant S_ FTy.f32 0x3F800000#32))
      (Host.exp (Host.negf v)))

/-- The result: the norm, its weight and the gate. -/
def resultT (o : FVec Ideal S32x2048x4x128 .f32) (ng : FVec Ideal S512 .f32)
    (z : FVec Ideal S32x2048x512 .f32) : FVec Ideal S32x2048x512 .bf16 :=
  truncf .bf16
    (mulf
      (shapeCast S32x2048x512
        (mulf (normT o)
          (broadcastInDim S32x2048x4x128 ![0, 1, 2, 3] bcast_S1x1x4x128_S32x2048x4x128_0_1_2_3
            (broadcastInDim S1x1x4x128 ![2, 3] bcast_S4x128_S1x1x4x128_2_3
              (shapeCast S4x128 ng shapeCasts_S512_S4x128))))
        shapeCasts_S32x2048x4x128_S32x2048x512)
      (mulf z (sigT z)))
    bitsLt_bf16_f32

set_option maxHeartbeats 4000000 in
/-- The result's buffer, of the contents after the loop. -/
theorem third_result (V : Valuation τ sig (Elt Ideal)) :
    afterL postI V (Proc.devRef .tc main_v117)
      = resultT (tokensT (mixT (V (Proc.devRef .tc main_v55)) (V (Proc.devRef .tc main_v30))
          (V (Proc.devRef .tc main_v77_4)) (V (Proc.devRef .tc main_v26)) (V (Proc.devRef .tc main_v18))))
          (V (Proc.devRef .tc main_arg3)) (V (Proc.devRef .tc main_v17)) := by
  simp only [postI, afterL_cons, afterL_nil]; after_results_simp; rfl

theorem mix_at (o : FVec Ideal S32x4x32x64x128 .f32) (q : FVec Ideal S32x4x32x64x64 .f32)
    (K : FVec Ideal S32x32x4x64x128 .f32)
    (b : Fin 32) (h : Fin 4) (n : Fin 32) (t : Fin 64) (d : Fin 128) :
    mixT o q K logT tokT (ix5 b h n t d) = o (ix5 b h n t d)
      + (∑ e : Fin 64, q (ix5 b h n t e) * K (ix5 n b h e d)) * fromStart h t := by
  pointwise [mixT, dot_S32x4x32x64x64_S32x4x32x64x128_S32x4x32x64x128_4_3_3_4_012_012]
  rw [heads_at]
  pointwise [fromStart]
  rw [tok_at]

theorem tokens_at (o : FVec Ideal S32x4x32x64x128 .f32) (b : Fin 32) (r : Fin 2048) (h : Fin 4) (d : Fin 128) :
    tokensT o (ix4 b r h d) = o (ix5 b h ⟨r.val / 64, by omega⟩ ⟨r.val % 64, by omega⟩ d) := by
  pointwise [tokensT]

theorem mean_at (o : FVec Ideal S32x2048x4x128 .f32) (b : Fin 32) (r : Fin 2048) (h : Fin 4) :
    meanT o (ix4 b r h 0)
      = Ideal.div (∑ q : Fin 128, o (ix4 b r h q)) (Ideal.ofBits .f32 0x43000000#32) := by
  pointwise [meanT]

theorem centred_at (o : FVec Ideal S32x2048x4x128 .f32) (b : Fin 32) (r : Fin 2048) (h : Fin 4) (d : Fin 128) :
    centredT o (ix4 b r h d) = centred (fun e => o (ix4 b r h e)) d := by
  pointwise [centredT, centred]
  rw [mean_at]

theorem norm_at (o : FVec Ideal S32x2048x4x128 .f32) (b : Fin 32) (r : Fin 2048) (h : Fin 4) (d : Fin 128) :
    normT o (ix4 b r h d) = headNorm (fun e => o (ix4 b r h e)) d := by
  pointwise [normT]
  rw [mean_at]
  pointwise []
  simp only [centred_at]
  rfl

theorem result_at (o : FVec Ideal S32x2048x4x128 .f32) (ng : FVec Ideal S512 .f32)
    (z : FVec Ideal S32x2048x512 .f32) (b : Fin 32) (r : Fin 2048) (d : Fin 512) :
    resultT o ng z (ix3 b r d)
      = headNorm (fun e => o (ix4 b r ⟨d.val / 128, by omega⟩ e)) ⟨d.val % 128, by omega⟩ * ng (ix1 d)
        * (z (ix3 b r d) * Ideal.logistic (z (ix3 b r d))) := by
  pointwise [resultT, sigT]
  rw [norm_at]
  rfl

end Cert.Reference3Ideal.Ret
-- ==== Proof.RetRefKeep.lean ====
module

public import proofs.«01_k».proof.Proof.RetRefTerms

/-! # What the retention reference's operations leave alone

Buffers that a stretch of operations does not write keep their contents. -/

@[expose] public section

set_option maxRecDepth 16384

noncomputable section

namespace Cert.Reference3Ideal.Ret

open Cert.Reference3Ideal Cert.Reference3Ideal.Gen Idealize.ShloMosaic Idealize.ShloMosaic.TcCoe
  Idealize.SL.Sem Idealize.ShloMosaic.StableHlo
open Cert.Reference3Ideal.Value

/-- What the stretches before the loop write. -/
abbrev preW : List (Ref sig .tc) := hostOps0_W ++ (hostOps0_1_W ++ hostOps0_2_W)

/-- What a step of the loop writes. -/
abbrev stepW : List (Ref sig .tc) :=
  condOps_W ++ (while0Ops0_W ++ (while0Ops0_1_W ++ (while0Ops0_2_W ++ (while0Ops0_3_W ++ while0Ops0_4_W))))

variable (V : Valuation τ sig (Elt Ideal))

/-- The stretches before the loop keep what they don't write. -/
theorem pre_keeps (r : Ref sig .tc) (hr : r ∉ preW) :
    afterL preI V (Proc.devRef .tc r) = V (Proc.devRef .tc r) := by
  simp only [preW, List.mem_append, not_or] at hr
  obtain ⟨h0, h1, h2⟩ := hr
  simp only [preI, afterL_cons, afterL_nil]
  rw [after_of_writes_sub hostOps0_2 _ hostOps0_2_writes h2, after_of_writes_sub hostOps0_1 _ hostOps0_1_writes h1,
    after_of_writes_sub hostOps0 _ hostOps0_writes h0]

/-- A step of the loop keeps what it doesn't write. -/
theorem step_keeps (r : Ref sig .tc) (hr : r ∉ stepW) :
    afterL bodyI (after condOps V) (Proc.devRef .tc r) = V (Proc.devRef .tc r) := by
  simp only [stepW, List.mem_append, not_or] at hr
  obtain ⟨h0, h1, h2, h3, h4, h5⟩ := hr
  simp only [bodyI, afterL_cons, afterL_nil]
  rw [after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

/-- So does the whole loop. -/
theorem loop_keeps (W : Dev nD → Valuation τ sig (Elt Ideal)) (c : Dev nD) (r : Ref sig .tc) (hr : r ∉ stepW) (n : ℕ) :
    atTrip condOps bodyI W n c (Proc.devRef .tc r) = W c (Proc.devRef .tc r) := by
  induction n with
  | zero => rfl
  | succ n ih => rw [atTrip_succ, step_keeps _ r hr, ih]

/-- What the first operations after the loop write. -/
abbrev postW : List (Ref sig .tc) :=
  [main_v78, main_v79, main_v80, main_cst_12, main_v81, main_v82, main_v83, main_v84, main_v85,
    main_v86, main_v87, main_v88, main_v89, main_v90, main_v91, main_v92, main_v93, main_v94,
    main_cst_13, main_v95, main_v96, main_cst_14, main_v97, main_v98, main_v99, main_v100,
    main_v101, main_cst_15, main_v102, main_v103, main_cst_16, main_v104, main_v105, main_cst_17,
    main_v106, main_v107, main_v108, main_v109, main_v110, main_v111, main_v112, main_v113,
    main_v114]

/-- What the gate's operations write. -/
abbrev gateW : List (Ref sig .tc) :=
  [main_call4_v0, main_call4_v1, main_call4_cst, main_call4_v2, main_call4_v3, main_call4_cst_0,
    main_call4_v4, main_call4_v5, main_v115]

/-- What the last operations write. -/
abbrev lastW : List (Ref sig .tc) := [main_v116, main_v117]

theorem post_writes_first : (hostOps0_3 : List (HloOp τ sig (Elt Ideal))).Forall
    fun op => op.writes ⊆ (postW.map (Proc.devRef (τ := τ) .tc)).toFinset :=
  StableHlo.forall_writes_sub_of_map rfl
theorem post_writes_second : (hostOps0_4 : List (HloOp τ sig (Elt Ideal))).Forall
    fun op => op.writes ⊆ (gateW.map (Proc.devRef (τ := τ) .tc)).toFinset :=
  StableHlo.forall_writes_sub_of_map rfl
theorem post_writes_third : (hostOps0_5 : List (HloOp τ sig (Elt Ideal))).Forall
    fun op => op.writes ⊆ (lastW.map (Proc.devRef (τ := τ) .tc)).toFinset :=
  StableHlo.forall_writes_sub_of_map rfl

/-- The program keeps its arguments. -/
theorem final_keeps (m : (ℓ : Loc nD τ sig) → Buf (Elt Ideal) ℓ) (c : Dev nD) (r : Ref sig .tc)
    (hr : r ∈ ([main_arg0, main_arg1, main_arg2, main_arg3] : List (Ref sig .tc))) :
    finalContents condOps preI bodyI postI 32 m c (Proc.devRef .tc r) = m ((c.tc : Thread nD τ).loc r) := by
  have hb : r ∉ stepW ∧ r ∉ preW ∧ r ∉ condOps_W ∧ r ∉ postW ∧ r ∉ gateW ∧ r ∉ lastW := by
    revert r; decide +kernel
  obtain ⟨h1, h2, h4, h5, h6, h7⟩ := hb
  show after hostOps0_5 (after hostOps0_4 (after hostOps0_3 (after condOps (atTrip condOps bodyI (entryContents preI m) 32 c))))
    (Proc.devRef .tc r) = _
  rw [after_of_writes_sub hostOps0_5 _ post_writes_third h7, after_of_writes_sub hostOps0_4 _ post_writes_second h6,
    after_of_writes_sub hostOps0_3 _ post_writes_first h5, after_of_writes_sub condOps _ condOps_writes h4,
    loop_keeps _ c r h1]
  exact pre_keeps (launchContents m c) r h2

/-- The reference ends, keeps its arguments and leaves every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) := by
  refine (θ_run _ _ _).mono (fun r hr => ⟨fun c => ?_, sem_eq_zero_of_no_sems rfl _⟩) (run_fold m ρ)
  exact ⟨(hr c main_arg0 rfl).trans (final_keeps m c main_arg0 (by decide)),
    (hr c main_arg1 rfl).trans (final_keeps m c main_arg1 (by decide)),
    (hr c main_arg2 rfl).trans (final_keeps m c main_arg2 (by decide)),
    (hr c main_arg3 rfl).trans (final_keeps m c main_arg3 (by decide))⟩

end Cert.Reference3Ideal.Ret
-- ==== Proof.RetRefFinal.lean ====
module

public import proofs.«01_k».proof.Proof.RetRefResult
public import proofs.«01_k».proof.Proof.RetRefKeep

/-! # The retention reference computes the mixer

The reference's result at every row and column, from its arguments. -/

@[expose] public section

set_option maxRecDepth 16384

noncomputable section

namespace Cert.Reference3Ideal.Ret

open Cert.Reference3Ideal Cert.Reference3Ideal.Gen Idealize.ShloMosaic Idealize.ShloMosaic.TcCoe
  Idealize.SL.Sem Idealize.ShloMosaic.StableHlo Cert.Ret
open Cert.Reference3Ideal.Value (preI bodyI postI condOps STEP atK atK_agree cond_keeps run_fold)

section Chunk

variable (p : FVec Ideal S32x2048x1536 .f32)

/-- What a chunk's own rows give. -/
theorem own_eq (b : Fin 32) (h : Fin 4) (n : Fin 32) (t : Fin 64) (d : Fin 128) :
    ownT (queryT p) (keyT p) (valueT p) (ix5 b h n t d) = own (chunkOf p b n) h t d := by
  rw [own_at]
  refine Finset.sum_congr rfl fun s _ => ?_
  rw [score_at, value_at]
  simp only [query_at, key_at]

/-- What a chunk adds to the state. -/
theorem update_eq (b : Fin 32) (h : Fin 4) (n : Fin 32) (e : Fin 64) (d : Fin 128) :
    updateT (keyT p) (valueT p) (ix5 n b h e d) = update (chunkOf p b n) h e d := by
  rw [update_at]
  refine Finset.sum_congr rfl fun s _ => ?_
  rw [key_at, value_at]

end Chunk

variable (m : (ℓ : Loc nD τ sig) → Buf (Elt Ideal) ℓ) (c : Dev nD)

/-- The input of sequence `b`. -/
def refX (b : Fin 32) : Fin 2048 → Fin 1024 → EReal := fun r j =>
  (m ((c.tc : Thread nD τ).loc main_arg0) : FVec Ideal S32x2048x1024 .f32) (ix3 b r j)
/-- The input norm's weight. -/
def refG : Fin 1024 → EReal := fun j =>
  (m ((c.tc : Thread nD τ).loc main_arg1) : FVec Ideal S1024 .f32) (ix1 j)
/-- The projection's weight. -/
def refW : Fin 1024 → Fin 1536 → EReal := fun j n =>
  (m ((c.tc : Thread nD τ).loc main_arg2) : FVec Ideal S1024x1536 .f32) (ix2 j n)
/-- The heads' norm's weight. -/
def refNg : Fin 512 → EReal := fun e =>
  (m ((c.tc : Thread nD τ).loc main_arg3) : FVec Ideal S512 .f32) (ix1 e)

/-- The projections' array. -/
abbrev projA : FVec Ideal S32x2048x1536 .f32 := projV (launchContents m c)
/-- The contents when the loop begins. -/
abbrev entryA : Valuation τ sig (Elt Ideal) := entryContents preI m c
/-- The contents when the loop ends. -/
abbrev exitA : Valuation τ sig (Elt Ideal) := after condOps (atTrip condOps bodyI (entryContents preI m) 32 c)

/-- The chunks of the projections' array are the chunks of the input. -/
theorem chunk_eq (b n : Fin 32) : chunkOf (projA m c) b n = chunks (refX m c b) (refG m c) (refW m c) n.val := by
  funext t k
  refine (proj_at _ _ _ b _ k).trans ?_
  have e : (⟨64 * n.val + t.val, by omega⟩ : Fin 2048)
      = ⟨(64 * n.val + t.val) % 2048, Nat.mod_lt _ (by decide)⟩ := Fin.ext (by
    show 64 * n.val + t.val = (64 * n.val + t.val) % 2048; omega)
  rw [e]
  rfl

theorem entry_decay : decayV (entryA m c) = decayT := first_decay (launchContents m c)
theorem entry_update : updateV (entryA m c) = updateT (keyT (projA m c)) (valueT (projA m c)) :=
  first_update (launchContents m c)
theorem entry_state : stateV (entryA m c) = zeroT := first_state (launchContents m c)
theorem entry_count : countV (entryA m c) = fun _ => 0#32 := Value.ctr_entry m c

/-- The reference's recursion is the mixer's. -/
theorem state_eq (b : Fin 32) (h : Fin 4) (e : Fin 64) (d : Fin 128) (n : ℕ) (hn : n ≤ 32) :
    stateRec (entryA m c) b h e d n
      = state (chunks (refX m c b) (refG m c) (refW m c)) h e d n := by
  induction n with
  | zero => exact (congrFun (entry_state m c) _).trans (zero_at b h e d)
  | succ n ih =>
    have hm : (Fin.ofNat 32 n).val = n := Nat.mod_eq_of_lt (by omega)
    show decayV (entryA m c) _ * stateRec (entryA m c) b h e d n + updateV (entryA m c) _ = _
    rw [ih (by omega), entry_decay, entry_update, decay_at, update_eq, chunk_eq, hm, mul_comm]
    rfl

/-- A buffer that the loop leaves alone ends as it was when the loop began. -/
theorem exit_keeps (r : Ref sig .tc) (hr : r ∉ stepW) :
    exitA m c (Proc.devRef .tc r) = entryA m c (Proc.devRef .tc r) := by
  have hc : r ∉ Value.condOps_W := fun h => hr (List.mem_append_left _ h)
  exact (after_of_writes_sub condOps _ Value.condOps_writes hc).trans (loop_keeps _ c r hr 32)

theorem exit_own : exitA m c (Proc.devRef .tc main_v55)
    = ownT (queryT (projA m c)) (keyT (projA m c)) (valueT (projA m c)) :=
  (exit_keeps m c main_v55 (by decide +kernel)).trans (first_own (launchContents m c))
theorem exit_query : exitA m c (Proc.devRef .tc main_v30) = queryT (projA m c) :=
  (exit_keeps m c main_v30 (by decide +kernel)).trans (first_query (launchContents m c))
theorem exit_gate : exitA m c (Proc.devRef .tc main_v17) = gateT (projA m c) :=
  (exit_keeps m c main_v17 (by decide +kernel)).trans (first_gate (launchContents m c))
theorem exit_log : exitA m c (Proc.devRef .tc main_v26) = logT :=
  (exit_keeps m c main_v26 (by decide +kernel)).trans (first_log (launchContents m c))
theorem exit_tok : exitA m c (Proc.devRef .tc main_v18) = tokT :=
  (exit_keeps m c main_v18 (by decide +kernel)).trans (first_tok (launchContents m c))
theorem exit_weight : exitA m c (Proc.devRef .tc main_arg3) = m ((c.tc : Thread nD τ).loc main_arg3) :=
  (exit_keeps m c main_arg3 (by decide +kernel)).trans
    (pre_keeps (launchContents m c) main_arg3 (by decide +kernel))

/-- The states kept: before each chunk, the mixer's state. -/
theorem exit_kept (b : Fin 32) (h : Fin 4) (n : Fin 32) (e : Fin 64) (d : Fin 128) :
    keptV (exitA m c) (ix5 n b h e d)
      = state (chunks (refX m c b) (refG m c) (refW m c)) h e d n.val := by
  have e1 : keptV (exitA m c) = keptV (after_steps (entryA m c) 32) :=
    (cond_keeps _ main_v77_4 (by decide)).trans (atK_agree m c 32 main_v77_4 (by decide))
  rw [e1, steps_kept _ (entry_count m c) n b h e d 32 le_rfl n.isLt, state_eq m c b h e d n.val (by omega)]

theorem gate_at (p : FVec Ideal S32x2048x1536 .f32) (b : Fin 32) (r : Fin 2048) (d : Fin 512) :
    gateT p (ix3 b r d) = p (ix3 b r (zcol ⟨d.val / 128, by omega⟩ ⟨d.val % 128, by omega⟩)) := by
  pointwise [gateT]
  exact congrArg (fun i => p (ix3 b r i)) (Fin.ext (by
    show 1024 + d.val = 1024 + (128 * (d.val / 128) + d.val % 128); omega))

/-- The reference's result is the mixer, at every row and column. -/
theorem result_eq (b : Fin 32) (r : Fin 2048) (d : Fin 512) :
    (finalContents condOps preI bodyI postI 32 m c (Proc.devRef .tc main_v117) : FVec Ideal S32x2048x512 .bf16) (ix3 b r d)
      = mixer (refX m c b) (refG m c) (refW m c) (refNg m c) r d := by
  refine (congrFun (third_result (exitA m c)) (ix3 b r d)).trans ?_
  rw [exit_own, exit_query, exit_log, exit_tok, exit_gate, exit_weight, result_at]
  have hd : hcol ⟨d.val / 128, by omega⟩ ⟨d.val % 128, by omega⟩ = d := Fin.ext (by
    show 128 * (d.val / 128) + d.val % 128 = d.val; omega)
  have hz : gateT (projA m c) (ix3 b r d)
      = chunkOf (projA m c) b ⟨r.val / 64, by omega⟩ ⟨r.val % 64, by omega⟩
          (zcol ⟨d.val / 128, by omega⟩ ⟨d.val % 128, by omega⟩) := by
    rw [gate_at]
    exact congrArg (projA m c) (congrArg (fun i => ix3 b i _) (Fin.ext (by
      show r.val = 64 * (r.val / 64) + r.val % 64; omega)))
  have ho : ∀ e : Fin 128, tokensT (mixT
      (ownT (queryT (projA m c)) (keyT (projA m c)) (valueT (projA m c)))
      (queryT (projA m c)) (keptV (exitA m c)) logT tokT)
      (ix4 b r ⟨d.val / 128, by omega⟩ e)
      = mix (chunks (refX m c b) (refG m c) (refW m c) (r.val / 64))
        (fun e p => state (chunks (refX m c b) (refG m c) (refW m c)) ⟨d.val / 128, by omega⟩ e p (r.val / 64))
        ⟨d.val / 128, by omega⟩ ⟨r.val % 64, by omega⟩ e := fun e => by
    rw [tokens_at, mix_at, own_eq, chunk_eq]
    refine congrArg (_ + · * _) (Finset.sum_congr rfl fun q _ => ?_)
    rw [exit_kept, query_at, chunk_eq]
  rw [hz, chunk_eq]
  simp only [ho]
  show _ = result _ _ _ _ _ _
  unfold result
  rw [hd]
  rfl

end Cert.Reference3Ideal.Ret
-- ==== Proof.RetEquation.lean ====
module

public import proofs.«01_k».proof.Proof.RetArray
public import proofs.«01_k».proof.Proof.RetRefFinal

/-! # The retention's kernel and reference hold the same result -/

@[expose] public section

set_option maxRecDepth 16384

noncomputable section

namespace Cert.Ret

open Idealize.ShloMosaic Idealize.ShloMosaic.TcCoe Idealize.SL.Sem Idealize.ShloMosaic.StableHlo

/-- From the same arguments the kernel's array and the reference's array are equal. -/
theorem equation
    (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0)
      = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1)
      = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2)
      = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3)
      = m ((c.tc : Thread Cert.Kernel3Ideal.nD Cert.Kernel3Ideal.τ).loc Cert.Kernel3Ideal.main_arg3)) :
    (finalContents Cert.Reference3Ideal.Value.condOps Cert.Reference3Ideal.Value.preI Cert.Reference3Ideal.Value.bodyI
        Cert.Reference3Ideal.Value.postI 32 m' c (Proc.devRef .tc Cert.Reference3Ideal.main_v117)
        : FVec Ideal Cert.Kernel3Ideal.S32x2048x512 .bf16)
      = ((Cert.Kernel3Ideal.Gen.dats m 0 c).arrAt 8 Cert.Kernel3Ideal.cfg0.N
        : FVec Ideal Cert.Kernel3Ideal.S32x2048x512 .bf16) := by
  funext i
  rw [eq_ix3 i]
  refine (Cert.Reference3Ideal.Ret.result_eq m' c _ _ _).trans
    (Eq.trans ?_ (Cert.Kernel3Ideal.Ret.array_at m c _ _ _).symm)
  have e0 : ∀ b, Cert.Reference3Ideal.Ret.refX m' c b = Cert.Kernel3Ideal.Ret.inX m c b := fun b => by
    unfold Cert.Reference3Ideal.Ret.refX Cert.Kernel3Ideal.Ret.inX
    rw [h0]
  have e1 : Cert.Reference3Ideal.Ret.refG m' c = Cert.Kernel3Ideal.Ret.inG m c := by
    unfold Cert.Reference3Ideal.Ret.refG Cert.Kernel3Ideal.Ret.inG
    rw [h1]
  have e2 : Cert.Reference3Ideal.Ret.refW m' c = Cert.Kernel3Ideal.Ret.inW m c := by
    unfold Cert.Reference3Ideal.Ret.refW Cert.Kernel3Ideal.Ret.inW
    rw [h2]
  have e3 : Cert.Reference3Ideal.Ret.refNg m' c = Cert.Kernel3Ideal.Ret.inNg m c := by
    unfold Cert.Reference3Ideal.Ret.refNg Cert.Kernel3Ideal.Ret.inNg
    rw [h3]
  have same : ∀ (b : Fin 32) (r : Fin 2048) (d : Fin 512),
      mixer (Cert.Reference3Ideal.Ret.refX m' c b) (Cert.Reference3Ideal.Ret.refG m' c) (Cert.Reference3Ideal.Ret.refW m' c)
        (Cert.Reference3Ideal.Ret.refNg m' c) r d
      = mixer (Cert.Kernel3Ideal.Ret.inX m c b) (Cert.Kernel3Ideal.Ret.inG m c) (Cert.Kernel3Ideal.Ret.inW m c)
        (Cert.Kernel3Ideal.Ret.inNg m c) r d := fun b r d => by
    rw [e0, e1, e2, e3]
  exact same _ _ _

end Cert.Ret
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Equation
public import proofs.«01_k».proof.Proof.MergeEquation
public import proofs.«01_k».proof.Proof.RetEquation
public import Idealize.ShloMosaic.Adequacy
public import Idealize.ShloMosaic.Init

@[expose] public section

noncomputable section

namespace Cert.Proof

open Idealize.ShloMosaic Idealize.SL.Sem Cert.Kernel

/-- Kernel and reference, from the same arguments, end with the same result. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨fun c => (Cert.KernelIdeal.Gen.dats m 0 c).arrAt 5 Cert.KernelIdeal.cfg0.N,
    Cert.KernelIdeal.Value.run_blocks m g, ?_⟩
  refine (θ_run _ _ _).mono (fun r hr c => ?_) (Cert.ReferenceIdeal.Value.run_fold m' g')
  obtain ⟨h0, h1, h2, h3, h4⟩ := hargs c
  have keep := fun b hb => (hr c b (by revert b; decide)).trans (Cert.ReferenceIdeal.Hgrn.final_keeps m' c b hb)
  exact ⟨(hr c Cert.ReferenceIdeal.main_v105 rfl).trans (Cert.Hgrn.equation m m' c h0 h1 h2 h3 h4),
    keep _ (by decide), keep _ (by decide), keep _ (by decide), keep _ (by decide), keep _ (by decide)⟩

/-- Kernel and reference of the merge, from the same arguments, end with the same result. -/
theorem algebraic2 : Cert.algebraic_Kernel2Ideal_Reference2Ideal
    (hKernel2Ideal := Cert.Kernel2Ideal.Gen.facts) (hReference2Ideal := Cert.Reference2Ideal.Gen.facts) := by
  intro m g m' g' _ hargs
  refine ⟨fun c => (Cert.Kernel2Ideal.Gen.dats m 0 c).arrAt 10 Cert.Kernel2Ideal.cfg0.N,
    Cert.Kernel2Ideal.Value.run_blocks m g, ?_⟩
  refine (θ_run _ _ _).mono (fun r hr c => ?_) (Cert.Reference2Ideal.Value.run m' g')
  obtain ⟨h0, h1, h2, h3, h4, h5, h6, h7, h8, h9⟩ := hargs c
  exact ⟨(hr c).1.trans (Cert.Merge.equation m m' c h0 h1 h2 h3 h4 h5 h6 h7 h8 h9), (hr c).2⟩

/-- Kernel and reference of the retention, from the same arguments, end with the same result. -/
theorem algebraic3 : Cert.algebraic_Kernel3Ideal_Reference3Ideal
    (hKernel3Ideal := Cert.Kernel3Ideal.Gen.facts) (hReference3Ideal := Cert.Reference3Ideal.Gen.facts) := by
  intro m g m' g' _ hargs
  refine ⟨fun c => (Cert.Kernel3Ideal.Gen.dats m 0 c).arrAt 8 Cert.Kernel3Ideal.cfg0.N,
    Cert.Kernel3Ideal.Value.run_blocks m g, ?_⟩
  refine (θ_run _ _ _).mono (fun r hr c => ?_) (Cert.Reference3Ideal.Value.run_fold m' g')
  obtain ⟨h0, h1, h2, h3⟩ := hargs c
  have keep := fun b hb => (hr c b (by revert b; decide)).trans (Cert.Reference3Ideal.Ret.final_keeps m' c b hb)
  exact ⟨(hr c Cert.Reference3Ideal.main_v117 rfl).trans (Cert.Ret.equation m m' c h0 h1 h2 h3),
    keep _ (by decide), keep _ (by decide), keep _ (by decide), keep _ (by decide)⟩

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ, fun m ρ _ => Cert.KernelIdeal.Gen.frame m ρ,
  fun m ρ _ => Cert.ReferenceIdeal.Hgrn.frame m ρ,
  fun m ρ _ => Cert.Kernel2.Gen.frame m ρ, fun m ρ _ => Cert.Kernel2Ideal.Gen.frame m ρ,
  fun m ρ _ => (θ_run _ _ _).mono (fun r hr => ⟨fun c => (hr c).2, sem_eq_zero_of_no_sems rfl _⟩)
    (Cert.Reference2Ideal.Value.run m ρ),
  fun m ρ _ => Cert.Kernel3.Gen.frame m ρ, fun m ρ _ => Cert.Kernel3Ideal.Gen.frame m ρ,
  fun m ρ _ => Cert.Reference3Ideal.Ret.frame m ρ,
  trivial, algebraic, trivial, algebraic2, trivial, algebraic3⟩

end Cert.Proof

end
